-- ==== Defs.lean ====
def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradRefIdeal (m : (ℓ : Loc Cert.DgradRefIdeal.nD Cert.DgradRefIdeal.τ Cert.DgradRefIdeal.sig) → Buf (Elt Ideal) ℓ) : Prop :=
  True

def Pre_ScalesW (m : (ℓ : Loc Cert.ScalesW.nD Cert.ScalesW.τ Cert.ScalesW.sig) → Buf (Elt Bits) ℓ) : Prop :=
  True

def Pre_ScalesWIdeal (m : (ℓ : Loc Cert.ScalesWIdeal.nD Cert.ScalesWIdeal.τ Cert.ScalesWIdeal.sig) → Buf (Elt Ideal) ℓ) : Prop :=
  True

def Pre_ScalesWRefIdeal (m : (ℓ : Loc Cert.ScalesWRefIdeal.nD Cert.ScalesWRefIdeal.τ Cert.ScalesWRefIdeal.sig) → Buf (Elt Ideal) ℓ) : Prop :=
  True

def Pre_ScalesWRef (m : (ℓ : Loc Cert.ScalesWRef.nD Cert.ScalesWRef.τ Cert.ScalesWRef.sig) → Buf (Elt Bits) ℓ) : Prop :=
  True

def Pre_ScalesDy (m : (ℓ : Loc Cert.ScalesDy.nD Cert.ScalesDy.τ Cert.ScalesDy.sig) → Buf (Elt Bits) ℓ) : Prop :=
  True

def Pre_ScalesDyIdeal (m : (ℓ : Loc Cert.ScalesDyIdeal.nD Cert.ScalesDyIdeal.τ Cert.ScalesDyIdeal.sig) → Buf (Elt Ideal) ℓ) : Prop :=
  True

def Pre_ScalesDyRefIdeal (m : (ℓ : Loc Cert.ScalesDyRefIdeal.nD Cert.ScalesDyRefIdeal.τ Cert.ScalesDyRefIdeal.sig) → Buf (Elt Ideal) ℓ) : Prop :=
  True

def Pre_ScalesDyRef (m : (ℓ : Loc Cert.ScalesDyRef.nD Cert.ScalesDyRef.τ Cert.ScalesDyRef.sig) → Buf (Elt Bits) ℓ) : Prop :=
  True

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1))
      ∧ r.2.sem = fun _ => 0)

def quiescent_DgradRefIdeal [hDgradRefIdeal : Cert.DgradRefIdeal.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1))
      ∧ r.2.sem = fun _ => 0)

def quiescent_ScalesW [hScalesW : Cert.ScalesW.Facts] : Prop :=
  ∀ (m : (ℓ : Loc Cert.ScalesW.nD Cert.ScalesW.τ Cert.ScalesW.sig) → Buf (Elt Bits) ℓ) (g : Dev Cert.ScalesW.nD → PrngReg), Pre_ScalesW m →
    θ_run (Cert.ScalesW.defs (F := Bits)) (onTc (τ := Cert.ScalesW.τ) (Cert.ScalesW.main (F := Bits))) ⟨m, fun _ => 0, g⟩ (fun r => (∀ c : Dev Cert.ScalesW.nD,
      r.2.mem ((c.tc : Thread Cert.ScalesW.nD Cert.ScalesW.τ).loc Cert.ScalesW.main_arg0) = m ((c.tc : Thread Cert.ScalesW.nD Cert.ScalesW.τ).loc Cert.ScalesW.main_arg0))
      ∧ r.2.sem = fun _ => 0)

def quiescent_ScalesWIdeal [hScalesWIdeal : Cert.ScalesWIdeal.Facts] : Prop :=
  ∀ (m : (ℓ : Loc Cert.ScalesWIdeal.nD Cert.ScalesWIdeal.τ Cert.ScalesWIdeal.sig) → Buf (Elt Ideal) ℓ) (g : Dev Cert.ScalesWIdeal.nD → PrngReg), Pre_ScalesWIdeal m →
    θ_run (Cert.ScalesWIdeal.defs (F := Ideal)) (onTc (τ := Cert.ScalesWIdeal.τ) (Cert.ScalesWIdeal.main (F := Ideal))) ⟨m, fun _ => 0, g⟩ (fun r => (∀ c : Dev Cert.ScalesWIdeal.nD,
      r.2.mem ((c.tc : Thread Cert.ScalesWIdeal.nD Cert.ScalesWIdeal.τ).loc Cert.ScalesWIdeal.main_arg0) = m ((c.tc : Thread Cert.ScalesWIdeal.nD Cert.ScalesWIdeal.τ).loc Cert.ScalesWIdeal.main_arg0))
      ∧ r.2.sem = fun _ => 0)

def quiescent_ScalesWRefIdeal [hScalesWRefIdeal : Cert.ScalesWRefIdeal.Facts] : Prop :=
  ∀ (m : (ℓ : Loc Cert.ScalesWRefIdeal.nD Cert.ScalesWRefIdeal.τ Cert.ScalesWRefIdeal.sig) → Buf (Elt Ideal) ℓ) (g : Dev Cert.ScalesWRefIdeal.nD → PrngReg), Pre_ScalesWRefIdeal m →
    θ_run (Cert.ScalesWRefIdeal.defs (F := Ideal)) (onTc (τ := Cert.ScalesWRefIdeal.τ) (Cert.ScalesWRefIdeal.main (F := Ideal))) ⟨m, fun _ => 0, g⟩ (fun r => (∀ c : Dev Cert.ScalesWRefIdeal.nD,
      r.2.mem ((c.tc : Thread Cert.ScalesWRefIdeal.nD Cert.ScalesWRefIdeal.τ).loc Cert.ScalesWRefIdeal.main_arg0) = m ((c.tc : Thread Cert.ScalesWRefIdeal.nD Cert.ScalesWRefIdeal.τ).loc Cert.ScalesWRefIdeal.main_arg0))
      ∧ r.2.sem = fun _ => 0)

def quiescent_ScalesWRef [hScalesWRef : Cert.ScalesWRef.Facts] : Prop :=
  ∀ (m : (ℓ : Loc Cert.ScalesWRef.nD Cert.ScalesWRef.τ Cert.ScalesWRef.sig) → Buf (Elt Bits) ℓ) (g : Dev Cert.ScalesWRef.nD → PrngReg), Pre_ScalesWRef m →
    θ_run (Cert.ScalesWRef.defs (F := Bits)) (onTc (τ := Cert.ScalesWRef.τ) (Cert.ScalesWRef.main (F := Bits))) ⟨m, fun _ => 0, g⟩ (fun r => (∀ c : Dev Cert.ScalesWRef.nD,
      r.2.mem ((c.tc : Thread Cert.ScalesWRef.nD Cert.ScalesWRef.τ).loc Cert.ScalesWRef.main_arg0) = m ((c.tc : Thread Cert.ScalesWRef.nD Cert.ScalesWRef.τ).loc Cert.ScalesWRef.main_arg0))
      ∧ r.2.sem = fun _ => 0)

def quiescent_ScalesDy [hScalesDy : Cert.ScalesDy.Facts] : Prop :=
  ∀ (m : (ℓ : Loc Cert.ScalesDy.nD Cert.ScalesDy.τ Cert.ScalesDy.sig) → Buf (Elt Bits) ℓ) (g : Dev Cert.ScalesDy.nD → PrngReg), Pre_ScalesDy m →
    θ_run (Cert.ScalesDy.defs (F := Bits)) (onTc (τ := Cert.ScalesDy.τ) (Cert.ScalesDy.main (F := Bits))) ⟨m, fun _ => 0, g⟩ (fun r => (∀ c : Dev Cert.ScalesDy.nD,
      r.2.mem ((c.tc : Thread Cert.ScalesDy.nD Cert.ScalesDy.τ).loc Cert.ScalesDy.main_arg0) = m ((c.tc : Thread Cert.ScalesDy.nD Cert.ScalesDy.τ).loc Cert.ScalesDy.main_arg0))
      ∧ r.2.sem = fun _ => 0)

def quiescent_ScalesDyIdeal [hScalesDyIdeal : Cert.ScalesDyIdeal.Facts] : Prop :=
  ∀ (m : (ℓ : Loc Cert.ScalesDyIdeal.nD Cert.ScalesDyIdeal.τ Cert.ScalesDyIdeal.sig) → Buf (Elt Ideal) ℓ) (g : Dev Cert.ScalesDyIdeal.nD → PrngReg), Pre_ScalesDyIdeal m →
    θ_run (Cert.ScalesDyIdeal.defs (F := Ideal)) (onTc (τ := Cert.ScalesDyIdeal.τ) (Cert.ScalesDyIdeal.main (F := Ideal))) ⟨m, fun _ => 0, g⟩ (fun r => (∀ c : Dev Cert.ScalesDyIdeal.nD,
      r.2.mem ((c.tc : Thread Cert.ScalesDyIdeal.nD Cert.ScalesDyIdeal.τ).loc Cert.ScalesDyIdeal.main_arg0) = m ((c.tc : Thread Cert.ScalesDyIdeal.nD Cert.ScalesDyIdeal.τ).loc Cert.ScalesDyIdeal.main_arg0))
      ∧ r.2.sem = fun _ => 0)

def quiescent_ScalesDyRefIdeal [hScalesDyRefIdeal : Cert.ScalesDyRefIdeal.Facts] : Prop :=
  ∀ (m : (ℓ : Loc Cert.ScalesDyRefIdeal.nD Cert.ScalesDyRefIdeal.τ Cert.ScalesDyRefIdeal.sig) → Buf (Elt Ideal) ℓ) (g : Dev Cert.ScalesDyRefIdeal.nD → PrngReg), Pre_ScalesDyRefIdeal m →
    θ_run (Cert.ScalesDyRefIdeal.defs (F := Ideal)) (onTc (τ := Cert.ScalesDyRefIdeal.τ) (Cert.ScalesDyRefIdeal.main (F := Ideal))) ⟨m, fun _ => 0, g⟩ (fun r => (∀ c : Dev Cert.ScalesDyRefIdeal.nD,
      r.2.mem ((c.tc : Thread Cert.ScalesDyRefIdeal.nD Cert.ScalesDyRefIdeal.τ).loc Cert.ScalesDyRefIdeal.main_arg0) = m ((c.tc : Thread Cert.ScalesDyRefIdeal.nD Cert.ScalesDyRefIdeal.τ).loc Cert.ScalesDyRefIdeal.main_arg0))
      ∧ r.2.sem = fun _ => 0)

def quiescent_ScalesDyRef [hScalesDyRef : Cert.ScalesDyRef.Facts] : Prop :=
  ∀ (m : (ℓ : Loc Cert.ScalesDyRef.nD Cert.ScalesDyRef.τ Cert.ScalesDyRef.sig) → Buf (Elt Bits) ℓ) (g : Dev Cert.ScalesDyRef.nD → PrngReg), Pre_ScalesDyRef m →
    θ_run (Cert.ScalesDyRef.defs (F := Bits)) (onTc (τ := Cert.ScalesDyRef.τ) (Cert.ScalesDyRef.main (F := Bits))) ⟨m, fun _ => 0, g⟩ (fun r => (∀ c : Dev Cert.ScalesDyRef.nD,
      r.2.mem ((c.tc : Thread Cert.ScalesDyRef.nD Cert.ScalesDyRef.τ).loc Cert.ScalesDyRef.main_arg0) = m ((c.tc : Thread Cert.ScalesDyRef.nD Cert.ScalesDyRef.τ).loc Cert.ScalesDyRef.main_arg0))
      ∧ r.2.sem = fun _ => 0)

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v3)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v3) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v0) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Dgrad_DgradIdeal : Prop :=
  IdealRules.bf16_pair.BufferStatement Cert.DgradIdeal.S960x2x128 Cert.DgradIdeal.S960x1x128
  ∧ IdealRules.bf16_pair.Statement Cert.DgradIdeal.S1920x128 Cert.DgradIdeal.S960x128
  ∧ IdealRules.bf16_pair.Statement Cert.DgradIdeal.S960x2x128 Cert.DgradIdeal.S960x1x128
  ∧ IdealRules.bf16_pair.Statement Cert.DgradIdeal.S480x2x128 Cert.DgradIdeal.S480x1x128

def algebraic_DgradIdeal_DgradRefIdeal [hDgradIdeal : Cert.DgradIdeal.Facts] [hDgradRefIdeal : Cert.DgradRefIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradRefIdeal.nD Cert.DgradRefIdeal.τ Cert.DgradRefIdeal.sig) → Buf (Elt Ideal) ℓ) (g' : Dev Cert.DgradRefIdeal.nD → PrngReg), Pre_DgradIdeal m →
    (∀ c : Dev Cert.DgradIdeal.nD,
      m' ((c.tc : Thread Cert.DgradRefIdeal.nD Cert.DgradRefIdeal.τ).loc Cert.DgradRefIdeal.main_arg0) = m ((c.tc : Thread Cert.DgradIdeal.nD Cert.DgradIdeal.τ).loc Cert.DgradIdeal.main_arg0)
      ∧ m' ((c.tc : Thread Cert.DgradRefIdeal.nD Cert.DgradRefIdeal.τ).loc Cert.DgradRefIdeal.main_arg1) = m ((c.tc : Thread Cert.DgradIdeal.nD Cert.DgradIdeal.τ).loc Cert.DgradIdeal.main_arg1)) →
    ∃ (v0 : (c : Dev Cert.DgradIdeal.nD) → Buf (Elt Ideal) ((c.tc : Thread Cert.DgradIdeal.nD Cert.DgradIdeal.τ).loc Cert.DgradIdeal.main_v19)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v19) = v0 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1))
      ∧ θ_run (Cert.DgradRefIdeal.defs (F := Ideal)) (onTc (τ := Cert.DgradRefIdeal.τ) (Cert.DgradRefIdeal.main (F := Ideal))) ⟨m', fun _ => 0, g'⟩ (fun r => ∀ c : Dev Cert.DgradRefIdeal.nD,
          r.2.mem ((c.tc : Thread Cert.DgradRefIdeal.nD Cert.DgradRefIdeal.τ).loc Cert.DgradRefIdeal.main_v1) = v0 c
          ∧ r.2.mem ((c.tc : Thread Cert.DgradRefIdeal.nD Cert.DgradRefIdeal.τ).loc Cert.DgradRefIdeal.main_arg0) = m' ((c.tc : Thread Cert.DgradRefIdeal.nD Cert.DgradRefIdeal.τ).loc Cert.DgradRefIdeal.main_arg0)
          ∧ r.2.mem ((c.tc : Thread Cert.DgradRefIdeal.nD Cert.DgradRefIdeal.τ).loc Cert.DgradRefIdeal.main_arg1) = m' ((c.tc : Thread Cert.DgradRefIdeal.nD Cert.DgradRefIdeal.τ).loc Cert.DgradRefIdeal.main_arg1))

def preserves_ScalesW_ScalesWIdeal : Prop :=
  True

def algebraic_ScalesWIdeal_ScalesWRefIdeal [hScalesWIdeal : Cert.ScalesWIdeal.Facts] [hScalesWRefIdeal : Cert.ScalesWRefIdeal.Facts] : Prop :=
  ∀ (m : (ℓ : Loc Cert.ScalesWIdeal.nD Cert.ScalesWIdeal.τ Cert.ScalesWIdeal.sig) → Buf (Elt Ideal) ℓ) (g : Dev Cert.ScalesWIdeal.nD → PrngReg)
    (m' : (ℓ : Loc Cert.ScalesWRefIdeal.nD Cert.ScalesWRefIdeal.τ Cert.ScalesWRefIdeal.sig) → Buf (Elt Ideal) ℓ) (g' : Dev Cert.ScalesWRefIdeal.nD → PrngReg), Pre_ScalesWIdeal m →
    (∀ c : Dev Cert.ScalesWIdeal.nD,
      m' ((c.tc : Thread Cert.ScalesWRefIdeal.nD Cert.ScalesWRefIdeal.τ).loc Cert.ScalesWRefIdeal.main_arg0) = m ((c.tc : Thread Cert.ScalesWIdeal.nD Cert.ScalesWIdeal.τ).loc Cert.ScalesWIdeal.main_arg0)) →
    ∃ (v0 : (c : Dev Cert.ScalesWIdeal.nD) → Buf (Elt Ideal) ((c.tc : Thread Cert.ScalesWIdeal.nD Cert.ScalesWIdeal.τ).loc Cert.ScalesWIdeal.main_v0)),
      θ_run (Cert.ScalesWIdeal.defs (F := Ideal)) (onTc (τ := Cert.ScalesWIdeal.τ) (Cert.ScalesWIdeal.main (F := Ideal))) ⟨m, fun _ => 0, g⟩ (fun r => ∀ c : Dev Cert.ScalesWIdeal.nD,
          r.2.mem ((c.tc : Thread Cert.ScalesWIdeal.nD Cert.ScalesWIdeal.τ).loc Cert.ScalesWIdeal.main_v0) = v0 c
          ∧ r.2.mem ((c.tc : Thread Cert.ScalesWIdeal.nD Cert.ScalesWIdeal.τ).loc Cert.ScalesWIdeal.main_arg0) = m ((c.tc : Thread Cert.ScalesWIdeal.nD Cert.ScalesWIdeal.τ).loc Cert.ScalesWIdeal.main_arg0))
      ∧ θ_run (Cert.ScalesWRefIdeal.defs (F := Ideal)) (onTc (τ := Cert.ScalesWRefIdeal.τ) (Cert.ScalesWRefIdeal.main (F := Ideal))) ⟨m', fun _ => 0, g'⟩ (fun r => ∀ c : Dev Cert.ScalesWRefIdeal.nD,
          r.2.mem ((c.tc : Thread Cert.ScalesWRefIdeal.nD Cert.ScalesWRefIdeal.τ).loc Cert.ScalesWRefIdeal.main_v3) = v0 c
          ∧ r.2.mem ((c.tc : Thread Cert.ScalesWRefIdeal.nD Cert.ScalesWRefIdeal.τ).loc Cert.ScalesWRefIdeal.main_arg0) = m' ((c.tc : Thread Cert.ScalesWRefIdeal.nD Cert.ScalesWRefIdeal.τ).loc Cert.ScalesWRefIdeal.main_arg0))

def bitexact_ScalesW_ScalesWRef [hScalesW : Cert.ScalesW.Facts] [hScalesWRef : Cert.ScalesWRef.Facts] : Prop :=
  ∀ (m : (ℓ : Loc Cert.ScalesW.nD Cert.ScalesW.τ Cert.ScalesW.sig) → Buf (Elt Bits) ℓ) (g : Dev Cert.ScalesW.nD → PrngReg)
    (m' : (ℓ : Loc Cert.ScalesWRef.nD Cert.ScalesWRef.τ Cert.ScalesWRef.sig) → Buf (Elt Bits) ℓ) (g' : Dev Cert.ScalesWRef.nD → PrngReg), Pre_ScalesW m →
    (∀ c : Dev Cert.ScalesW.nD,
      m' ((c.tc : Thread Cert.ScalesWRef.nD Cert.ScalesWRef.τ).loc Cert.ScalesWRef.main_arg0) = m ((c.tc : Thread Cert.ScalesW.nD Cert.ScalesW.τ).loc Cert.ScalesW.main_arg0)) →
    ∃ (v0 : (c : Dev Cert.ScalesW.nD) → Buf (Elt Bits) ((c.tc : Thread Cert.ScalesW.nD Cert.ScalesW.τ).loc Cert.ScalesW.main_v0)),
      θ_run (Cert.ScalesW.defs (F := Bits)) (onTc (τ := Cert.ScalesW.τ) (Cert.ScalesW.main (F := Bits))) ⟨m, fun _ => 0, g⟩ (fun r => ∀ c : Dev Cert.ScalesW.nD,
          r.2.mem ((c.tc : Thread Cert.ScalesW.nD Cert.ScalesW.τ).loc Cert.ScalesW.main_v0) = v0 c
          ∧ r.2.mem ((c.tc : Thread Cert.ScalesW.nD Cert.ScalesW.τ).loc Cert.ScalesW.main_arg0) = m ((c.tc : Thread Cert.ScalesW.nD Cert.ScalesW.τ).loc Cert.ScalesW.main_arg0))
      ∧ θ_run (Cert.ScalesWRef.defs (F := Bits)) (onTc (τ := Cert.ScalesWRef.τ) (Cert.ScalesWRef.main (F := Bits))) ⟨m', fun _ => 0, g'⟩ (fun r => ∀ c : Dev Cert.ScalesWRef.nD,
          r.2.mem ((c.tc : Thread Cert.ScalesWRef.nD Cert.ScalesWRef.τ).loc Cert.ScalesWRef.main_v3) = v0 c
          ∧ r.2.mem ((c.tc : Thread Cert.ScalesWRef.nD Cert.ScalesWRef.τ).loc Cert.ScalesWRef.main_arg0) = m' ((c.tc : Thread Cert.ScalesWRef.nD Cert.ScalesWRef.τ).loc Cert.ScalesWRef.main_arg0))

def preserves_ScalesDy_ScalesDyIdeal : Prop :=
  True

def algebraic_ScalesDyIdeal_ScalesDyRefIdeal [hScalesDyIdeal : Cert.ScalesDyIdeal.Facts] [hScalesDyRefIdeal : Cert.ScalesDyRefIdeal.Facts] : Prop :=
  ∀ (m : (ℓ : Loc Cert.ScalesDyIdeal.nD Cert.ScalesDyIdeal.τ Cert.ScalesDyIdeal.sig) → Buf (Elt Ideal) ℓ) (g : Dev Cert.ScalesDyIdeal.nD → PrngReg)
    (m' : (ℓ : Loc Cert.ScalesDyRefIdeal.nD Cert.ScalesDyRefIdeal.τ Cert.ScalesDyRefIdeal.sig) → Buf (Elt Ideal) ℓ) (g' : Dev Cert.ScalesDyRefIdeal.nD → PrngReg), Pre_ScalesDyIdeal m →
    (∀ c : Dev Cert.ScalesDyIdeal.nD,
      m' ((c.tc : Thread Cert.ScalesDyRefIdeal.nD Cert.ScalesDyRefIdeal.τ).loc Cert.ScalesDyRefIdeal.main_arg0) = m ((c.tc : Thread Cert.ScalesDyIdeal.nD Cert.ScalesDyIdeal.τ).loc Cert.ScalesDyIdeal.main_arg0)) →
    ∃ (v0 : (c : Dev Cert.ScalesDyIdeal.nD) → Buf (Elt Ideal) ((c.tc : Thread Cert.ScalesDyIdeal.nD Cert.ScalesDyIdeal.τ).loc Cert.ScalesDyIdeal.main_v0)),
      θ_run (Cert.ScalesDyIdeal.defs (F := Ideal)) (onTc (τ := Cert.ScalesDyIdeal.τ) (Cert.ScalesDyIdeal.main (F := Ideal))) ⟨m, fun _ => 0, g⟩ (fun r => ∀ c : Dev Cert.ScalesDyIdeal.nD,
          r.2.mem ((c.tc : Thread Cert.ScalesDyIdeal.nD Cert.ScalesDyIdeal.τ).loc Cert.ScalesDyIdeal.main_v0) = v0 c
          ∧ r.2.mem ((c.tc : Thread Cert.ScalesDyIdeal.nD Cert.ScalesDyIdeal.τ).loc Cert.ScalesDyIdeal.main_arg0) = m ((c.tc : Thread Cert.ScalesDyIdeal.nD Cert.ScalesDyIdeal.τ).loc Cert.ScalesDyIdeal.main_arg0))
      ∧ θ_run (Cert.ScalesDyRefIdeal.defs (F := Ideal)) (onTc (τ := Cert.ScalesDyRefIdeal.τ) (Cert.ScalesDyRefIdeal.main (F := Ideal))) ⟨m', fun _ => 0, g'⟩ (fun r => ∀ c : Dev Cert.ScalesDyRefIdeal.nD,
          r.2.mem ((c.tc : Thread Cert.ScalesDyRefIdeal.nD Cert.ScalesDyRefIdeal.τ).loc Cert.ScalesDyRefIdeal.main_v4) = v0 c
          ∧ r.2.mem ((c.tc : Thread Cert.ScalesDyRefIdeal.nD Cert.ScalesDyRefIdeal.τ).loc Cert.ScalesDyRefIdeal.main_arg0) = m' ((c.tc : Thread Cert.ScalesDyRefIdeal.nD Cert.ScalesDyRefIdeal.τ).loc Cert.ScalesDyRefIdeal.main_arg0))

def bitexact_ScalesDy_ScalesDyRef [hScalesDy : Cert.ScalesDy.Facts] [hScalesDyRef : Cert.ScalesDyRef.Facts] : Prop :=
  ∀ (m : (ℓ : Loc Cert.ScalesDy.nD Cert.ScalesDy.τ Cert.ScalesDy.sig) → Buf (Elt Bits) ℓ) (g : Dev Cert.ScalesDy.nD → PrngReg)
    (m' : (ℓ : Loc Cert.ScalesDyRef.nD Cert.ScalesDyRef.τ Cert.ScalesDyRef.sig) → Buf (Elt Bits) ℓ) (g' : Dev Cert.ScalesDyRef.nD → PrngReg), Pre_ScalesDy m →
    (∀ c : Dev Cert.ScalesDy.nD,
      m' ((c.tc : Thread Cert.ScalesDyRef.nD Cert.ScalesDyRef.τ).loc Cert.ScalesDyRef.main_arg0) = m ((c.tc : Thread Cert.ScalesDy.nD Cert.ScalesDy.τ).loc Cert.ScalesDy.main_arg0)) →
    ∃ (v0 : (c : Dev Cert.ScalesDy.nD) → Buf (Elt Bits) ((c.tc : Thread Cert.ScalesDy.nD Cert.ScalesDy.τ).loc Cert.ScalesDy.main_v0)),
      θ_run (Cert.ScalesDy.defs (F := Bits)) (onTc (τ := Cert.ScalesDy.τ) (Cert.ScalesDy.main (F := Bits))) ⟨m, fun _ => 0, g⟩ (fun r => ∀ c : Dev Cert.ScalesDy.nD,
          r.2.mem ((c.tc : Thread Cert.ScalesDy.nD Cert.ScalesDy.τ).loc Cert.ScalesDy.main_v0) = v0 c
          ∧ r.2.mem ((c.tc : Thread Cert.ScalesDy.nD Cert.ScalesDy.τ).loc Cert.ScalesDy.main_arg0) = m ((c.tc : Thread Cert.ScalesDy.nD Cert.ScalesDy.τ).loc Cert.ScalesDy.main_arg0))
      ∧ θ_run (Cert.ScalesDyRef.defs (F := Bits)) (onTc (τ := Cert.ScalesDyRef.τ) (Cert.ScalesDyRef.main (F := Bits))) ⟨m', fun _ => 0, g'⟩ (fun r => ∀ c : Dev Cert.ScalesDyRef.nD,
          r.2.mem ((c.tc : Thread Cert.ScalesDyRef.nD Cert.ScalesDyRef.τ).loc Cert.ScalesDyRef.main_v4) = v0 c
          ∧ r.2.mem ((c.tc : Thread Cert.ScalesDyRef.nD Cert.ScalesDyRef.τ).loc Cert.ScalesDyRef.main_arg0) = m' ((c.tc : Thread Cert.ScalesDyRef.nD Cert.ScalesDyRef.τ).loc Cert.ScalesDyRef.main_arg0))

def Claim : Prop :=
  ∃ (hWgrad : Cert.Wgrad.Facts) (hWgradIdeal : Cert.WgradIdeal.Facts) (hWgradRefIdeal : Cert.WgradRefIdeal.Facts) (hDgrad : Cert.Dgrad.Facts) (hDgradIdeal : Cert.DgradIdeal.Facts) (hDgradRefIdeal : Cert.DgradRefIdeal.Facts) (hScalesW : Cert.ScalesW.Facts) (hScalesWIdeal : Cert.ScalesWIdeal.Facts) (hScalesWRefIdeal : Cert.ScalesWRefIdeal.Facts) (hScalesWRef : Cert.ScalesWRef.Facts) (hScalesDy : Cert.ScalesDy.Facts) (hScalesDyIdeal : Cert.ScalesDyIdeal.Facts) (hScalesDyRefIdeal : Cert.ScalesDyRefIdeal.Facts) (hScalesDyRef : Cert.ScalesDyRef.Facts),
    quiescent_Wgrad (hWgrad := hWgrad)
    ∧ quiescent_WgradIdeal (hWgradIdeal := hWgradIdeal)
    ∧ quiescent_WgradRefIdeal (hWgradRefIdeal := hWgradRefIdeal)
    ∧ quiescent_Dgrad (hDgrad := hDgrad)
    ∧ quiescent_DgradIdeal (hDgradIdeal := hDgradIdeal)
    ∧ quiescent_DgradRefIdeal (hDgradRefIdeal := hDgradRefIdeal)
    ∧ quiescent_ScalesW (hScalesW := hScalesW)
    ∧ quiescent_ScalesWIdeal (hScalesWIdeal := hScalesWIdeal)
    ∧ quiescent_ScalesWRefIdeal (hScalesWRefIdeal := hScalesWRefIdeal)
    ∧ quiescent_ScalesWRef (hScalesWRef := hScalesWRef)
    ∧ quiescent_ScalesDy (hScalesDy := hScalesDy)
    ∧ quiescent_ScalesDyIdeal (hScalesDyIdeal := hScalesDyIdeal)
    ∧ quiescent_ScalesDyRefIdeal (hScalesDyRefIdeal := hScalesDyRefIdeal)
    ∧ quiescent_ScalesDyRef (hScalesDyRef := hScalesDyRef)
    ∧ preserves_Wgrad_WgradIdeal
    ∧ algebraic_WgradIdeal_WgradRefIdeal (hWgradIdeal := hWgradIdeal) (hWgradRefIdeal := hWgradRefIdeal)
    ∧ preserves_Dgrad_DgradIdeal
    ∧ algebraic_DgradIdeal_DgradRefIdeal (hDgradIdeal := hDgradIdeal) (hDgradRefIdeal := hDgradRefIdeal)
    ∧ preserves_ScalesW_ScalesWIdeal
    ∧ algebraic_ScalesWIdeal_ScalesWRefIdeal (hScalesWIdeal := hScalesWIdeal) (hScalesWRefIdeal := hScalesWRefIdeal)
    ∧ bitexact_ScalesW_ScalesWRef (hScalesW := hScalesW) (hScalesWRef := hScalesWRef)
    ∧ preserves_ScalesDy_ScalesDyIdeal
    ∧ algebraic_ScalesDyIdeal_ScalesDyRefIdeal (hScalesDyIdeal := hScalesDyIdeal) (hScalesDyRefIdeal := hScalesDyRefIdeal)
    ∧ bitexact_ScalesDy_ScalesDyRef (hScalesDy := hScalesDy) (hScalesDyRef := hScalesDyRef)
-- ==== Wgrad.lean ====
abbrev S1920x3584 : Shape := ⟨2, ![1920, 3584]⟩
abbrev S1920x18944 : Shape := ⟨2, ![1920, 18944]⟩
abbrev S_ : Shape := ⟨0, ![]⟩
abbrev S2048x3584 : Shape := ⟨2, ![2048, 3584]⟩
abbrev S3584x2048 : Shape := ⟨2, ![3584, 2048]⟩
abbrev S2048x18944 : Shape := ⟨2, ![2048, 18944]⟩
abbrev S3584x18944 : Shape := ⟨2, ![3584, 18944]⟩
abbrev S512x128 : Shape := ⟨2, ![512, 128]⟩
abbrev S896x512 : Shape := ⟨2, ![896, 512]⟩
abbrev S16x128x512 : Shape := ⟨3, ![16, 128, 512]⟩
abbrev S2048x512 : Shape := ⟨2, ![2048, 512]⟩
abbrev S896x2048 : Shape := ⟨2, ![896, 2048]⟩
abbrev S128x128 : Shape := ⟨2, ![128, 128]⟩
abbrev S1x128x128 : Shape := ⟨3, ![1, 128, 128]⟩

abbrev nBuf : Space → Nat
  | .hbm => 10
  | .vmem => 13
  | .smem => 0
  | _ => 0

abbrev bufTy : (tb : Table) → Fin (tcTables nBuf tb) → BufTy
  | .hbm, ⟨0, _⟩ => ⟨S1920x3584, .bf16⟩
  | .hbm, ⟨1, _⟩ => ⟨S1920x18944, .bf16⟩
  | .hbm, ⟨2, _⟩ => ⟨S_, .i32⟩
  | .hbm, ⟨3, _⟩ => ⟨S_, .bf16⟩
  | .hbm, ⟨4, _⟩ => ⟨S2048x3584, .bf16⟩
  | .hbm, ⟨5, _⟩ => ⟨S3584x2048, .bf16⟩
  | .hbm, ⟨6, _⟩ => ⟨S_, .i32⟩
  | .hbm, ⟨7, _⟩ => ⟨S_, .bf16⟩
  | .hbm, ⟨8, _⟩ => ⟨S2048x18944, .bf16⟩
  | .hbm, ⟨9, _⟩ => ⟨S3584x18944, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S3584x2048, .bf16⟩
  | .local _ .vmem, ⟨9, _⟩ => ⟨S896x512, .f32⟩
  | .local _ .vmem, ⟨10, _⟩ => ⟨S896x512, .f32⟩
  | .local _ .vmem, ⟨11, _⟩ => ⟨S16x128x512, .bf16⟩
  | .local _ .vmem, ⟨12, _⟩ => ⟨S16x128x512, .bf16⟩
  | _, _ => ⟨S1920x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![152], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi v16 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_15 : BitVec 32 := 0#32
  let v37 : BitVec 1 := Scalar.cmpi .eq v36 c0_i32_15
  let c0_i32_16 : BitVec 32 := 0#32
  let v38 : BitVec 1 := Scalar.cmpi .sgt v16 c0_i32_16
  let v39 : BitVec 1 := Scalar.andi v37 v38
  let c37_i32 : BitVec 32 := 37#32
  let v40 : BitVec 1 := Scalar.cmpi .slt v16 c37_i32
  let v41 : BitVec 1 := Scalar.andi v39 v40
  let v42 : BitVec 32 := Scalar.extui v41
  let c0_i32_17 : BitVec 32 := 0#32
  let v43 : BitVec 1 := Scalar.cmpi .ne v42 c0_i32_17
  v43

def k0_mult1 (i : grid0.Coords) : BitVec 32 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c896_i32 : BitVec 32 := 896#32
  let v69 : BitVec 32 := Scalar.muli v26 c896_i32
  v69
def k0_off1 (i : grid0.Coords) : Fin 2 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c896_i32 : BitVec 32 := 896#32
  let v69 : BitVec 32 := Scalar.muli v26 c896_i32
  let v70 : BitVec 32 := v69
  let v71 : Index := Scalar.indexCast v70
  let c0_34 : Index := 0#32
  ![v71.toNat, 0]
def k0_off2 (i : grid0.Coords) (c0_i32_40 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_39 : BitVec 32 := 4#32
  let v78 : BitVec 32 := Scalar.muli v26 c4_i32_39
  let v79 : BitVec 32 := Scalar.addi v78 c0_i32_40
  let v80 : Index := Scalar.indexCast v79
  let c0_41 : Index := 0#32
  let c0_42 : Index := 0#32
  ![v80.toNat, 0, 0]
def k0_off3 (i : grid0.Coords) (c0_i32_46 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_45 : BitVec 32 := 4#32
  let v86 : BitVec 32 := Scalar.muli v26 c4_i32_45
  let v87 : BitVec 32 := Scalar.addi v86 c0_i32_46
  let v88 : Index := Scalar.indexCast v87
  let c0_47 : Index := 0#32
  let c128 : Index := 128#32
  ![v88.toNat, 0, 128]
def k0_off4 (i : grid0.Coords) (c0_i32_51 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_50 : BitVec 32 := 4#32
  let v94 : BitVec 32 := Scalar.muli v26 c4_i32_50
  let v95 : BitVec 32 := Scalar.addi v94 c0_i32_51
  let v96 : Index := Scalar.indexCast v95
  let c0_52 : Index := 0#32
  let c256 : Index := 256#32
  ![v96.toNat, 0, 256]
def k0_off5 (i : grid0.Coords) (c0_i32_56 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_55 : BitVec 32 := 4#32
  let v102 : BitVec 32 := Scalar.muli v26 c4_i32_55
  let v103 : BitVec 32 := Scalar.addi v102 c0_i32_56
  let v104 : Index := Scalar.indexCast v103
  let c0_57 : Index := 0#32
  let c384 : Index := 384#32
  ![v104.toNat, 0, 384]
def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2_i32_18 : BitVec 32 := 2#32
  let c0_i32_19 : BitVec 32 := 0#32
  let v44 : BitVec 1 := Scalar.cmpi .eq c2_i32_18 c0_i32_19
  let c1_i32_20 : BitVec 32 := 1#32
  let v45 : BitVec 32 := Scalar.select v44 c1_i32_20 c2_i32_18
  let v46 : BitVec 32 := Scalar.remsi v16 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c1_i32_24 : BitVec 32 := 1#32
  let v54 : BitVec 1 := Scalar.cmpi .eq v53 c1_i32_24
  let c0_i32_25 : BitVec 32 := 0#32
  let v55 : BitVec 1 := Scalar.cmpi .sgt v16 c0_i32_25
  let v56 : BitVec 1 := Scalar.andi v54 v55
  let c37_i32_26 : BitVec 32 := 37#32
  let v57 : BitVec 1 := Scalar.cmpi .slt v16 c37_i32_26
  let v58 : BitVec 1 := Scalar.andi v56 v57
  let v59 : BitVec 32 := Scalar.extui v58
  let c0_i32_27 : BitVec 32 := 0#32
  let v60 : BitVec 1 := Scalar.cmpi .ne v59 c0_i32_27
  v60

def k0_mult2 (i : grid0.Coords) : BitVec 32 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c896_i32 : BitVec 32 := 896#32
  let v69 : BitVec 32 := Scalar.muli v26 c896_i32
  v69
def k0_off6 (i : grid0.Coords) : Fin 2 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c896_i32 : BitVec 32 := 896#32
  let v69 : BitVec 32 := Scalar.muli v26 c896_i32
  let v70 : BitVec 32 := v69
  let v71 : Index := Scalar.indexCast v70
  let c0_34 : Index := 0#32
  ![v71.toNat, 0]
def k0_off7 (i : grid0.Coords) (c0_i32_40 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_39 : BitVec 32 := 4#32
  let v78 : BitVec 32 := Scalar.muli v26 c4_i32_39
  let v79 : BitVec 32 := Scalar.addi v78 c0_i32_40
  let v80 : Index := Scalar.indexCast v79
  let c0_41 : Index := 0#32
  let c0_42 : Index := 0#32
  ![v80.toNat, 0, 0]
def k0_off8 (i : grid0.Coords) (c0_i32_46 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_45 : BitVec 32 := 4#32
  let v86 : BitVec 32 := Scalar.muli v26 c4_i32_45
  let v87 : BitVec 32 := Scalar.addi v86 c0_i32_46
  let v88 : Index := Scalar.indexCast v87
  let c0_47 : Index := 0#32
  let c128 : Index := 128#32
  ![v88.toNat, 0, 128]
def k0_off9 (i : grid0.Coords) (c0_i32_51 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_50 : BitVec 32 := 4#32
  let v94 : BitVec 32 := Scalar.muli v26 c4_i32_50
  let v95 : BitVec 32 := Scalar.addi v94 c0_i32_51
  let v96 : Index := Scalar.indexCast v95
  let c0_52 : Index := 0#32
  let c256 : Index := 256#32
  ![v96.toNat, 0, 256]
def k0_off10 (i : grid0.Coords) (c0_i32_56 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_55 : BitVec 32 := 4#32
  let v102 : BitVec 32 := Scalar.muli v26 c4_i32_55
  let v103 : BitVec 32 := Scalar.addi v102 c0_i32_56
  let v104 : Index := Scalar.indexCast v103
  let c0_57 : Index := 0#32
  let c384 : Index := 384#32
  ![v104.toNat, 0, 384]
def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_28 : BitVec 32 := 0#32
  let v61 : BitVec 1 := Scalar.cmpi .eq v16 c0_i32_28
  let v62 : BitVec 32 := Scalar.extui v61
  let c0_i32_29 : BitVec 32 := 0#32
  let v63 : BitVec 1 := Scalar.cmpi .ne v62 c0_i32_29
  v63

def k0_off11 (i : grid0.Coords) (c0_i32_34 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_33 : BitVec 32 := 4#32
  let v69 : BitVec 32 := Scalar.muli v26 c4_i32_33
  let v70 : BitVec 32 := Scalar.addi v69 c0_i32_34
  let v71 : Index := Scalar.indexCast v70
  let c0_35 : Index := 0#32
  let c0_36 : Index := 0#32
  ![v71.toNat, 0, 0]
def k0_off12 (i : grid0.Coords) (c0_i32_40 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_39 : BitVec 32 := 4#32
  let v77 : BitVec 32 := Scalar.muli v26 c4_i32_39
  let v78 : BitVec 32 := Scalar.addi v77 c0_i32_40
  let v79 : Index := Scalar.indexCast v78
  let c0_41 : Index := 0#32
  let c128 : Index := 128#32
  ![v79.toNat, 0, 128]
def k0_off13 (i : grid0.Coords) (c0_i32_45 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_44 : BitVec 32 := 4#32
  let v85 : BitVec 32 := Scalar.muli v26 c4_i32_44
  let v86 : BitVec 32 := Scalar.addi v85 c0_i32_45
  let v87 : Index := Scalar.indexCast v86
  let c0_46 : Index := 0#32
  let c256 : Index := 256#32
  ![v87.toNat, 0, 256]
def k0_off14 (i : grid0.Coords) (c0_i32_50 : BitVec 32) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_49 : BitVec 32 := 4#32
  let v93 : BitVec 32 := Scalar.muli v26 c4_i32_49
  let v94 : BitVec 32 := Scalar.addi v93 c0_i32_50
  let v95 : Index := Scalar.indexCast v94
  let c0_51 : Index := 0#32
  let c384 : Index := 384#32
  ![v95.toNat, 0, 384]
def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c37_i32_30 : BitVec 32 := 37#32
  let v64 : BitVec 1 := Scalar.cmpi .eq v16 c37_i32_30
  let v65 : BitVec 32 := Scalar.extui v64
  let c0_i32_31 : BitVec 32 := 0#32
  let v66 : BitVec 1 := Scalar.cmpi .ne v65 c0_i32_31
  v66

def k0_mult3 (i : grid0.Coords) : BitVec 32 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c896_i32 : BitVec 32 := 896#32
  let v69 : BitVec 32 := Scalar.muli v26 c896_i32
  v69
def k0_off15 (i : grid0.Coords) : Fin 2 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c896_i32 : BitVec 32 := 896#32
  let v69 : BitVec 32 := Scalar.muli v26 c896_i32
  let v70 : BitVec 32 := v69
  let v71 : Index := Scalar.indexCast v70
  let c0_34 : Index := 0#32
  ![v71.toNat, 0]
def cc0_transform_0 (i : grid0.Coords) : Fin 2 → Nat :=
  let arg0 : BitVec 32 := BitVec.ofNat 32 (i 0).val
  let c147_i32 : BitVec 32 := 147#32
  let v0 : BitVec 32 := Scalar.minsi arg0 c147_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c147_i32_3 : BitVec 32 := 147#32
  let v11 : BitVec 32 := Scalar.minsi arg0 c147_i32_3
  let c4_i32_4 : BitVec 32 := 4#32
  let v12 : BitVec 32 := Scalar.divsi v11 c4_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v11 c4_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 32 := Scalar.muli c4_i32_11 v28
  let c0_i32_12 : BitVec 32 := 0#32
  let v30 : BitVec 32 := Scalar.addi v29 c0_i32_12
  let c0_i32_13 : BitVec 32 := 0#32
  ![v10.toNat, v30.toNat]

def cc0_transform_1 (i : grid0.Coords) : Fin 2 → Nat :=
  let arg0 : BitVec 32 := BitVec.ofNat 32 (i 0).val
  let c147_i32 : BitVec 32 := 147#32
  let v0 : BitVec 32 := Scalar.minsi arg0 c147_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c147_i32_3 : BitVec 32 := 147#32
  let v11 : BitVec 32 := Scalar.minsi arg0 c147_i32_3
  let c4_i32_4 : BitVec 32 := 4#32
  let v12 : BitVec 32 := Scalar.divsi v11 c4_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v11 c4_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 32 := Scalar.muli c4_i32_11 v28
  let c1_i32_12 : BitVec 32 := 1#32
  let v30 : BitVec 32 := Scalar.addi v29 c1_i32_12
  let c0_i32_13 : BitVec 32 := 0#32
  ![v10.toNat, v30.toNat]

def cc0_transform_2 (i : grid0.Coords) : Fin 2 → Nat :=
  let arg0 : BitVec 32 := BitVec.ofNat 32 (i 0).val
  let c147_i32 : BitVec 32 := 147#32
  let v0 : BitVec 32 := Scalar.minsi arg0 c147_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c147_i32_3 : BitVec 32 := 147#32
  let v11 : BitVec 32 := Scalar.minsi arg0 c147_i32_3
  let c4_i32_4 : BitVec 32 := 4#32
  let v12 : BitVec 32 := Scalar.divsi v11 c4_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v11 c4_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 32 := Scalar.muli c4_i32_11 v28
  let c2_i32 : BitVec 32 := 2#32
  let v30 : BitVec 32 := Scalar.addi v29 c2_i32
  let c0_i32_12 : BitVec 32 := 0#32
  ![v10.toNat, v30.toNat]

def cc0_transform_3 (i : grid0.Coords) : Fin 2 → Nat :=
  let arg0 : BitVec 32 := BitVec.ofNat 32 (i 0).val
  let c147_i32 : BitVec 32 := 147#32
  let v0 : BitVec 32 := Scalar.minsi arg0 c147_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c147_i32_3 : BitVec 32 := 147#32
  let v11 : BitVec 32 := Scalar.minsi arg0 c147_i32_3
  let c4_i32_4 : BitVec 32 := 4#32
  let v12 : BitVec 32 := Scalar.divsi v11 c4_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v11 c4_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 32 := Scalar.muli c4_i32_11 v28
  let c3_i32 : BitVec 32 := 3#32
  let v30 : BitVec 32 := Scalar.addi v29 c3_i32
  let c0_i32_12 : BitVec 32 := 0#32
  ![v10.toNat, v30.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 c0_i32_11 v27
  let c1_i32_12 : BitVec 32 := 1#32
  let v29 : BitVec 32 := Scalar.subi v16 c1_i32_12
  let c0_i32_13 : BitVec 32 := 0#32
  let v30 : BitVec 32 := Scalar.maxsi v29 c0_i32_13
  let c0_i32_14 : BitVec 32 := 0#32
  ![v28.toNat, v30.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3584x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S896x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WgradRefIdeal.lean ====
abbrev S1920x3584 : Shape := ⟨2, ![1920, 3584]⟩
abbrev S1920x18944 : Shape := ⟨2, ![1920, 18944]⟩
abbrev S3584x18944 : Shape := ⟨2, ![3584, 18944]⟩

abbrev nBuf : Space → Nat
  | .hbm => 3
  | .vmem => 0
  | .smem => 0
  | _ => 0

abbrev bufTy : (tb : Table) → Fin (tcTables nBuf tb) → BufTy
  | .hbm, ⟨0, _⟩ => ⟨S1920x3584, .bf16⟩
  | .hbm, ⟨1, _⟩ => ⟨S1920x18944, .bf16⟩
  | .hbm, ⟨2, _⟩ => ⟨S3584x18944, .f32⟩
  | _, _ => ⟨S1920x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dgrad.lean ====
abbrev S3584x18944 : Shape := ⟨2, ![3584, 18944]⟩
abbrev S1920x18944 : Shape := ⟨2, ![1920, 18944]⟩
abbrev S7x128x4x18944 : Shape := ⟨4, ![7, 128, 4, 18944]⟩
abbrev S18944x7x4x128 : Shape := ⟨4, ![18944, 7, 4, 128]⟩
abbrev S18944x3584 : Shape := ⟨2, ![18944, 3584]⟩
abbrev S480x2x2x148x128 : Shape := ⟨5, ![480, 2, 2, 148, 128]⟩
abbrev S148x480x2x2x128 : Shape := ⟨5, ![148, 480, 2, 2, 128]⟩
abbrev S148x1920x128 : Shape := ⟨3, ![148, 1920, 128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1920x3584 : Shape := ⟨2, ![1920, 3584]⟩
abbrev S4x1920x128 : Shape := ⟨3, ![4, 1920, 128]⟩
abbrev S1920x512 : Shape := ⟨2, ![1920, 512]⟩
abbrev S7x1920x512 : Shape := ⟨3, ![7, 1920, 512]⟩
abbrev S960x128 : Shape := ⟨2, ![960, 128]⟩
abbrev S128x128 : Shape := ⟨2, ![128, 128]⟩
abbrev S1x1920x128 : Shape := ⟨3, ![1, 1920, 128]⟩
abbrev S1920x128 : Shape := ⟨2, ![1920, 128]⟩
abbrev S1x1920x512 : Shape := ⟨3, ![1, 1920, 512]⟩
abbrev S480x128 : Shape := ⟨2, ![480, 128]⟩
abbrev S960x512 : Shape := ⟨2, ![960, 512]⟩

abbrev nBuf : Space → Nat
  | .hbm => 61
  | .vmem => 11
  | .smem => 0
  | _ => 0

abbrev bufTy : (tb : Table) → Fin (tcTables nBuf tb) → BufTy
  | .hbm, ⟨0, _⟩ => ⟨S3584x18944, .bf16⟩
  | .hbm, ⟨1, _⟩ => ⟨S1920x18944, .bf16⟩
  | .hbm, ⟨2, _⟩ => ⟨S7x128x4x18944, .bf16⟩
  | .hbm, ⟨3, _⟩ => ⟨S18944x7x4x128, .bf16⟩
  | .hbm, ⟨4, _⟩ => ⟨S18944x3584, .bf16⟩
  | .hbm, ⟨5, _⟩ => ⟨S480x2x2x148x128, .bf16⟩
  | .hbm, ⟨6, _⟩ => ⟨S148x480x2x2x128, .bf16⟩
  | .hbm, ⟨7, _⟩ => ⟨S148x1920x128, .bf16⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S_, .i1⟩
  | .hbm, ⟨25, _⟩ => ⟨S512, .i1⟩
  | .hbm, ⟨26, _⟩ => ⟨S512, .i1⟩
  | .hbm, ⟨27, _⟩ => ⟨S512, .i1⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i32⟩
  | .hbm, ⟨43, _⟩ => ⟨S512, .i32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S512x512, .bf16⟩
  | .hbm, ⟨60, _⟩ => ⟨S1920x3584, .bf16⟩
  | .local _ .vmem, ⟨0, _⟩ => ⟨S512x512, .bf16⟩
  | .local _ .vmem, ⟨1, _⟩ => ⟨S512x512, .bf16⟩
  | .local _ .vmem, ⟨2, _⟩ => ⟨S4x1920x128, .bf16⟩
  | .local _ .vmem, ⟨3, _⟩ => ⟨S4x1920x128, .bf16⟩
  | .local _ .vmem, ⟨4, _⟩ => ⟨S512x512, .bf16⟩
  | .local _ .vmem, ⟨5, _⟩ => ⟨S1920x512, .bf16⟩
  | .local _ .vmem, ⟨6, _⟩ => ⟨S1920x512, .bf16⟩
  | .local _ .vmem, ⟨7, _⟩ => ⟨S7x1920x512, .f32⟩
  | .local _ .vmem, ⟨8, _⟩ => ⟨S512x512, .bf16⟩
  | .local _ .vmem, ⟨9, _⟩ => ⟨S512x512, .bf16⟩
  | .local _ .vmem, ⟨10, _⟩ => ⟨S960x128, .i32⟩
  | _, _ => ⟨S3584x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![260], ![false]⟩

def k0_cond2 (i : grid0.Coords) : BitVec 1 :=
  let arg0 : BitVec 32 := BitVec.ofNat 32 (i 0).val
  let c2_i32 : BitVec 32 := 2#32
  let c0_i32_13 : BitVec 32 := 0#32
  let v31 : BitVec 1 := Scalar.cmpi .eq c2_i32 c0_i32_13
  let c1_i32_14 : BitVec 32 := 1#32
  let v32 : BitVec 32 := Scalar.select v31 c1_i32_14 c2_i32
  let v33 : BitVec 32 := Scalar.remsi arg0 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c0_i32_18 : BitVec 32 := 0#32
  let v41 : BitVec 1 := Scalar.cmpi .eq v40 c0_i32_18
  let c0_i32_19 : BitVec 32 := 0#32
  let v42 : BitVec 1 := Scalar.cmpi .sgt arg0 c0_i32_19
  let v43 : BitVec 1 := Scalar.andi v41 v42
  let c259_i32 : BitVec 32 := 259#32
  let v44 : BitVec 1 := Scalar.cmpi .slt arg0 c259_i32
  let v45 : BitVec 1 := Scalar.andi v43 v44
  let v46 : BitVec 32 := Scalar.extui v45
  let c0_i32_20 : BitVec 32 := 0#32
  let v47 : BitVec 1 := Scalar.cmpi .ne v46 c0_i32_20
  v47

def k0_off1 (i : grid0.Coords) : Fin 3 → Nat :=
  let arg0 : BitVec 32 := BitVec.ofNat 32 (i 0).val
  let c1_i32 : BitVec 32 := 1#32
  let v0 : BitVec 32 := Scalar.subi arg0 c1_i32
  let c7_i32_5 : BitVec 32 := 7#32
  let c0_i32_6 : BitVec 32 := 0#32
  let v18 : BitVec 1 := Scalar.cmpi .eq c7_i32_5 c0_i32_6
  let c1_i32_7 : BitVec 32 := 1#32
  let v19 : BitVec 32 := Scalar.select v18 c1_i32_7 c7_i32_5
  let v20 : BitVec 32 := Scalar.remsi v0 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v80 : Index := Scalar.indexCast v27
  let c0_42 : Index := 0#32
  let c0_43 : Index := 0#32
  ![v80.toNat, 0, 0]
def k0_cond3 (i : grid0.Coords) : BitVec 1 :=
  let arg0 : BitVec 32 := BitVec.ofNat 32 (i 0).val
  let c2_i32_21 : BitVec 32 := 2#32
  let c0_i32_22 : BitVec 32 := 0#32
  let v48 : BitVec 1 := Scalar.cmpi .eq c2_i32_21 c0_i32_22
  let c1_i32_23 : BitVec 32 := 1#32
  let v49 : BitVec 32 := Scalar.select v48 c1_i32_23 c2_i32_21
  let v50 : BitVec 32 := Scalar.remsi arg0 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let c1_i32_27 : BitVec 32 := 1#32
  let v58 : BitVec 1 := Scalar.cmpi .eq v57 c1_i32_27
  let c0_i32_28 : BitVec 32 := 0#32
  let v59 : BitVec 1 := Scalar.cmpi .sgt arg0 c0_i32_28
  let v60 : BitVec 1 := Scalar.andi v58 v59
  let c259_i32_29 : BitVec 32 := 259#32
  let v61 : BitVec 1 := Scalar.cmpi .slt arg0 c259_i32_29
  let v62 : BitVec 1 := Scalar.andi v60 v61
  let v63 : BitVec 32 := Scalar.extui v62
  let c0_i32_30 : BitVec 32 := 0#32
  let v64 : BitVec 1 := Scalar.cmpi .ne v63 c0_i32_30
  v64

def k0_off2 (i : grid0.Coords) : Fin 3 → Nat :=
  let arg0 : BitVec 32 := BitVec.ofNat 32 (i 0).val
  let c1_i32 : BitVec 32 := 1#32
  let v0 : BitVec 32 := Scalar.subi arg0 c1_i32
  let c7_i32_5 : BitVec 32 := 7#32
  let c0_i32_6 : BitVec 32 := 0#32
  let v18 : BitVec 1 := Scalar.cmpi .eq c7_i32_5 c0_i32_6
  let c1_i32_7 : BitVec 32 := 1#32
  let v19 : BitVec 32 := Scalar.select v18 c1_i32_7 c7_i32_5
  let v20 : BitVec 32 := Scalar.remsi v0 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v80 : Index := Scalar.indexCast v27
  let c0_42 : Index := 0#32
  let c0_43 : Index := 0#32
  ![v80.toNat, 0, 0]
def k0_cond4 (i : grid0.Coords) : BitVec 1 :=
  let arg0 : BitVec 32 := BitVec.ofNat 32 (i 0).val
  let c259_i32_31 : BitVec 32 := 259#32
  let v65 : BitVec 1 := Scalar.cmpi .eq arg0 c259_i32_31
  let v66 : BitVec 32 := Scalar.extui v65
  let c0_i32_32 : BitVec 32 := 0#32
  let v67 : BitVec 1 := Scalar.cmpi .ne v66 c0_i32_32
  v67

def k0_off3 (i : grid0.Coords) : Fin 3 → Nat :=
  let arg0 : BitVec 32 := BitVec.ofNat 32 (i 0).val
  let c1_i32 : BitVec 32 := 1#32
  let v0 : BitVec 32 := Scalar.subi arg0 c1_i32
  let c7_i32_5 : BitVec 32 := 7#32
  let c0_i32_6 : BitVec 32 := 0#32
  let v18 : BitVec 1 := Scalar.cmpi .eq c7_i32_5 c0_i32_6
  let c1_i32_7 : BitVec 32 := 1#32
  let v19 : BitVec 32 := Scalar.select v18 c1_i32_7 c7_i32_5
  let v20 : BitVec 32 := Scalar.remsi v0 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v80 : Index := Scalar.indexCast v27
  let c0_42 : Index := 0#32
  let c0_43 : Index := 0#32
  ![v80.toNat, 0, 0]
def k0_cond5 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c7_i32 : BitVec 32 := 7#32
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let v1 : BitVec 32 := Scalar.divsi v0 c7_i32
  let c1_i32_4 : BitVec 32 := 1#32
  let v16 : BitVec 32 := Scalar.subi v1 c1_i32_4
  let v17 : BitVec 32 := Scalar.select v15 v16 v1
  let c36_i32 : BitVec 32 := 36#32
  let v68 : BitVec 1 := Scalar.cmpi .eq v17 c36_i32
  let v69 : BitVec 32 := Scalar.extui v68
  let c0_i32_33 : BitVec 32 := 0#32
  let v70 : BitVec 1 := Scalar.cmpi .ne v69 c0_i32_33
  v70

def k0_off4 (i : grid0.Coords) : Fin 3 → Nat :=
  let arg0 : BitVec 32 := BitVec.ofNat 32 (i 0).val
  let c1_i32 : BitVec 32 := 1#32
  let v0 : BitVec 32 := Scalar.subi arg0 c1_i32
  let c7_i32_5 : BitVec 32 := 7#32
  let c0_i32_6 : BitVec 32 := 0#32
  let v18 : BitVec 1 := Scalar.cmpi .eq c7_i32_5 c0_i32_6
  let c1_i32_7 : BitVec 32 := 1#32
  let v19 : BitVec 32 := Scalar.select v18 c1_i32_7 c7_i32_5
  let v20 : BitVec 32 := Scalar.remsi v0 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v71 : Index := Scalar.indexCast v27
  let c0 : Index := 0#32
  let c0_34 : Index := 0#32
  ![v71.toNat, 0, 0]
def cc0_transform_0 (i : grid0.Coords) : Fin 2 → Nat :=
  let arg0 : BitVec 32 := BitVec.ofNat 32 (i 0).val
  let c258_i32 : BitVec 32 := 258#32
  let v0 : BitVec 32 := Scalar.minsi arg0 c258_i32
  let c7_i32 : BitVec 32 := 7#32
  let v1 : BitVec 32 := Scalar.divsi v0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c258_i32_4 : BitVec 32 := 258#32
  let v18 : BitVec 32 := Scalar.minsi arg0 c258_i32_4
  let c7_i32_5 : BitVec 32 := 7#32
  let c0_i32_6 : BitVec 32 := 0#32
  let v19 : BitVec 1 := Scalar.cmpi .eq c7_i32_5 c0_i32_6
  let c1_i32_7 : BitVec 32 := 1#32
  let v20 : BitVec 32 := Scalar.select v19 c1_i32_7 c7_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, v28.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let v2 : BitVec 32 := Scalar.divsi v1 c7_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c7_i32 c0_i32_2
  let v9 : BitVec 32 := Scalar.extui v8
  let c0_i32_3 : BitVec 32 := 0#32
  let v10 : BitVec 1 := Scalar.cmpi .slt c7_i32 c0_i32_3
  let v11 : BitVec 32 := Scalar.extui v10
  let v12 : BitVec 32 := Scalar.subi v9 v11
  let v13 : BitVec 1 := Scalar.cmpi .ne v7 v12
  let v14 : BitVec 32 := Scalar.remsi v1 c7_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let v2 : BitVec 32 := Scalar.divsi v1 c7_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c7_i32 c0_i32_2
  let v9 : BitVec 32 := Scalar.extui v8
  let c0_i32_3 : BitVec 32 := 0#32
  let v10 : BitVec 1 := Scalar.cmpi .slt c7_i32 c0_i32_3
  let v11 : BitVec 32 := Scalar.extui v10
  let v12 : BitVec 32 := Scalar.subi v9 v11
  let v13 : BitVec 1 := Scalar.cmpi .ne v7 v12
  let v14 : BitVec 32 := Scalar.remsi v1 c7_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c36_i32 : BitVec 32 := 36#32
  let v19 : BitVec 1 := Scalar.cmpi .eq v18 c36_i32
  let c7_i32_6 : BitVec 32 := 7#32
  let c0_i32_7 : BitVec 32 := 0#32
  let v20 : BitVec 1 := Scalar.cmpi .eq c7_i32_6 c0_i32_7
  let c1_i32_8 : BitVec 32 := 1#32
  let v21 : BitVec 32 := Scalar.select v20 c1_i32_8 c7_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 32 := Scalar.select v19 v29 c0_i32_12
  let c0_i32_13 : BitVec 32 := 0#32
  let c0_i32_14 : BitVec 32 := 0#32
  ![c0_i32_13.toNat, v30.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1920x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1920x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DgradIdeal.lean ====
abbrev S960x2x128 : Shape := ⟨3, ![960, 2, 128]⟩
abbrev S960x1x128 : Shape := ⟨3, ![960, 1, 128]⟩
abbrev S480x2x128 : Shape := ⟨3, ![480, 2, 128]⟩
abbrev S480x1x128 : Shape := ⟨3, ![480, 1, 128]⟩
  | .local _ .vmem, ⟨10, _⟩ => ⟨S960x2x128, .bf16⟩
variable {F : FTy → Type} [FloatOps F]
-- ==== DgradRefIdeal.lean ====
abbrev S3584x18944 : Shape := ⟨2, ![3584, 18944]⟩
abbrev S1920x18944 : Shape := ⟨2, ![1920, 18944]⟩
abbrev S1920x3584 : Shape := ⟨2, ![1920, 3584]⟩

abbrev nBuf : Space → Nat
  | .hbm => 4
  | .vmem => 0
  | .smem => 0
  | _ => 0

abbrev bufTy : (tb : Table) → Fin (tcTables nBuf tb) → BufTy
  | .hbm, ⟨0, _⟩ => ⟨S3584x18944, .bf16⟩
  | .hbm, ⟨1, _⟩ => ⟨S1920x18944, .bf16⟩
  | .hbm, ⟨2, _⟩ => ⟨S1920x3584, .f32⟩
  | .hbm, ⟨3, _⟩ => ⟨S1920x3584, .bf16⟩
  | _, _ => ⟨S3584x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ScalesW.lean ====
abbrev S1184x896 : Shape := ⟨2, ![1184, 896]⟩
abbrev S3584x1184 : Shape := ⟨2, ![3584, 1184]⟩
abbrev S1184x128 : Shape := ⟨2, ![1184, 128]⟩
abbrev S512x1184 : Shape := ⟨2, ![512, 1184]⟩
abbrev S128x1184 : Shape := ⟨2, ![128, 1184]⟩

abbrev nBuf : Space → Nat
  | .hbm => 2
  | .vmem => 4
  | .smem => 0
  | _ => 0

abbrev bufTy : (tb : Table) → Fin (tcTables nBuf tb) → BufTy
  | .hbm, ⟨0, _⟩ => ⟨S1184x896, .i32⟩
  | .hbm, ⟨1, _⟩ => ⟨S3584x1184, .fp8e4m3⟩
  | .local _ .vmem, ⟨0, _⟩ => ⟨S1184x128, .i32⟩
  | .local _ .vmem, ⟨1, _⟩ => ⟨S1184x128, .i32⟩
  | .local _ .vmem, ⟨2, _⟩ => ⟨S512x1184, .fp8e4m3⟩
  | .local _ .vmem, ⟨3, _⟩ => ⟨S512x1184, .fp8e4m3⟩
  | _, _ => ⟨S1184x896, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1184x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1184 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ScalesWRef.lean ====
abbrev S1184x896 : Shape := ⟨2, ![1184, 896]⟩
abbrev S1184x896x4 : Shape := ⟨3, ![1184, 896, 4]⟩
abbrev S1184x3584 : Shape := ⟨2, ![1184, 3584]⟩
abbrev S3584x1184 : Shape := ⟨2, ![3584, 1184]⟩

abbrev nBuf : Space → Nat
  | .hbm => 5
  | .vmem => 0
  | .smem => 0
  | _ => 0

abbrev bufTy : (tb : Table) → Fin (tcTables nBuf tb) → BufTy
  | .hbm, ⟨0, _⟩ => ⟨S1184x896, .i32⟩
  | .hbm, ⟨1, _⟩ => ⟨S1184x896x4, .i8⟩
  | .hbm, ⟨2, _⟩ => ⟨S1184x3584, .i8⟩
  | .hbm, ⟨3, _⟩ => ⟨S3584x1184, .i8⟩
  | .hbm, ⟨4, _⟩ => ⟨S3584x1184, .fp8e4m3⟩
  | _, _ => ⟨S1184x896, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== ScalesDy.lean ====
abbrev S1184x512 : Shape := ⟨2, ![1184, 512]⟩
abbrev S1920x1184 : Shape := ⟨2, ![1920, 1184]⟩
abbrev S1184x128 : Shape := ⟨2, ![1184, 128]⟩
abbrev S512x1184 : Shape := ⟨2, ![512, 1184]⟩
abbrev S128x1184 : Shape := ⟨2, ![128, 1184]⟩

abbrev nBuf : Space → Nat
  | .hbm => 2
  | .vmem => 4
  | .smem => 0
  | _ => 0

abbrev bufTy : (tb : Table) → Fin (tcTables nBuf tb) → BufTy
  | .hbm, ⟨0, _⟩ => ⟨S1184x512, .i32⟩
  | .hbm, ⟨1, _⟩ => ⟨S1920x1184, .fp8e4m3⟩
  | .local _ .vmem, ⟨0, _⟩ => ⟨S1184x128, .i32⟩
  | .local _ .vmem, ⟨1, _⟩ => ⟨S1184x128, .i32⟩
  | .local _ .vmem, ⟨2, _⟩ => ⟨S512x1184, .fp8e4m3⟩
  | .local _ .vmem, ⟨3, _⟩ => ⟨S512x1184, .fp8e4m3⟩
  | _, _ => ⟨S1184x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1184x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1184 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ScalesDyRef.lean ====
abbrev S1184x512 : Shape := ⟨2, ![1184, 512]⟩
abbrev S1184x512x4 : Shape := ⟨3, ![1184, 512, 4]⟩
abbrev S1184x2048 : Shape := ⟨2, ![1184, 2048]⟩
abbrev S1184x1920 : Shape := ⟨2, ![1184, 1920]⟩
abbrev S1920x1184 : Shape := ⟨2, ![1920, 1184]⟩

abbrev nBuf : Space → Nat
  | .hbm => 6
  | .vmem => 0
  | .smem => 0
  | _ => 0

abbrev bufTy : (tb : Table) → Fin (tcTables nBuf tb) → BufTy
  | .hbm, ⟨0, _⟩ => ⟨S1184x512, .i32⟩
  | .hbm, ⟨1, _⟩ => ⟨S1184x512x4, .i8⟩
  | .hbm, ⟨2, _⟩ => ⟨S1184x2048, .i8⟩
  | .hbm, ⟨3, _⟩ => ⟨S1184x1920, .i8⟩
  | .hbm, ⟨4, _⟩ => ⟨S1920x1184, .i8⟩
  | .hbm, ⟨5, _⟩ => ⟨S1920x1184, .fp8e4m3⟩
  | _, _ => ⟨S1184x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Proof.Wgrad.RunA.lean ====
module

public import proofs.«01_k».proof.Proof.Gen.Wgrad.Frame
public import proofs.«01_k».proof.Proof.Gen.Wgrad.Skeleton
public import Idealize.ShloMosaic.Lib.WholeRead
public import Idealize.ShloMosaic.Lib.VecWindow

@[expose] public section

set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- At the first four points (no product yet): the body copies its slab rows into the first buffer and leaves the second and the output's buffer as they were. -/
def runA (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : ¬k0_cond2 i = 1#1) (hc3 : k0_cond3 i = 1#1) (hc4 : ¬k0_cond4 i = 1#1)
    (x1 x2 x3 x4 : Vec F S512x128 .bf16) (x5 : Vec F S3584x2048 .bf16) (x6 : Vec F S896x512 .f32) (b7 b8 : Vec F S16x128x512 .bf16) :
    { L : List (View.Piece (Elt F) S16x128x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare b7 ∗ owns (c : Thread nD τ) arg8 fullShare b8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (arg7.view.read (Elt F) (arg7.view.writes (Elt F) (harg7.unread b7) L)) ∗ owns (c : Thread nD τ) arg8 fullShare b8) -∗ K ⟨⟩))
          ⊢ wp frame (wpE (defs₀ (F := F)) Variants.none c none) E (cc0_wgrad i arg1 harg1 arg2 harg2 arg3 harg3 arg4 harg4 arg5 harg5 arg6 harg6 arg7 harg7 arg8 harg8) K } := by
  refine ⟨?_, fun E K => ?run⟩
  case run =>
    simp only [cc0_wgrad_eq_skeleton]; unfold cc0_wgrad_skel
    simp only [k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro; rfl
    iexists _; isplitr; · ipureintro; exact harg8.read_unread _
    iexact H8

end Cert.Wgrad.Hand

end
-- ==== Proof.Wgrad.Points.lean ====
/- The grid's arithmetic: what the body's conditions and offsets are at the 152 points. -/
module

public import proofs.«01_k».proof.Proof.Gen.Wgrad.Frame
public import proofs.«01_k».proof.Proof.Gen.Wgrad.Skeleton

@[expose] public section

set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The coordinates of the point with number `n`. -/
def mk (n : Fin 152) : grid0.Coords := fun | ⟨0, _⟩ => n

theorem eq_mk (i : grid0.Coords) : i = mk (i 0) := by
  funext a
  match a with
  | ⟨0, _⟩ => rfl

theorem coords0 (t : Fin cfg0.N) : (grid0.coords t 0).val = t.val := by
  have ht : t.val < 152 := Nat.lt_of_lt_of_eq t.isLt N_0
  have e : (grid0.coords t 0).val = t.val / 1 % 152 := Pipeline.Grid.coords_val t 0 (by decide) rfl
  rw [e]; omega

theorem off2_eq (i : grid0.Coords) (g : Fin 4) :
    k0_off2 i (BitVec.ofNat 32 g.val) = ![4 * ((i 0).val % 4) + g.val, 0, 0] := by
  have h : ∀ n : Fin 152, ∀ g : Fin 4, k0_off2 (mk n) (BitVec.ofNat 32 g.val) = ![4 * (n.val % 4) + g.val, 0, 0] := by
    decide +kernel
  rw [eq_mk i]; exact h _ g
instance (i : grid0.Coords) : ClosedOff (k0_off2 i 0#32) := ⟨![4 * ((i 0).val % 4) + 0, 0, 0], off2_eq i 0⟩
instance (i : grid0.Coords) : ClosedOff (k0_off2 i 1#32) := ⟨![4 * ((i 0).val % 4) + 1, 0, 0], off2_eq i 1⟩
instance (i : grid0.Coords) : ClosedOff (k0_off2 i 2#32) := ⟨![4 * ((i 0).val % 4) + 2, 0, 0], off2_eq i 2⟩
instance (i : grid0.Coords) : ClosedOff (k0_off2 i 3#32) := ⟨![4 * ((i 0).val % 4) + 3, 0, 0], off2_eq i 3⟩
theorem off3_eq (i : grid0.Coords) (g : Fin 4) :
    k0_off3 i (BitVec.ofNat 32 g.val) = ![4 * ((i 0).val % 4) + g.val, 0, 128] := by
  have h : ∀ n : Fin 152, ∀ g : Fin 4, k0_off3 (mk n) (BitVec.ofNat 32 g.val) = ![4 * (n.val % 4) + g.val, 0, 128] := by
    decide +kernel
  rw [eq_mk i]; exact h _ g
instance (i : grid0.Coords) : ClosedOff (k0_off3 i 0#32) := ⟨![4 * ((i 0).val % 4) + 0, 0, 128], off3_eq i 0⟩
instance (i : grid0.Coords) : ClosedOff (k0_off3 i 1#32) := ⟨![4 * ((i 0).val % 4) + 1, 0, 128], off3_eq i 1⟩
instance (i : grid0.Coords) : ClosedOff (k0_off3 i 2#32) := ⟨![4 * ((i 0).val % 4) + 2, 0, 128], off3_eq i 2⟩
instance (i : grid0.Coords) : ClosedOff (k0_off3 i 3#32) := ⟨![4 * ((i 0).val % 4) + 3, 0, 128], off3_eq i 3⟩
theorem off4_eq (i : grid0.Coords) (g : Fin 4) :
    k0_off4 i (BitVec.ofNat 32 g.val) = ![4 * ((i 0).val % 4) + g.val, 0, 256] := by
  have h : ∀ n : Fin 152, ∀ g : Fin 4, k0_off4 (mk n) (BitVec.ofNat 32 g.val) = ![4 * (n.val % 4) + g.val, 0, 256] := by
    decide +kernel
  rw [eq_mk i]; exact h _ g
instance (i : grid0.Coords) : ClosedOff (k0_off4 i 0#32) := ⟨![4 * ((i 0).val % 4) + 0, 0, 256], off4_eq i 0⟩
instance (i : grid0.Coords) : ClosedOff (k0_off4 i 1#32) := ⟨![4 * ((i 0).val % 4) + 1, 0, 256], off4_eq i 1⟩
instance (i : grid0.Coords) : ClosedOff (k0_off4 i 2#32) := ⟨![4 * ((i 0).val % 4) + 2, 0, 256], off4_eq i 2⟩
instance (i : grid0.Coords) : ClosedOff (k0_off4 i 3#32) := ⟨![4 * ((i 0).val % 4) + 3, 0, 256], off4_eq i 3⟩
theorem off5_eq (i : grid0.Coords) (g : Fin 4) :
    k0_off5 i (BitVec.ofNat 32 g.val) = ![4 * ((i 0).val % 4) + g.val, 0, 384] := by
  have h : ∀ n : Fin 152, ∀ g : Fin 4, k0_off5 (mk n) (BitVec.ofNat 32 g.val) = ![4 * (n.val % 4) + g.val, 0, 384] := by
    decide +kernel
  rw [eq_mk i]; exact h _ g
instance (i : grid0.Coords) : ClosedOff (k0_off5 i 0#32) := ⟨![4 * ((i 0).val % 4) + 0, 0, 384], off5_eq i 0⟩
instance (i : grid0.Coords) : ClosedOff (k0_off5 i 1#32) := ⟨![4 * ((i 0).val % 4) + 1, 0, 384], off5_eq i 1⟩
instance (i : grid0.Coords) : ClosedOff (k0_off5 i 2#32) := ⟨![4 * ((i 0).val % 4) + 2, 0, 384], off5_eq i 2⟩
instance (i : grid0.Coords) : ClosedOff (k0_off5 i 3#32) := ⟨![4 * ((i 0).val % 4) + 3, 0, 384], off5_eq i 3⟩
theorem off7_eq (i : grid0.Coords) (g : Fin 4) :
    k0_off7 i (BitVec.ofNat 32 g.val) = ![4 * ((i 0).val % 4) + g.val, 0, 0] := by
  have h : ∀ n : Fin 152, ∀ g : Fin 4, k0_off7 (mk n) (BitVec.ofNat 32 g.val) = ![4 * (n.val % 4) + g.val, 0, 0] := by
    decide +kernel
  rw [eq_mk i]; exact h _ g
instance (i : grid0.Coords) : ClosedOff (k0_off7 i 0#32) := ⟨![4 * ((i 0).val % 4) + 0, 0, 0], off7_eq i 0⟩
instance (i : grid0.Coords) : ClosedOff (k0_off7 i 1#32) := ⟨![4 * ((i 0).val % 4) + 1, 0, 0], off7_eq i 1⟩
instance (i : grid0.Coords) : ClosedOff (k0_off7 i 2#32) := ⟨![4 * ((i 0).val % 4) + 2, 0, 0], off7_eq i 2⟩
instance (i : grid0.Coords) : ClosedOff (k0_off7 i 3#32) := ⟨![4 * ((i 0).val % 4) + 3, 0, 0], off7_eq i 3⟩
theorem off8_eq (i : grid0.Coords) (g : Fin 4) :
    k0_off8 i (BitVec.ofNat 32 g.val) = ![4 * ((i 0).val % 4) + g.val, 0, 128] := by
  have h : ∀ n : Fin 152, ∀ g : Fin 4, k0_off8 (mk n) (BitVec.ofNat 32 g.val) = ![4 * (n.val % 4) + g.val, 0, 128] := by
    decide +kernel
  rw [eq_mk i]; exact h _ g
instance (i : grid0.Coords) : ClosedOff (k0_off8 i 0#32) := ⟨![4 * ((i 0).val % 4) + 0, 0, 128], off8_eq i 0⟩
instance (i : grid0.Coords) : ClosedOff (k0_off8 i 1#32) := ⟨![4 * ((i 0).val % 4) + 1, 0, 128], off8_eq i 1⟩
instance (i : grid0.Coords) : ClosedOff (k0_off8 i 2#32) := ⟨![4 * ((i 0).val % 4) + 2, 0, 128], off8_eq i 2⟩
instance (i : grid0.Coords) : ClosedOff (k0_off8 i 3#32) := ⟨![4 * ((i 0).val % 4) + 3, 0, 128], off8_eq i 3⟩
theorem off9_eq (i : grid0.Coords) (g : Fin 4) :
    k0_off9 i (BitVec.ofNat 32 g.val) = ![4 * ((i 0).val % 4) + g.val, 0, 256] := by
  have h : ∀ n : Fin 152, ∀ g : Fin 4, k0_off9 (mk n) (BitVec.ofNat 32 g.val) = ![4 * (n.val % 4) + g.val, 0, 256] := by
    decide +kernel
  rw [eq_mk i]; exact h _ g
instance (i : grid0.Coords) : ClosedOff (k0_off9 i 0#32) := ⟨![4 * ((i 0).val % 4) + 0, 0, 256], off9_eq i 0⟩
instance (i : grid0.Coords) : ClosedOff (k0_off9 i 1#32) := ⟨![4 * ((i 0).val % 4) + 1, 0, 256], off9_eq i 1⟩
instance (i : grid0.Coords) : ClosedOff (k0_off9 i 2#32) := ⟨![4 * ((i 0).val % 4) + 2, 0, 256], off9_eq i 2⟩
instance (i : grid0.Coords) : ClosedOff (k0_off9 i 3#32) := ⟨![4 * ((i 0).val % 4) + 3, 0, 256], off9_eq i 3⟩
theorem off10_eq (i : grid0.Coords) (g : Fin 4) :
    k0_off10 i (BitVec.ofNat 32 g.val) = ![4 * ((i 0).val % 4) + g.val, 0, 384] := by
  have h : ∀ n : Fin 152, ∀ g : Fin 4, k0_off10 (mk n) (BitVec.ofNat 32 g.val) = ![4 * (n.val % 4) + g.val, 0, 384] := by
    decide +kernel
  rw [eq_mk i]; exact h _ g
instance (i : grid0.Coords) : ClosedOff (k0_off10 i 0#32) := ⟨![4 * ((i 0).val % 4) + 0, 0, 384], off10_eq i 0⟩
instance (i : grid0.Coords) : ClosedOff (k0_off10 i 1#32) := ⟨![4 * ((i 0).val % 4) + 1, 0, 384], off10_eq i 1⟩
instance (i : grid0.Coords) : ClosedOff (k0_off10 i 2#32) := ⟨![4 * ((i 0).val % 4) + 2, 0, 384], off10_eq i 2⟩
instance (i : grid0.Coords) : ClosedOff (k0_off10 i 3#32) := ⟨![4 * ((i 0).val % 4) + 3, 0, 384], off10_eq i 3⟩
theorem off11_eq (i : grid0.Coords) (g : Fin 4) :
    k0_off11 i (BitVec.ofNat 32 g.val) = ![4 * ((i 0).val % 4) + g.val, 0, 0] := by
  have h : ∀ n : Fin 152, ∀ g : Fin 4, k0_off11 (mk n) (BitVec.ofNat 32 g.val) = ![4 * (n.val % 4) + g.val, 0, 0] := by
    decide +kernel
  rw [eq_mk i]; exact h _ g
instance (i : grid0.Coords) : ClosedOff (k0_off11 i 0#32) := ⟨![4 * ((i 0).val % 4) + 0, 0, 0], off11_eq i 0⟩
instance (i : grid0.Coords) : ClosedOff (k0_off11 i 1#32) := ⟨![4 * ((i 0).val % 4) + 1, 0, 0], off11_eq i 1⟩
instance (i : grid0.Coords) : ClosedOff (k0_off11 i 2#32) := ⟨![4 * ((i 0).val % 4) + 2, 0, 0], off11_eq i 2⟩
instance (i : grid0.Coords) : ClosedOff (k0_off11 i 3#32) := ⟨![4 * ((i 0).val % 4) + 3, 0, 0], off11_eq i 3⟩
theorem off12_eq (i : grid0.Coords) (g : Fin 4) :
    k0_off12 i (BitVec.ofNat 32 g.val) = ![4 * ((i 0).val % 4) + g.val, 0, 128] := by
  have h : ∀ n : Fin 152, ∀ g : Fin 4, k0_off12 (mk n) (BitVec.ofNat 32 g.val) = ![4 * (n.val % 4) + g.val, 0, 128] := by
    decide +kernel
  rw [eq_mk i]; exact h _ g
instance (i : grid0.Coords) : ClosedOff (k0_off12 i 0#32) := ⟨![4 * ((i 0).val % 4) + 0, 0, 128], off12_eq i 0⟩
instance (i : grid0.Coords) : ClosedOff (k0_off12 i 1#32) := ⟨![4 * ((i 0).val % 4) + 1, 0, 128], off12_eq i 1⟩
instance (i : grid0.Coords) : ClosedOff (k0_off12 i 2#32) := ⟨![4 * ((i 0).val % 4) + 2, 0, 128], off12_eq i 2⟩
instance (i : grid0.Coords) : ClosedOff (k0_off12 i 3#32) := ⟨![4 * ((i 0).val % 4) + 3, 0, 128], off12_eq i 3⟩
theorem off13_eq (i : grid0.Coords) (g : Fin 4) :
    k0_off13 i (BitVec.ofNat 32 g.val) = ![4 * ((i 0).val % 4) + g.val, 0, 256] := by
  have h : ∀ n : Fin 152, ∀ g : Fin 4, k0_off13 (mk n) (BitVec.ofNat 32 g.val) = ![4 * (n.val % 4) + g.val, 0, 256] := by
    decide +kernel
  rw [eq_mk i]; exact h _ g
instance (i : grid0.Coords) : ClosedOff (k0_off13 i 0#32) := ⟨![4 * ((i 0).val % 4) + 0, 0, 256], off13_eq i 0⟩
instance (i : grid0.Coords) : ClosedOff (k0_off13 i 1#32) := ⟨![4 * ((i 0).val % 4) + 1, 0, 256], off13_eq i 1⟩
instance (i : grid0.Coords) : ClosedOff (k0_off13 i 2#32) := ⟨![4 * ((i 0).val % 4) + 2, 0, 256], off13_eq i 2⟩
instance (i : grid0.Coords) : ClosedOff (k0_off13 i 3#32) := ⟨![4 * ((i 0).val % 4) + 3, 0, 256], off13_eq i 3⟩
theorem off14_eq (i : grid0.Coords) (g : Fin 4) :
    k0_off14 i (BitVec.ofNat 32 g.val) = ![4 * ((i 0).val % 4) + g.val, 0, 384] := by
  have h : ∀ n : Fin 152, ∀ g : Fin 4, k0_off14 (mk n) (BitVec.ofNat 32 g.val) = ![4 * (n.val % 4) + g.val, 0, 384] := by
    decide +kernel
  rw [eq_mk i]; exact h _ g
instance (i : grid0.Coords) : ClosedOff (k0_off14 i 0#32) := ⟨![4 * ((i 0).val % 4) + 0, 0, 384], off14_eq i 0⟩
instance (i : grid0.Coords) : ClosedOff (k0_off14 i 1#32) := ⟨![4 * ((i 0).val % 4) + 1, 0, 384], off14_eq i 1⟩
instance (i : grid0.Coords) : ClosedOff (k0_off14 i 2#32) := ⟨![4 * ((i 0).val % 4) + 2, 0, 384], off14_eq i 2⟩
instance (i : grid0.Coords) : ClosedOff (k0_off14 i 3#32) := ⟨![4 * ((i 0).val % 4) + 3, 0, 384], off14_eq i 3⟩
theorem off1_eq (i : grid0.Coords) : k0_off1 i = ![896 * ((i 0).val % 4), 0] := by
  have h : ∀ n : Fin 152, k0_off1 (mk n) = ![896 * (n.val % 4), 0] := by decide +kernel
  rw [eq_mk i]; exact h _
theorem off6_eq (i : grid0.Coords) : k0_off6 i = ![896 * ((i 0).val % 4), 0] := by
  have h : ∀ n : Fin 152, k0_off6 (mk n) = ![896 * (n.val % 4), 0] := by decide +kernel
  rw [eq_mk i]; exact h _
theorem off15_eq (i : grid0.Coords) : k0_off15 i = ![896 * ((i 0).val % 4), 0] := by
  have h : ∀ n : Fin 152, k0_off15 (mk n) = ![896 * (n.val % 4), 0] := by decide +kernel
  rw [eq_mk i]; exact h _
theorem cond1_iff (i : grid0.Coords) : k0_cond1 i = 1#1 ↔ ((i 0).val % 8 < 4 ∧ 4 ≤ (i 0).val ∧ (i 0).val < 148) := by
  have h : ∀ n : Fin 152, k0_cond1 (mk n) = 1#1 ↔ (n.val % 8 < 4 ∧ 4 ≤ n.val ∧ n.val < 148) := by decide +kernel
  rw [eq_mk i]; exact h _
theorem cond2_iff (i : grid0.Coords) : k0_cond2 i = 1#1 ↔ (4 ≤ (i 0).val % 8 ∧ (i 0).val < 148) := by
  have h : ∀ n : Fin 152, k0_cond2 (mk n) = 1#1 ↔ (4 ≤ n.val % 8 ∧ n.val < 148) := by decide +kernel
  rw [eq_mk i]; exact h _
theorem cond3_iff (i : grid0.Coords) : k0_cond3 i = 1#1 ↔ ((i 0).val < 4) := by
  have h : ∀ n : Fin 152, k0_cond3 (mk n) = 1#1 ↔ (n.val < 4) := by decide +kernel
  rw [eq_mk i]; exact h _
theorem cond4_iff (i : grid0.Coords) : k0_cond4 i = 1#1 ↔ (148 ≤ (i 0).val) := by
  have h : ∀ n : Fin 152, k0_cond4 (mk n) = 1#1 ↔ (148 ≤ n.val) := by decide +kernel
  rw [eq_mk i]; exact h _

end Cert.Wgrad.Hand

end
-- ==== Proof.Wgrad.RunB.lean ====
module

public import proofs.«01_k».proof.Proof.Gen.Wgrad.Frame
public import proofs.«01_k».proof.Proof.Gen.Wgrad.Skeleton
public import proofs.«01_k».proof.Proof.Wgrad.Points
public import Idealize.ShloMosaic.Lib.WholeRead
public import Idealize.ShloMosaic.Lib.VecWindow

@[expose] public section

set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- At an even tile but the first: the body multiplies the second buffer's tile and copies its slab rows into the first. -/
def runB (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : k0_cond1 i = 1#1) (hc2 : ¬k0_cond2 i = 1#1) (hc3 : ¬k0_cond3 i = 1#1) (hc4 : ¬k0_cond4 i = 1#1)
    (x1 x2 x3 x4 : Vec F S512x128 .bf16) (x5 : Vec F S3584x2048 .bf16) (b7 b8 : Vec F S16x128x512 .bf16) :
    { L : List (View.Piece (Elt F) S16x128x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare b7 ∗ owns (c : Thread nD τ) arg8 fullShare b8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay6 b8 (arg5.view.readAt (Elt F) (Rect.unit (s := S3584x2048) (k0_off1 i) S896x2048.size (k0_off1_inb i hc1)).toLoadRect (harg5.unread x5))) ∗ owns (c : Thread nD τ) arg7 fullShare (arg7.view.read (Elt F) (arg7.view.writes (Elt F) (harg7.unread b7) L)) ∗ owns (c : Thread nD τ) arg8 fullShare b8) -∗ K ⟨⟩))
          ⊢ wp frame (wpE (defs₀ (F := F)) Variants.none c none) E (cc0_wgrad i arg1 harg1 arg2 harg2 arg3 harg3 arg4 harg4 arg5 harg5 arg6 harg6 arg7 harg7 arg8 harg8) K } := by
  refine ⟨?_, fun E K => ?run⟩
  case run =>
    simp only [cc0_wgrad_eq_skeleton]; unfold cc0_wgrad_skel
    simp only [k0_part1_eq_skeleton, k0_part2_eq_skeleton, k0_part3_eq_skeleton, k0_part4_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; exact (View.read_writes_full _ _ _ _ _).trans (congrArg (fun z => k0_pay6 z _) ((View.readAt_full _ _ _).trans (harg8.read_unread _)))
    isplitl [H7]
    · iexists _; isplitr; swap; · iexact H7
      ipureintro; rfl
    iexists _; isplitr; · ipureintro; exact harg8.read_unread _
    iexact H8

end Cert.Wgrad.Hand

end
-- ==== Proof.Wgrad.RunC.lean ====
module

public import proofs.«01_k».proof.Proof.Gen.Wgrad.Frame
public import proofs.«01_k».proof.Proof.Gen.Wgrad.Skeleton
public import proofs.«01_k».proof.Proof.Wgrad.Points
public import Idealize.ShloMosaic.Lib.WholeRead
public import Idealize.ShloMosaic.Lib.VecWindow

@[expose] public section

set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- At an odd tile but the last: the body multiplies the first buffer's tile and copies its slab rows into the second. -/
def runC (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : k0_cond2 i = 1#1) (hc3 : ¬k0_cond3 i = 1#1) (hc4 : ¬k0_cond4 i = 1#1)
    (x1 x2 x3 x4 : Vec F S512x128 .bf16) (x5 : Vec F S3584x2048 .bf16) (b7 b8 : Vec F S16x128x512 .bf16) :
    { L : List (View.Piece (Elt F) S16x128x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare b7 ∗ owns (c : Thread nD τ) arg8 fullShare b8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay25 b7 (arg5.view.readAt (Elt F) (Rect.unit (s := S3584x2048) (k0_off6 i) S896x2048.size (k0_off6_inb i hc2)).toLoadRect (harg5.unread x5))) ∗ owns (c : Thread nD τ) arg7 fullShare b7 ∗ owns (c : Thread nD τ) arg8 fullShare (arg8.view.read (Elt F) (arg8.view.writes (Elt F) (harg8.unread b8) L))) -∗ K ⟨⟩))
          ⊢ wp frame (wpE (defs₀ (F := F)) Variants.none c none) E (cc0_wgrad i arg1 harg1 arg2 harg2 arg3 harg3 arg4 harg4 arg5 harg5 arg6 harg6 arg7 harg7 arg8 harg8) K } := by
  refine ⟨?_, fun E K => ?run⟩
  case run =>
    simp only [cc0_wgrad_eq_skeleton]; unfold cc0_wgrad_skel
    simp only [k0_part5_eq_skeleton, k0_part6_eq_skeleton, k0_part7_eq_skeleton, k0_part8_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; exact (View.read_writes_full _ _ _ _ _).trans (congrArg (fun z => k0_pay25 z _) ((View.readAt_full _ _ _).trans (harg7.read_unread _)))
    isplitl [H7]
    · iexists _; isplitr; · ipureintro; exact harg7.read_unread _
      iexact H7
    iexists _; isplitr; swap; · iexact H8
    ipureintro; rfl

end Cert.Wgrad.Hand

end
-- ==== Proof.Wgrad.Fill.lean ====
/- Sixteen 128x128 stores, side by side, into four of a buffer's sixteen 128-row chunks: what the buffer then holds. -/
module

public import proofs.«01_k».proof.Proof.Gen.Wgrad.Frame
public import proofs.«01_k».proof.Proof.Gen.Wgrad.Skeleton
public import proofs.«01_k».proof.Proof.Wgrad.RunA
public import proofs.«01_k».proof.Proof.Wgrad.RunB
public import proofs.«01_k».proof.Proof.Wgrad.RunC
public import Idealize.ShloMosaic.Lib.WholeRead
public import Idealize.ShloMosaic.Lib.VecWindow

@[expose] public section

set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A 128x128 block as the body stores it: with a leading axis of one. -/
def cp (v : Vec F S128x128 .bf16) : FVec F S1x128x128 .bf16 :=
  shapeCast S1x128x128 (shapeCast S128x128 v shapeCasts_S128x128_S128x128) shapeCasts_S128x128_S1x128x128

/-- The index of a 128x128 block under which an element of the stored block sits. -/
def ix2 (x : S1x128x128.Idx) : S128x128.Idx := fun a => x a.succ

theorem cp_apply (v : Vec F S128x128 .bf16) (x : S1x128x128.Idx) : cp v x = v (ix2 x) := by
  unfold cp
  rw [shapeCast_self]
  exact shapeCast_addUnit_apply _ v _ x

/-- A list of sixteen, from four by four. -/
def list16 {α : Type} (p : Fin 4 → Fin 4 → α) : List α :=
  [p 3 3, p 2 3, p 1 3, p 0 3, p 3 2, p 2 2, p 1 2, p 0 2, p 3 1, p 2 1, p 1 1, p 0 1, p 3 0, p 2 0, p 1 0, p 0 0]

theorem mem_list16 {α : Type} (p : Fin 4 → Fin 4 → α) (l g : Fin 4) : p l g ∈ list16 p := by
  unfold list16; fin_cases l <;> fin_cases g <;> simp

theorem of_mem_list16 {α : Type} (p : Fin 4 → Fin 4 → α) (q : α) (h : q ∈ list16 p) : ∃ l g, q = p l g := by
  unfold list16 at h
  simp only [List.mem_cons, List.not_mem_nil, or_false] at h
  rcases h with h | h | h | h | h | h | h | h | h | h | h | h | h | h | h | h <;> exact ⟨_, _, h⟩

/-- The element of the slab's row block that lands on element `y` of the buffer. -/
def slabIx (y : S16x128x512.Idx) : S512x128.Idx
  | ⟨0, _⟩ => ⟨((y 0).val % 4) * 128 + (y 1).val, by have h1 : (y 1).val < 128 := (y 1).isLt; show _ < 512; omega⟩
  | ⟨1, _⟩ => ⟨(y 2).val % 128, Nat.mod_lt _ (by decide)⟩
  | ⟨n + 2, h⟩ => absurd h (Nat.not_lt.2 (Nat.le_add_left _ _))

/-- Which of the four windows element `y` of the buffer comes from. -/
def slabOf (y : S16x128x512.Idx) : Fin 4 := ⟨(y 2).val / 128, by have h : (y 2).val < 512 := (y 2).isLt; omega⟩

section

variable (off : Fin 4 → Fin 4 → Fin 3 → ℕ) (inb : ∀ l g a, off l g a + S1x128x128.size a ≤ S16x128x512.size a)
    (M : Fin 4 → { m : Memref sig .tc .vmem S512x128 .bf16 // m.IsWhole }) (X : Fin 4 → Vec F S512x128 .bf16)

/-- The rows a block is read from lie in the slab. -/
theorem rowsInb (g : Fin 4) : ∀ a, (![128 * g.val, 0] : Fin 2 → ℕ) a + S128x128.size a ≤ S512x128.size a := by
  intro a
  have := g.isLt
  match a with
  | ⟨0, _⟩ => show 128 * g.val + 128 ≤ 512; omega
  | ⟨1, _⟩ => show 0 + 128 ≤ 128; omega

/-- One stored block: rows `128 g …` of window `l`. -/
def pieceOf (l g : Fin 4) : View.Piece (Elt F) S16x128x512 .bf16 :=
  ⟨Rect.unit (s := S16x128x512) (off l g) S1x128x128.size (inb l g),
    cp ((M l).1.view.readAt (Elt F) (Rect.unit (s := S512x128) ![128 * g.val, 0] S128x128.size (rowsInb g)).toLoadRect ((M l).2.unread (X l)))⟩

/-- After the sixteen stores at chunks `4 u … 4 u + 3` the buffer holds, in these chunks, the windows' rows, and elsewhere what it held. -/
theorem fill_read (u : ℕ) (hu : u < 4) (hoff : ∀ l g, off l g = ![4 * u + g.val, 0, 128 * l.val])
    {m : Memref sig .tc .vmem S16x128x512 .bf16} (hm : m.IsWhole) (b : Vec F S16x128x512 .bf16) (y : S16x128x512.Idx) :
    m.view.read (Elt F) (m.view.writes (Elt F) (hm.unread b) (list16 (pieceOf off inb M X))) y
      = if (y 0).val / 4 = u then X (slabOf y) (slabIx y) else b y := by
  have hy0 : (y 0).val < 16 := (y 0).isLt
  have hy1 : (y 1).val < 128 := (y 1).isLt
  have hy2 : (y 2).val < 512 := (y 2).isLt
  by_cases h : (y 0).val / 4 = u
  · rw [if_pos h]
    refine View.read_writes_apply_of_pieces _ _ (fun y => X (slabOf y) (slabIx y)) _ ?_ y ?_
    · intro p hp x
      obtain ⟨l, g, rfl⟩ := of_mem_list16 _ p hp
      have hx0 : (x 0).val < 1 := (x 0).isLt
      have hx1 : (x 1).val < 128 := (x 1).isLt
      have hx2 : (x 2).val < 128 := (x 2).isLt
      have hl := l.isLt
      have hg := g.isLt
      have e0 : (((pieceOf off inb M X l g).1.emb x) 0).val = 4 * u + g.val := by
        show off l g 0 + 1 * (x 0).val = _
        rw [hoff]; show 4 * u + g.val + 1 * (x 0).val = _; omega
      have e1 : (((pieceOf off inb M X l g).1.emb x) 1).val = (x 1).val := by
        show off l g 1 + 1 * (x 1).val = _
        rw [hoff]; show 0 + 1 * (x 1).val = _; omega
      have e2 : (((pieceOf off inb M X l g).1.emb x) 2).val = 128 * l.val + (x 2).val := by
        show off l g 2 + 1 * (x 2).val = _
        rw [hoff]; show 128 * l.val + 1 * (x 2).val = _; omega
      have hs : slabOf ((pieceOf off inb M X l g).1.emb x) = l := Fin.ext (by
        show _ / 128 = l.val
        rw [e2]; omega)
      have hv : (pieceOf off inb M X l g).2 x
          = cp ((M l).1.view.readAt (Elt F) (Rect.unit (s := S512x128) ![128 * g.val, 0] S128x128.size (rowsInb g)).toLoadRect ((M l).2.unread (X l))) x := rfl
      refine (hv.trans ((cp_apply _ _).trans ((M l).2.readAt_unread _ _ _))).trans ?_
      show _ = X (slabOf _) (slabIx _)
      rw [hs]
      congr 1
      funext a
      apply Fin.ext
      match a with
      | ⟨0, _⟩ =>
        show 128 * g.val + 1 * (x 1).val = (_ % 4) * 128 + _
        rw [e0, e1]; omega
      | ⟨1, _⟩ =>
        show 0 + 1 * (x 2).val = _ % 128
        rw [e2]; omega
    · refine ⟨pieceOf off inb M X (slabOf y) ⟨(y 0).val % 4, Nat.mod_lt _ (by decide)⟩, mem_list16 _ _ _, ?_⟩
      show y ∈ (Rect.unit (s := S16x128x512) (off _ _) S1x128x128.size (inb _ _)).set
      rw [Rect.mem_set_unit]
      intro a
      rw [hoff]
      match a with
      | ⟨0, _⟩ => show 4 * u + (y 0).val % 4 ≤ (y 0).val ∧ (y 0).val < 4 * u + (y 0).val % 4 + 1; omega
      | ⟨1, _⟩ => show 0 ≤ (y 1).val ∧ (y 1).val < 0 + 128; omega
      | ⟨2, _⟩ =>
        show 128 * ((y 2).val / 128) ≤ (y 2).val ∧ (y 2).val < 128 * ((y 2).val / 128) + 128; omega
  · rw [if_neg h, View.read_writes_apply_of_forall_not_mem]
    · exact congrFun (hm.read_unread b) y
    · intro p hp hmem
      obtain ⟨l, g, rfl⟩ := of_mem_list16 _ p hp
      have hg := g.isLt
      have := (Rect.mem_set_unit.mp (show y ∈ (Rect.unit (s := S16x128x512) (off l g) S1x128x128.size (inb l g)).set from hmem)) 0
      rw [hoff] at this
      have h2 : 4 * u + g.val ≤ (y 0).val ∧ (y 0).val < 4 * u + g.val + 1 := this
      omega

end

/-- Where the stores of this case go. -/
def offA (i : grid0.Coords) : Fin 4 → Fin 4 → Fin 3 → ℕ
  | 0, g => k0_off11 i (BitVec.ofNat 32 g.val)
  | 1, g => k0_off12 i (BitVec.ofNat 32 g.val)
  | 2, g => k0_off13 i (BitVec.ofNat 32 g.val)
  | 3, g => k0_off14 i (BitVec.ofNat 32 g.val)

theorem offA_eq (i : grid0.Coords) (l g : Fin 4) : offA i l g = ![4 * ((i 0).val % 4) + g.val, 0, 128 * l.val] := by
  fin_cases l
  · exact off11_eq i g
  · exact off12_eq i g
  · exact off13_eq i g
  · exact off14_eq i g

theorem offA_inb (i : grid0.Coords) (h : k0_cond3 i = 1#1) (l g : Fin 4) (a : Fin 3) :
    offA i l g a + S1x128x128.size a ≤ S16x128x512.size a := by
  fin_cases l
  · exact k0_off11_inb i h g a
  · exact k0_off12_inb i h g a
  · exact k0_off13_inb i h g a
  · exact k0_off14_inb i h g a

set_option maxHeartbeats 2000000 in
/-- The case's stores are these sixteen. -/
theorem runA_pieces (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : ¬k0_cond2 i = 1#1) (hc3 : k0_cond3 i = 1#1) (hc4 : ¬k0_cond4 i = 1#1)
    (x1 x2 x3 x4 : Vec F S512x128 .bf16) (x5 : Vec F S3584x2048 .bf16) (x6 : Vec F S896x512 .f32) (b7 b8 : Vec F S16x128x512 .bf16) :
    (runA c i arg1 harg1 arg2 harg2 arg3 harg3 arg4 harg4 arg5 harg5 arg6 harg6 arg7 harg7 arg8 harg8 hc1 hc2 hc3 hc4 x1 x2 x3 x4 x5 x6 b7 b8).1
      = list16 (pieceOf (offA i) (offA_inb i hc3) ![⟨arg1, harg1⟩, ⟨arg2, harg2⟩, ⟨arg3, harg3⟩, ⟨arg4, harg4⟩] ![x1, x2, x3, x4]) := rfl

/-- Where the stores of this case go. -/
def offB (i : grid0.Coords) : Fin 4 → Fin 4 → Fin 3 → ℕ
  | 0, g => k0_off2 i (BitVec.ofNat 32 g.val)
  | 1, g => k0_off3 i (BitVec.ofNat 32 g.val)
  | 2, g => k0_off4 i (BitVec.ofNat 32 g.val)
  | 3, g => k0_off5 i (BitVec.ofNat 32 g.val)

theorem offB_eq (i : grid0.Coords) (l g : Fin 4) : offB i l g = ![4 * ((i 0).val % 4) + g.val, 0, 128 * l.val] := by
  fin_cases l
  · exact off2_eq i g
  · exact off3_eq i g
  · exact off4_eq i g
  · exact off5_eq i g

theorem offB_inb (i : grid0.Coords) (h : k0_cond1 i = 1#1) (l g : Fin 4) (a : Fin 3) :
    offB i l g a + S1x128x128.size a ≤ S16x128x512.size a := by
  fin_cases l
  · exact k0_off2_inb i h g a
  · exact k0_off3_inb i h g a
  · exact k0_off4_inb i h g a
  · exact k0_off5_inb i h g a

set_option maxHeartbeats 2000000 in
/-- The case's stores are these sixteen. -/
theorem runB_pieces (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : k0_cond1 i = 1#1) (hc2 : ¬k0_cond2 i = 1#1) (hc3 : ¬k0_cond3 i = 1#1) (hc4 : ¬k0_cond4 i = 1#1)
    (x1 x2 x3 x4 : Vec F S512x128 .bf16) (x5 : Vec F S3584x2048 .bf16) (b7 b8 : Vec F S16x128x512 .bf16) :
    (runB c i arg1 harg1 arg2 harg2 arg3 harg3 arg4 harg4 arg5 harg5 arg6 harg6 arg7 harg7 arg8 harg8 hc1 hc2 hc3 hc4 x1 x2 x3 x4 x5 b7 b8).1
      = list16 (pieceOf (offB i) (offB_inb i hc1) ![⟨arg1, harg1⟩, ⟨arg2, harg2⟩, ⟨arg3, harg3⟩, ⟨arg4, harg4⟩] ![x1, x2, x3, x4]) := rfl

/-- Where the stores of this case go. -/
def offC (i : grid0.Coords) : Fin 4 → Fin 4 → Fin 3 → ℕ
  | 0, g => k0_off7 i (BitVec.ofNat 32 g.val)
  | 1, g => k0_off8 i (BitVec.ofNat 32 g.val)
  | 2, g => k0_off9 i (BitVec.ofNat 32 g.val)
  | 3, g => k0_off10 i (BitVec.ofNat 32 g.val)

theorem offC_eq (i : grid0.Coords) (l g : Fin 4) : offC i l g = ![4 * ((i 0).val % 4) + g.val, 0, 128 * l.val] := by
  fin_cases l
  · exact off7_eq i g
  · exact off8_eq i g
  · exact off9_eq i g
  · exact off10_eq i g

theorem offC_inb (i : grid0.Coords) (h : k0_cond2 i = 1#1) (l g : Fin 4) (a : Fin 3) :
    offC i l g a + S1x128x128.size a ≤ S16x128x512.size a := by
  fin_cases l
  · exact k0_off7_inb i h g a
  · exact k0_off8_inb i h g a
  · exact k0_off9_inb i h g a
  · exact k0_off10_inb i h g a

set_option maxHeartbeats 2000000 in
/-- The case's stores are these sixteen. -/
theorem runC_pieces (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : k0_cond2 i = 1#1) (hc3 : ¬k0_cond3 i = 1#1) (hc4 : ¬k0_cond4 i = 1#1)
    (x1 x2 x3 x4 : Vec F S512x128 .bf16) (x5 : Vec F S3584x2048 .bf16) (b7 b8 : Vec F S16x128x512 .bf16) :
    (runC c i arg1 harg1 arg2 harg2 arg3 harg3 arg4 harg4 arg5 harg5 arg6 harg6 arg7 harg7 arg8 harg8 hc1 hc2 hc3 hc4 x1 x2 x3 x4 x5 b7 b8).1
      = list16 (pieceOf (offC i) (offC_inb i hc2) ![⟨arg1, harg1⟩, ⟨arg2, harg2⟩, ⟨arg3, harg3⟩, ⟨arg4, harg4⟩] ![x1, x2, x3, x4]) := rfl

end Cert.Wgrad.Hand

end
-- ==== Proof.Wgrad.RunD.lean ====
module

public import proofs.«01_k».proof.Proof.Gen.Wgrad.Frame
public import proofs.«01_k».proof.Proof.Gen.Wgrad.Skeleton
public import Idealize.ShloMosaic.Lib.WholeRead
public import Idealize.ShloMosaic.Lib.VecWindow

@[expose] public section

set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- At the last four points: the body multiplies the first buffer's tile and copies nothing. -/
theorem runD (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : ¬k0_cond2 i = 1#1) (hc3 : ¬k0_cond3 i = 1#1) (hc4 : k0_cond4 i = 1#1)
    (x1 x2 x3 x4 : Vec F S512x128 .bf16) (x5 : Vec F S3584x2048 .bf16) (b7 b8 : Vec F S16x128x512 .bf16) (E : Set ℕ) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare b7 ∗ owns (c : Thread nD τ) arg8 fullShare b8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay5 b7 (arg5.view.readAt (Elt F) (Rect.unit (s := S3584x2048) (k0_off15 i) S896x2048.size (k0_off15_inb i hc4)).toLoadRect (harg5.unread x5))) ∗ owns (c : Thread nD τ) arg7 fullShare b7 ∗ owns (c : Thread nD τ) arg8 fullShare b8) -∗ K ⟨⟩))
          ⊢ wp frame (wpE (defs₀ (F := F)) Variants.none c none) E (cc0_wgrad i arg1 harg1 arg2 harg2 arg3 harg3 arg4 harg4 arg5 harg5 arg6 harg6 arg7 harg7 arg8 harg8) K := by
  simp only [cc0_wgrad_eq_skeleton]; unfold cc0_wgrad_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
  sl_exec (disch := first | sl_exact hc1 | sl_exact hc2 | sl_exact hc3 | sl_exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro; exact (View.read_writes_full _ _ _ _ _).trans (congrArg (fun z => k0_pay5 z _) ((View.readAt_full _ _ _).trans (harg7.read_unread _)))
  isplitl [H7]
  · iexists _; isplitr; · ipureintro; exact harg7.read_unread _
    iexact H7
  iexists _; isplitr; · ipureintro; exact harg8.read_unread _
  iexact H8

end Cert.Wgrad.Hand

end
-- ==== Proof.Wgrad.Tile.lean ====
/- What the two tile buffers hold before each grid point, as a statement about the windows' blocks: no separation logic here. -/
module

public import proofs.«01_k».proof.Proof.Gen.Wgrad.Frame
public import proofs.«01_k».proof.Proof.Gen.Wgrad.Skeleton
public import proofs.«01_k».proof.Proof.Wgrad.Fill
public import proofs.«01_k».proof.Proof.Wgrad.RunD
public import Idealize.ShloMosaic.Lib.Claim
public import Idealize.ShloMosaic.Lib.WholeRead
public import Idealize.ShloMosaic.Lib.VecWindow

@[expose] public section

set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four column windows' blocks at a point. -/
def blkL (c : Dev nD) (t : Fin cfg0.N) : Fin 4 → Vec F S512x128 .bf16 := ![iblk m c 0 t, iblk m c 1 t, iblk m c 2 t, iblk m c 3 t]

/-- The point numbered `n` (modulo the grid). -/
def pt (n : ℕ) : Fin cfg0.N := ⟨n % 152, by rw [show cfg0.N = 152 from N_0]; exact Nat.mod_lt _ (by decide)⟩

theorem pt_val (t : Fin cfg0.N) : pt t.val = t := by
  have h : t.val < 152 := lt_of_lt_of_eq t.isLt (show cfg0.N = 152 from N_0)
  exact Fin.ext (Nat.mod_eq_of_lt h)

/-- Tile `j`: 2048 rows, 512 columns, its rows staged at the points `4 j … 4 j + 3`. -/
def tile (c : Dev nD) (j : ℕ) : Vec F S16x128x512 .bf16 :=
  fun y => blkL m c (pt (4 * j + (y 0).val / 4)) (slabOf y) (slabIx y)

/-- Before point `n`: the buffer being filled holds the first `n % 4` quarters of tile `n / 4`, the other one all of the tile before. -/
def Inv (c : Dev nD) (n : ℕ) (B0 B1 : Vec F S16x128x512 .bf16) : Prop :=
  (n < 148 → ∀ y, (y 0).val / 4 < n % 4 → (if n / 4 % 2 = 0 then B0 else B1) y = tile m c (n / 4) y)
  ∧ (4 ≤ n → (if n / 4 % 2 = 0 then B1 else B0) = tile m c (n / 4 - 1))

theorem inv_zero (c : Dev nD) (B0 B1 : Vec F S16x128x512 .bf16) : Inv m c 0 B0 B1 :=
  ⟨fun _ y h => absurd h (by simp), fun h => absurd h (by decide)⟩

theorem quarter (c : Dev nD) (n : ℕ) (hn : n < 148) (cur cur' : Vec F S16x128x512 .bf16)
    (hc : ∀ y, (y 0).val / 4 < n % 4 → cur y = tile m c (n / 4) y)
    (hf : ∀ y, cur' y = if (y 0).val / 4 = n % 4 then blkL m c (pt n) (slabOf y) (slabIx y) else cur y) (y : S16x128x512.Idx)
    (hy : (y 0).val / 4 < n % 4 + 1) : cur' y = tile m c (n / 4) y := by
  rw [hf]
  by_cases h : (y 0).val / 4 = n % 4
  · rw [if_pos h]
    unfold tile
    rw [h, show 4 * (n / 4) + n % 4 = n from Nat.div_add_mod n 4]
  · rw [if_neg h]
    exact hc y (by omega)

theorem inv_even (c : Dev nD) (n : ℕ) (hn : n < 148) (he : n / 4 % 2 = 0) (B0 B0' B1 : Vec F S16x128x512 .bf16) (h : Inv m c n B0 B1)
    (hf : ∀ y, B0' y = if (y 0).val / 4 = n % 4 then blkL m c (pt n) (slabOf y) (slabIx y) else B0 y) : Inv m c (n + 1) B0' B1 := by
  obtain ⟨h1, h2⟩ := h
  rw [if_pos he] at h1 h2
  have hq := quarter m c n hn B0 B0' (h1 hn) hf
  by_cases h3 : n % 4 = 3
  · have e1 : (n + 1) / 4 = n / 4 + 1 := by omega
    have e2 : ¬(n + 1) / 4 % 2 = 0 := by omega
    refine ⟨fun _ y hy => absurd hy (by omega), fun _ => ?_⟩
    rw [if_neg e2, e1, Nat.add_sub_cancel]
    funext y
    have hy0 : (y 0).val < 16 := (y 0).isLt
    exact hq y (by omega)
  · have e1 : (n + 1) / 4 = n / 4 := by omega
    have e3 : (n + 1) % 4 = n % 4 + 1 := by omega
    refine ⟨fun _ y hy => ?_, fun h4 => ?_⟩
    · rw [e1, if_pos he]; exact hq y (by omega)
    · rw [e1, if_pos he]; exact h2 (by omega)

theorem inv_odd (c : Dev nD) (n : ℕ) (hn : n < 148) (he : ¬n / 4 % 2 = 0) (B0 B1' B1 : Vec F S16x128x512 .bf16) (h : Inv m c n B0 B1)
    (hf : ∀ y, B1' y = if (y 0).val / 4 = n % 4 then blkL m c (pt n) (slabOf y) (slabIx y) else B1 y) : Inv m c (n + 1) B0 B1' := by
  obtain ⟨h1, h2⟩ := h
  rw [if_neg he] at h1 h2
  have hq := quarter m c n hn B1 B1' (h1 hn) hf
  by_cases h3 : n % 4 = 3
  · have e1 : (n + 1) / 4 = n / 4 + 1 := by omega
    have e2 : (n + 1) / 4 % 2 = 0 := by omega
    refine ⟨fun _ y hy => absurd hy (by omega), fun _ => ?_⟩
    rw [if_pos e2, e1, Nat.add_sub_cancel]
    funext y
    have hy0 : (y 0).val < 16 := (y 0).isLt
    exact hq y (by omega)
  · have e1 : (n + 1) / 4 = n / 4 := by omega
    have e3 : (n + 1) % 4 = n % 4 + 1 := by omega
    refine ⟨fun _ y hy => ?_, fun h4 => ?_⟩
    · rw [e1, if_neg he]; exact hq y (by omega)
    · rw [e1, if_neg he]; exact h2 (by omega)

theorem inv_last (c : Dev nD) (n : ℕ) (hn : 148 ≤ n) (hN : n < 152) (B0 B1 : Vec F S16x128x512 .bf16) (h : Inv m c n B0 B1) : Inv m c (n + 1) B0 B1 ∨ n = 151 := by
  by_cases h3 : n = 151
  · exact Or.inr h3
  · refine Or.inl ⟨fun h => absurd h (by omega), fun h4 => ?_⟩
    have e1 : (n + 1) / 4 = n / 4 := by omega
    rw [e1]; exact h.2 (by omega)

/-- The rows of the resident operand a point multiplies. -/
def rowIx (u : ℕ) (hu : u < 4) (x : S896x2048.Idx) : S3584x2048.Idx
  | ⟨0, _⟩ => ⟨896 * u + (x 0).val, by have h1 : (x 0).val < 896 := (x 0).isLt; show _ < 3584; omega⟩
  | ⟨1, _⟩ => x 1
  | ⟨n + 2, h⟩ => absurd h (Nat.not_lt.2 (Nat.le_add_left _ _))

/-- The 896 rows of the resident operand multiplied at point `t`. -/
def rows (c : Dev nD) (t : Fin cfg0.N) : Vec F S896x2048 .bf16 :=
  fun x => (iblk m c 4 t : Vec F S3584x2048 .bf16) (rowIx (t.val % 4) (Nat.mod_lt _ (by decide)) x)

/-- Reading 896 rows at the offsets of a point gives `rows`. -/
theorem rows_read (c : Dev nD) (t : Fin cfg0.N) (off : Fin 2 → ℕ) (inb : ∀ a, off a + S896x2048.size a ≤ S3584x2048.size a)
    (hoff : off = ![896 * (t.val % 4), 0]) {M : Memref sig .tc .vmem S3584x2048 .bf16} (hM : M.IsWhole) :
    M.view.readAt (Elt F) (Rect.unit (s := S3584x2048) off S896x2048.size inb).toLoadRect (hM.unread (iblk m c 4 t)) = rows m c t := by
  subst hoff
  funext x
  refine (hM.readAt_unread _ _ _).trans ?_
  unfold rows
  congr 1
  funext a
  apply Fin.ext
  match a with
  | ⟨0, _⟩ => show 896 * (t.val % 4) + 1 * (x 0).val = 896 * (t.val % 4) + (x 0).val; omega
  | ⟨1, _⟩ => show 0 + 1 * (x 1).val = (x 1).val; omega

/-- The product block written at point `t`: the rows times the tile before the one being filled. -/
def prod (c : Dev nD) (t : Fin cfg0.N) : Vec F S896x512 .f32 := k0_pay5 (tile m c (t.val / 4 - 1)) (rows m c t)

end Cert.Wgrad.Hand

end
-- ==== Proof.Wgrad.Body.lean ====
/- The kernel's run at every grid point, the launch, and the frame. -/
module

public import proofs.«01_k».proof.Proof.Gen.Wgrad.Frame
public import proofs.«01_k».proof.Proof.Gen.Wgrad.Skeleton
public import proofs.«01_k».proof.Proof.Wgrad.Tile
public import proofs.«01_k».proof.Proof.Wgrad.RunD
public import Idealize.ShloMosaic.Lib.Claim
public import Idealize.ShloMosaic.Lib.WholeRead
public import Idealize.ShloMosaic.Lib.VecWindow

@[expose] public section

set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two tile buffers. -/
abbrev scM0 : Memref sig .tc .vmem S16x128x512 .bf16 := Memref.whole cc0_scratch0
abbrev scM1 : Memref sig .tc .vmem S16x128x512 .bf16 := Memref.whole cc0_scratch1

/-- The launch's invariant: both buffers at some contents, and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before point `n`: the buffers at contents the invariant speaks of (after the last point, at any). -/
def PhiS (c : Dev nD) (n : ℕ) (_ : n ≤ cfg0.N) : sProp 𝕄 :=
  iprop(∃ B0 B1, ⌜Inv m c n B0 B1 ∨ n = 152⌝ ∗ owns (c : Thread nD τ) scM0 fullShare B0 ∗ owns (c : Thread nD τ) scM1 fullShare B1 ∗ (∃ r, prngReg c r))

/-- The proof data: the arrays as the launch finds them, each input's buffer at its block, the output's at the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prod m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after0_4]
theorem after0_5 (c : Dev nD) (t : Fin cfg0.N) : (dats m 0 c).after 5 t = prod m c t := by dsimp only [dats]

theorem early_lt (n : ℕ) (hn : n < 4) : n < cfg0.N := lt_of_lt_of_eq (Nat.lt_of_lt_of_le hn (by decide : 4 ≤ 152)) (show 152 = cfg0.N from N_0.symm)

theorem flush5_decided : ∀ (n : ℕ) (hn : n < 4), (cfg0.win 5).flush ⟨n, early_lt n hn⟩ = false := by decide +kernel

/-- The output's block is written back at no point before the fifth. -/
theorem flush5_early (t : Fin cfg0.N) (h : t.val < 4) : (cfg0.win 5).flush t = false := flush5_decided t.val h

theorem leaves0_5_live (c : Dev nD) (t : Fin cfg0.N) (h : cfg0.idle 5 (grid0.coords t) = false) :
    (dats m 0 c).leavesExact 5 t = owns (c : Thread nD τ) (st0_5 t) fullShare (prod m c t) := by
  unfold Dat.leavesExact; rw [h, after0_5]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

section Cases

variable (c : Dev nD) (t : Fin cfg0.N)

theorem cval : ((grid0.coords t) 0).val = t.val := coords0 t

set_option maxHeartbeats 4800000 in
/-- The first four points: the first tile is copied in, nothing is multiplied. -/
theorem sound_A (h : t.val < 4) :
    bodyPre m c t ⊢ wp frame (wpE (defs₀ (F := F)) Variants.none c none) Set.univ (bodyAt0 t) (fun _ => bodyPost m c t) := by
  have hN : t.val < 152 := lt_of_lt_of_eq t.isLt (show cfg0.N = 152 from N_0)
  have hc1 : ¬k0_cond1 (grid0.coords t) = 1#1 := by rw [cond1_iff, cval]; omega
  have hc2 : ¬k0_cond2 (grid0.coords t) = 1#1 := by rw [cond2_iff, cval]; omega
  have hc3 : k0_cond3 (grid0.coords t) = 1#1 := by rw [cond3_iff, cval]; omega
  have hc4 : ¬k0_cond4 (grid0.coords t) = 1#1 := by rw [cond4_iff, cval]; omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2, leaves0_3, leaves0_4]
  rw [(dats m 0 c).leavesExact_idle 5 t (by show (!(k0_cond1 _ == 1#1) && !(k0_cond2 _ == 1#1) && !(k0_cond4 _ == 1#1)) = true; simp [hc1, hc2, hc4]) (flush5_early t h)]
  unfold PhiS
  iintro ⟨⟨%B0, %B1, %hI, HS0, HS1, Hg⟩, Ho, ⟨%d0, H0⟩, ⟨%d1, H1⟩, ⟨%d2, H2⟩, ⟨%d3, H3⟩, ⟨%d4, H4⟩, ⟨%d5, H5⟩⟩
  have hI' : Inv m c t.val B0 B1 := hI.resolve_right (by omega)
  iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0 (Memref.isWhole_whole _) scM1 (Memref.isWhole_whole _) hc1 hc2 hc3 hc4 (iblk m c 0 t) (iblk m c 1 t) (iblk m c 2 t) (iblk m c 3 t) (iblk m c 4 t) ((dats m 0 c).before 5 t d5) B0 B1).2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · iexists _; iexists _; isplitr
    swap
    · isplitl [HS0]; · iexact HS0
      isplitl [HS1]; · iexact HS1
      iexact Hg
    ipureintro
    refine Or.inl (inv_even m c t.val (by omega) (by omega) B0 _ B1 hI' fun y => ?_)
    rw [runA_pieces]
    refine (fill_read _ _ _ _ (t.val % 4) (Nat.mod_lt _ (by decide)) (fun l g => by rw [offA_eq, cval]) _ _ y).trans ?_
    rw [pt_val]
    have e : (![iblk m c 0 t, iblk m c 1 t, iblk m c 2 t, iblk m c 3 t] : Fin 4 → Vec F S512x128 .bf16) = blkL m c t := rfl
    rw [e]
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 4800000 in
/-- An even tile: copied into the first buffer while the second is multiplied. -/
theorem sound_B (h4 : 4 ≤ t.val) (h : t.val < 148) (he : t.val / 4 % 2 = 0) :
    bodyPre m c t ⊢ wp frame (wpE (defs₀ (F := F)) Variants.none c none) Set.univ (bodyAt0 t) (fun _ => bodyPost m c t) := by
  have hN : t.val < 152 := lt_of_lt_of_eq t.isLt (show cfg0.N = 152 from N_0)
  have hc1 : k0_cond1 (grid0.coords t) = 1#1 := by rw [cond1_iff, cval]; omega
  have hc2 : ¬k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2, leaves0_3, leaves0_4]
  rw [leaves0_5_live m c t (by show (!(k0_cond1 _ == 1#1) && !(k0_cond2 _ == 1#1) && !(k0_cond4 _ == 1#1)) = false; simp [hc1])]
  unfold PhiS
  iintro ⟨⟨%B0, %B1, %hI, HS0, HS1, Hg⟩, Ho, ⟨%d0, H0⟩, ⟨%d1, H1⟩, ⟨%d2, H2⟩, ⟨%d3, H3⟩, ⟨%d4, H4⟩, ⟨%d5, H5⟩⟩
  have hI' : Inv m c t.val B0 B1 := hI.resolve_right (by omega)
  iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0 (Memref.isWhole_whole _) scM1 (Memref.isWhole_whole _) hc1 hc2 hc3 hc4 (iblk m c 0 t) (iblk m c 1 t) (iblk m c 2 t) (iblk m c 3 t) (iblk m c 4 t) B0 B1).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · iexists _; iexists _; isplitr
    swap
    · isplitl [HS0]; · iexact HS0
      isplitl [HS1]; · iexact HS1
      iexact Hg
    ipureintro
    refine Or.inl (inv_even m c t.val (by omega) he B0 _ B1 hI' fun y => ?_)
    rw [runB_pieces]
    refine (fill_read _ _ _ _ (t.val % 4) (Nat.mod_lt _ (by decide)) (fun l g => by rw [offB_eq, cval]) _ _ y).trans ?_
    rw [pt_val]
    have e : (![iblk m c 0 t, iblk m c 1 t, iblk m c 2 t, iblk m c 3 t] : Fin 4 → Vec F S512x128 .bf16) = blkL m c t := rfl
    rw [e]
  isplitl [Ho]; · iexact Ho
  isplitl [H0]; · iexact H0
  isplitl [H1]; · iexact H1
  isplitl [H2]; · iexact H2
  isplitl [H3]; · iexact H3
  isplitl [H4]; · iexact H4
  have hB : B1 = tile m c (t.val / 4 - 1) := (by have := hI'.2 (by omega); rwa [if_pos he] at this)
  have hP : k0_pay6 B1 ((st0_4 t).view.readAt (Elt F) (Rect.unit (s := S3584x2048) (k0_off1 (grid0.coords t)) S896x2048.size (k0_off1_inb (grid0.coords t) hc1)).toLoadRect ((hstage0_4 ((cfg0.slots t 4).cast nbuf0_4)).unread (iblk m c 4 t))) = prod m c t := by
    rw [rows_read m c t _ _ (by rw [off1_eq, cval]) _, hB]; rfl
  rw [← hP]
  iexact H5

set_option maxHeartbeats 4800000 in
/-- An odd tile: copied into the second buffer while the first is multiplied. -/
theorem sound_C (h4 : 4 ≤ t.val) (h : t.val < 148) (he : ¬t.val / 4 % 2 = 0) :
    bodyPre m c t ⊢ wp frame (wpE (defs₀ (F := F)) Variants.none c none) Set.univ (bodyAt0 t) (fun _ => bodyPost m c t) := by
  have hN : t.val < 152 := lt_of_lt_of_eq t.isLt (show cfg0.N = 152 from N_0)
  have hc1 : ¬k0_cond1 (grid0.coords t) = 1#1 := by rw [cond1_iff, cval]; omega
  have hc2 : k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2, leaves0_3, leaves0_4]
  rw [leaves0_5_live m c t (by show (!(k0_cond1 _ == 1#1) && !(k0_cond2 _ == 1#1) && !(k0_cond4 _ == 1#1)) = false; simp [hc2])]
  unfold PhiS
  iintro ⟨⟨%B0, %B1, %hI, HS0, HS1, Hg⟩, Ho, ⟨%d0, H0⟩, ⟨%d1, H1⟩, ⟨%d2, H2⟩, ⟨%d3, H3⟩, ⟨%d4, H4⟩, ⟨%d5, H5⟩⟩
  have hI' : Inv m c t.val B0 B1 := hI.resolve_right (by omega)
  iapply ((runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0 (Memref.isWhole_whole _) scM1 (Memref.isWhole_whole _) hc1 hc2 hc3 hc4 (iblk m c 0 t) (iblk m c 1 t) (iblk m c 2 t) (iblk m c 3 t) (iblk m c 4 t) B0 B1).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · iexists _; iexists _; isplitr
    swap
    · isplitl [HS0]; · iexact HS0
      isplitl [HS1]; · iexact HS1
      iexact Hg
    ipureintro
    refine Or.inl (inv_odd m c t.val (by omega) he B0 _ B1 hI' fun y => ?_)
    rw [runC_pieces]
    refine (fill_read _ _ _ _ (t.val % 4) (Nat.mod_lt _ (by decide)) (fun l g => by rw [offC_eq, cval]) _ _ y).trans ?_
    rw [pt_val]
    have e : (![iblk m c 0 t, iblk m c 1 t, iblk m c 2 t, iblk m c 3 t] : Fin 4 → Vec F S512x128 .bf16) = blkL m c t := rfl
    rw [e]
  isplitl [Ho]; · iexact Ho
  isplitl [H0]; · iexact H0
  isplitl [H1]; · iexact H1
  isplitl [H2]; · iexact H2
  isplitl [H3]; · iexact H3
  isplitl [H4]; · iexact H4
  have hB : B0 = tile m c (t.val / 4 - 1) := (by have := hI'.2 (by omega); rwa [if_neg he] at this)
  have hP : k0_pay25 B0 ((st0_4 t).view.readAt (Elt F) (Rect.unit (s := S3584x2048) (k0_off6 (grid0.coords t)) S896x2048.size (k0_off6_inb (grid0.coords t) hc2)).toLoadRect ((hstage0_4 ((cfg0.slots t 4).cast nbuf0_4)).unread (iblk m c 4 t))) = prod m c t := by
    rw [rows_read m c t _ _ (by rw [off6_eq, cval]) _, hB]; rfl
  rw [← hP]
  iexact H5

set_option maxHeartbeats 4800000 in
/-- The last four points: the last tile is multiplied. -/
theorem sound_D (h : 148 ≤ t.val) :
    bodyPre m c t ⊢ wp frame (wpE (defs₀ (F := F)) Variants.none c none) Set.univ (bodyAt0 t) (fun _ => bodyPost m c t) := by
  have hN : t.val < 152 := lt_of_lt_of_eq t.isLt (show cfg0.N = 152 from N_0)
  have hc1 : ¬k0_cond1 (grid0.coords t) = 1#1 := by rw [cond1_iff, cval]; omega
  have hc2 : ¬k0_cond2 (grid0.coords t) = 1#1 := by rw [cond2_iff, cval]; omega
  have hc3 : ¬k0_cond3 (grid0.coords t) = 1#1 := by rw [cond3_iff, cval]; omega
  have hc4 : k0_cond4 (grid0.coords t) = 1#1 := by rw [cond4_iff, cval]; omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2, leaves0_3, leaves0_4]
  rw [leaves0_5_live m c t (by show (!(k0_cond1 _ == 1#1) && !(k0_cond2 _ == 1#1) && !(k0_cond4 _ == 1#1)) = false; simp [hc4])]
  unfold PhiS
  iintro ⟨⟨%B0, %B1, %hI, HS0, HS1, Hg⟩, Ho, ⟨%d0, H0⟩, ⟨%d1, H1⟩, ⟨%d2, H2⟩, ⟨%d3, H3⟩, ⟨%d4, H4⟩, ⟨%d5, H5⟩⟩
  have hI' : Inv m c t.val B0 B1 := hI.resolve_right (by omega)
  iapply (runD c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0 (Memref.isWhole_whole _) scM1 (Memref.isWhole_whole _) hc1 hc2 hc3 hc4 (iblk m c 0 t) (iblk m c 1 t) (iblk m c 2 t) (iblk m c 3 t) (iblk m c 4 t) B0 B1 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · iexists _; iexists _; isplitr
    swap
    · isplitl [HS0]; · iexact HS0
      isplitl [HS1]; · iexact HS1
      iexact Hg
    ipureintro
    exact (inv_last m c t.val h hN B0 B1 hI').imp id (by omega)
  isplitl [Ho]; · iexact Ho
  isplitl [H0]; · iexact H0
  isplitl [H1]; · iexact H1
  isplitl [H2]; · iexact H2
  isplitl [H3]; · iexact H3
  isplitl [H4]; · iexact H4
  have hB : B0 = tile m c (t.val / 4 - 1) := (by have := hI'.2 (by omega); rwa [if_neg (by omega)] at this)
  have hP : k0_pay5 B0 ((st0_4 t).view.readAt (Elt F) (Rect.unit (s := S3584x2048) (k0_off15 (grid0.coords t)) S896x2048.size (k0_off15_inb (grid0.coords t) hc4)).toLoadRect ((hstage0_4 ((cfg0.slots t 4).cast nbuf0_4)).unread (iblk m c 4 t))) = prod m c t := by
    rw [rows_read m c t _ _ (by rw [off15_eq, cval]) _, hB]; rfl
  rw [← hP]
  iexact H5

end Cases

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h4 : t.val < 4
  · exact sound_A m c t h4
  · by_cases h : t.val < 148
    · by_cases he : t.val / 4 % 2 = 0
      · exact sound_B m c t (by omega) h he
      · exact sound_C m c t (by omega) h he
    · exact sound_D m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%B0, HS0⟩, ⟨%B1, HS1⟩⟩, Hg⟩
  iexists B0; iexists B1; isplitr
  · ipureintro; exact Or.inl (inv_zero m c B0 B1)
  isplitl [HS0]; · iexact HS0
  isplitl [HS1]; · iexact HS1
  iexact Hg

theorem hout (c : Dev nD) : (dats m 0 c).Φ (Fin.last cfg0.N) ⊢ Pipeline.ΦA spec0 c := by
  rw [show (dats m 0 c).Φ (Fin.last cfg0.N) = PhiS m c cfg0.N (le_refl _) from rfl, PhiA0_eq]
  unfold PhiS
  iintro ⟨%B0, %B1, -, HS0, HS1, Hg⟩
  isplitl [HS0 HS1]
  · isplitl [HS0]
    · iexists B0; iexact HS0
    iexists B1; iexact HS1
  iexact Hg

set_option backward.isDefEq.respectTransparency.types false in
/-- The launch, and every semaphore counter at zero afterwards. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Wgrad.Hand

end
-- ==== Proof.WgradIdeal.RunA.lean ====
module

public import proofs.«01_k».proof.Proof.Gen.WgradIdeal.Frame
public import proofs.«01_k».proof.Proof.Gen.WgradIdeal.Skeleton
public import Idealize.ShloMosaic.Lib.WholeRead
public import Idealize.ShloMosaic.Lib.VecWindow

@[expose] public section

set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- At the first four points (no product yet): the body copies its slab rows into the first buffer and leaves the second and the output's buffer as they were. -/
def runA (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : ¬k0_cond2 i = 1#1) (hc3 : k0_cond3 i = 1#1) (hc4 : ¬k0_cond4 i = 1#1)
    (x1 x2 x3 x4 : Vec F S512x128 .bf16) (x5 : Vec F S3584x2048 .bf16) (x6 : Vec F S896x512 .f32) (b7 b8 : Vec F S16x128x512 .bf16) :
    { L : List (View.Piece (Elt F) S16x128x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare b7 ∗ owns (c : Thread nD τ) arg8 fullShare b8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (arg7.view.read (Elt F) (arg7.view.writes (Elt F) (harg7.unread b7) L)) ∗ owns (c : Thread nD τ) arg8 fullShare b8) -∗ K ⟨⟩))
          ⊢ wp frame (wpE (defs₀ (F := F)) Variants.none c none) E (cc0_wgrad i arg1 harg1 arg2 harg2 arg3 harg3 arg4 harg4 arg5 harg5 arg6 harg6 arg7 harg7 arg8 harg8) K } := by
  refine ⟨?_, fun E K => ?run⟩
  case run =>
    simp only [cc0_wgrad_eq_skeleton]; unfold cc0_wgrad_skel
    simp only [k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro; rfl
    iexists _; isplitr; · ipureintro; exact harg8.read_unread _
    iexact H8

end Cert.WgradIdeal.Hand

end
-- ==== Proof.WgradIdeal.Points.lean ====
/- The grid's arithmetic: what the body's conditions and offsets are at the 152 points. -/
module

public import proofs.«01_k».proof.Proof.Gen.WgradIdeal.Frame
public import proofs.«01_k».proof.Proof.Gen.WgradIdeal.Skeleton

@[expose] public section

set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The coordinates of the point with number `n`. -/
def mk (n : Fin 152) : grid0.Coords := fun | ⟨0, _⟩ => n

theorem eq_mk (i : grid0.Coords) : i = mk (i 0) := by
  funext a
  match a with
  | ⟨0, _⟩ => rfl

theorem coords0 (t : Fin cfg0.N) : (grid0.coords t 0).val = t.val := by
  have ht : t.val < 152 := Nat.lt_of_lt_of_eq t.isLt N_0
  have e : (grid0.coords t 0).val = t.val / 1 % 152 := Pipeline.Grid.coords_val t 0 (by decide) rfl
  rw [e]; omega

theorem off2_eq (i : grid0.Coords) (g : Fin 4) :
    k0_off2 i (BitVec.ofNat 32 g.val) = ![4 * ((i 0).val % 4) + g.val, 0, 0] := by
  have h : ∀ n : Fin 152, ∀ g : Fin 4, k0_off2 (mk n) (BitVec.ofNat 32 g.val) = ![4 * (n.val % 4) + g.val, 0, 0] := by
    decide +kernel
  rw [eq_mk i]; exact h _ g
instance (i : grid0.Coords) : ClosedOff (k0_off2 i 0#32) := ⟨![4 * ((i 0).val % 4) + 0, 0, 0], off2_eq i 0⟩
instance (i : grid0.Coords) : ClosedOff (k0_off2 i 1#32) := ⟨![4 * ((i 0).val % 4) + 1, 0, 0], off2_eq i 1⟩
instance (i : grid0.Coords) : ClosedOff (k0_off2 i 2#32) := ⟨![4 * ((i 0).val % 4) + 2, 0, 0], off2_eq i 2⟩
instance (i : grid0.Coords) : ClosedOff (k0_off2 i 3#32) := ⟨![4 * ((i 0).val % 4) + 3, 0, 0], off2_eq i 3⟩
theorem off3_eq (i : grid0.Coords) (g : Fin 4) :
    k0_off3 i (BitVec.ofNat 32 g.val) = ![4 * ((i 0).val % 4) + g.val, 0, 128] := by
  have h : ∀ n : Fin 152, ∀ g : Fin 4, k0_off3 (mk n) (BitVec.ofNat 32 g.val) = ![4 * (n.val % 4) + g.val, 0, 128] := by
    decide +kernel
  rw [eq_mk i]; exact h _ g
instance (i : grid0.Coords) : ClosedOff (k0_off3 i 0#32) := ⟨![4 * ((i 0).val % 4) + 0, 0, 128], off3_eq i 0⟩
instance (i : grid0.Coords) : ClosedOff (k0_off3 i 1#32) := ⟨![4 * ((i 0).val % 4) + 1, 0, 128], off3_eq i 1⟩
instance (i : grid0.Coords) : ClosedOff (k0_off3 i 2#32) := ⟨![4 * ((i 0).val % 4) + 2, 0, 128], off3_eq i 2⟩
instance (i : grid0.Coords) : ClosedOff (k0_off3 i 3#32) := ⟨![4 * ((i 0).val % 4) + 3, 0, 128], off3_eq i 3⟩
theorem off4_eq (i : grid0.Coords) (g : Fin 4) :
    k0_off4 i (BitVec.ofNat 32 g.val) = ![4 * ((i 0).val % 4) + g.val, 0, 256] := by
  have h : ∀ n : Fin 152, ∀ g : Fin 4, k0_off4 (mk n) (BitVec.ofNat 32 g.val) = ![4 * (n.val % 4) + g.val, 0, 256] := by
    decide +kernel
  rw [eq_mk i]; exact h _ g
instance (i : grid0.Coords) : ClosedOff (k0_off4 i 0#32) := ⟨![4 * ((i 0).val % 4) + 0, 0, 256], off4_eq i 0⟩
instance (i : grid0.Coords) : ClosedOff (k0_off4 i 1#32) := ⟨![4 * ((i 0).val % 4) + 1, 0, 256], off4_eq i 1⟩
instance (i : grid0.Coords) : ClosedOff (k0_off4 i 2#32) := ⟨![4 * ((i 0).val % 4) + 2, 0, 256], off4_eq i 2⟩
instance (i : grid0.Coords) : ClosedOff (k0_off4 i 3#32) := ⟨![4 * ((i 0).val % 4) + 3, 0, 256], off4_eq i 3⟩
theorem off5_eq (i : grid0.Coords) (g : Fin 4) :
    k0_off5 i (BitVec.ofNat 32 g.val) = ![4 * ((i 0).val % 4) + g.val, 0, 384] := by
  have h : ∀ n : Fin 152, ∀ g : Fin 4, k0_off5 (mk n) (BitVec.ofNat 32 g.val) = ![4 * (n.val % 4) + g.val, 0, 384] := by
    decide +kernel
  rw [eq_mk i]; exact h _ g
instance (i : grid0.Coords) : ClosedOff (k0_off5 i 0#32) := ⟨![4 * ((i 0).val % 4) + 0, 0, 384], off5_eq i 0⟩
instance (i : grid0.Coords) : ClosedOff (k0_off5 i 1#32) := ⟨![4 * ((i 0).val % 4) + 1, 0, 384], off5_eq i 1⟩
instance (i : grid0.Coords) : ClosedOff (k0_off5 i 2#32) := ⟨![4 * ((i 0).val % 4) + 2, 0, 384], off5_eq i 2⟩
instance (i : grid0.Coords) : ClosedOff (k0_off5 i 3#32) := ⟨![4 * ((i 0).val % 4) + 3, 0, 384], off5_eq i 3⟩
theorem off7_eq (i : grid0.Coords) (g : Fin 4) :
    k0_off7 i (BitVec.ofNat 32 g.val) = ![4 * ((i 0).val % 4) + g.val, 0, 0] := by
  have h : ∀ n : Fin 152, ∀ g : Fin 4, k0_off7 (mk n) (BitVec.ofNat 32 g.val) = ![4 * (n.val % 4) + g.val, 0, 0] := by
    decide +kernel
  rw [eq_mk i]; exact h _ g
instance (i : grid0.Coords) : ClosedOff (k0_off7 i 0#32) := ⟨![4 * ((i 0).val % 4) + 0, 0, 0], off7_eq i 0⟩
instance (i : grid0.Coords) : ClosedOff (k0_off7 i 1#32) := ⟨![4 * ((i 0).val % 4) + 1, 0, 0], off7_eq i 1⟩
instance (i : grid0.Coords) : ClosedOff (k0_off7 i 2#32) := ⟨![4 * ((i 0).val % 4) + 2, 0, 0], off7_eq i 2⟩
instance (i : grid0.Coords) : ClosedOff (k0_off7 i 3#32) := ⟨![4 * ((i 0).val % 4) + 3, 0, 0], off7_eq i 3⟩
theorem off8_eq (i : grid0.Coords) (g : Fin 4) :
    k0_off8 i (BitVec.ofNat 32 g.val) = ![4 * ((i 0).val % 4) + g.val, 0, 128] := by
  have h : ∀ n : Fin 152, ∀ g : Fin 4, k0_off8 (mk n) (BitVec.ofNat 32 g.val) = ![4 * (n.val % 4) + g.val, 0, 128] := by
    decide +kernel
  rw [eq_mk i]; exact h _ g
instance (i : grid0.Coords) : ClosedOff (k0_off8 i 0#32) := ⟨![4 * ((i 0).val % 4) + 0, 0, 128], off8_eq i 0⟩
instance (i : grid0.Coords) : ClosedOff (k0_off8 i 1#32) := ⟨![4 * ((i 0).val % 4) + 1, 0, 128], off8_eq i 1⟩
instance (i : grid0.Coords) : ClosedOff (k0_off8 i 2#32) := ⟨![4 * ((i 0).val % 4) + 2, 0, 128], off8_eq i 2⟩
instance (i : grid0.Coords) : ClosedOff (k0_off8 i 3#32) := ⟨![4 * ((i 0).val % 4) + 3, 0, 128], off8_eq i 3⟩
theorem off9_eq (i : grid0.Coords) (g : Fin 4) :
    k0_off9 i (BitVec.ofNat 32 g.val) = ![4 * ((i 0).val % 4) + g.val, 0, 256] := by
  have h : ∀ n : Fin 152, ∀ g : Fin 4, k0_off9 (mk n) (BitVec.ofNat 32 g.val) = ![4 * (n.val % 4) + g.val, 0, 256] := by
    decide +kernel
  rw [eq_mk i]; exact h _ g
instance (i : grid0.Coords) : ClosedOff (k0_off9 i 0#32) := ⟨![4 * ((i 0).val % 4) + 0, 0, 256], off9_eq i 0⟩
instance (i : grid0.Coords) : ClosedOff (k0_off9 i 1#32) := ⟨![4 * ((i 0).val % 4) + 1, 0, 256], off9_eq i 1⟩
instance (i : grid0.Coords) : ClosedOff (k0_off9 i 2#32) := ⟨![4 * ((i 0).val % 4) + 2, 0, 256], off9_eq i 2⟩
instance (i : grid0.Coords) : ClosedOff (k0_off9 i 3#32) := ⟨![4 * ((i 0).val % 4) + 3, 0, 256], off9_eq i 3⟩
theorem off10_eq (i : grid0.Coords) (g : Fin 4) :
    k0_off10 i (BitVec.ofNat 32 g.val) = ![4 * ((i 0).val % 4) + g.val, 0, 384] := by
  have h : ∀ n : Fin 152, ∀ g : Fin 4, k0_off10 (mk n) (BitVec.ofNat 32 g.val) = ![4 * (n.val % 4) + g.val, 0, 384] := by
    decide +kernel
  rw [eq_mk i]; exact h _ g
instance (i : grid0.Coords) : ClosedOff (k0_off10 i 0#32) := ⟨![4 * ((i 0).val % 4) + 0, 0, 384], off10_eq i 0⟩
instance (i : grid0.Coords) : ClosedOff (k0_off10 i 1#32) := ⟨![4 * ((i 0).val % 4) + 1, 0, 384], off10_eq i 1⟩
instance (i : grid0.Coords) : ClosedOff (k0_off10 i 2#32) := ⟨![4 * ((i 0).val % 4) + 2, 0, 384], off10_eq i 2⟩
instance (i : grid0.Coords) : ClosedOff (k0_off10 i 3#32) := ⟨![4 * ((i 0).val % 4) + 3, 0, 384], off10_eq i 3⟩
theorem off11_eq (i : grid0.Coords) (g : Fin 4) :
    k0_off11 i (BitVec.ofNat 32 g.val) = ![4 * ((i 0).val % 4) + g.val, 0, 0] := by
  have h : ∀ n : Fin 152, ∀ g : Fin 4, k0_off11 (mk n) (BitVec.ofNat 32 g.val) = ![4 * (n.val % 4) + g.val, 0, 0] := by
    decide +kernel
  rw [eq_mk i]; exact h _ g
instance (i : grid0.Coords) : ClosedOff (k0_off11 i 0#32) := ⟨![4 * ((i 0).val % 4) + 0, 0, 0], off11_eq i 0⟩
instance (i : grid0.Coords) : ClosedOff (k0_off11 i 1#32) := ⟨![4 * ((i 0).val % 4) + 1, 0, 0], off11_eq i 1⟩
instance (i : grid0.Coords) : ClosedOff (k0_off11 i 2#32) := ⟨![4 * ((i 0).val % 4) + 2, 0, 0], off11_eq i 2⟩
instance (i : grid0.Coords) : ClosedOff (k0_off11 i 3#32) := ⟨![4 * ((i 0).val % 4) + 3, 0, 0], off11_eq i 3⟩
theorem off12_eq (i : grid0.Coords) (g : Fin 4) :
    k0_off12 i (BitVec.ofNat 32 g.val) = ![4 * ((i 0).val % 4) + g.val, 0, 128] := by
  have h : ∀ n : Fin 152, ∀ g : Fin 4, k0_off12 (mk n) (BitVec.ofNat 32 g.val) = ![4 * (n.val % 4) + g.val, 0, 128] := by
    decide +kernel
  rw [eq_mk i]; exact h _ g
instance (i : grid0.Coords) : ClosedOff (k0_off12 i 0#32) := ⟨![4 * ((i 0).val % 4) + 0, 0, 128], off12_eq i 0⟩
instance (i : grid0.Coords) : ClosedOff (k0_off12 i 1#32) := ⟨![4 * ((i 0).val % 4) + 1, 0, 128], off12_eq i 1⟩
instance (i : grid0.Coords) : ClosedOff (k0_off12 i 2#32) := ⟨![4 * ((i 0).val % 4) + 2, 0, 128], off12_eq i 2⟩
instance (i : grid0.Coords) : ClosedOff (k0_off12 i 3#32) := ⟨![4 * ((i 0).val % 4) + 3, 0, 128], off12_eq i 3⟩
theorem off13_eq (i : grid0.Coords) (g : Fin 4) :
    k0_off13 i (BitVec.ofNat 32 g.val) = ![4 * ((i 0).val % 4) + g.val, 0, 256] := by
  have h : ∀ n : Fin 152, ∀ g : Fin 4, k0_off13 (mk n) (BitVec.ofNat 32 g.val) = ![4 * (n.val % 4) + g.val, 0, 256] := by
    decide +kernel
  rw [eq_mk i]; exact h _ g
instance (i : grid0.Coords) : ClosedOff (k0_off13 i 0#32) := ⟨![4 * ((i 0).val % 4) + 0, 0, 256], off13_eq i 0⟩
instance (i : grid0.Coords) : ClosedOff (k0_off13 i 1#32) := ⟨![4 * ((i 0).val % 4) + 1, 0, 256], off13_eq i 1⟩
instance (i : grid0.Coords) : ClosedOff (k0_off13 i 2#32) := ⟨![4 * ((i 0).val % 4) + 2, 0, 256], off13_eq i 2⟩
instance (i : grid0.Coords) : ClosedOff (k0_off13 i 3#32) := ⟨![4 * ((i 0).val % 4) + 3, 0, 256], off13_eq i 3⟩
theorem off14_eq (i : grid0.Coords) (g : Fin 4) :
    k0_off14 i (BitVec.ofNat 32 g.val) = ![4 * ((i 0).val % 4) + g.val, 0, 384] := by
  have h : ∀ n : Fin 152, ∀ g : Fin 4, k0_off14 (mk n) (BitVec.ofNat 32 g.val) = ![4 * (n.val % 4) + g.val, 0, 384] := by
    decide +kernel
  rw [eq_mk i]; exact h _ g
instance (i : grid0.Coords) : ClosedOff (k0_off14 i 0#32) := ⟨![4 * ((i 0).val % 4) + 0, 0, 384], off14_eq i 0⟩
instance (i : grid0.Coords) : ClosedOff (k0_off14 i 1#32) := ⟨![4 * ((i 0).val % 4) + 1, 0, 384], off14_eq i 1⟩
instance (i : grid0.Coords) : ClosedOff (k0_off14 i 2#32) := ⟨![4 * ((i 0).val % 4) + 2, 0, 384], off14_eq i 2⟩
instance (i : grid0.Coords) : ClosedOff (k0_off14 i 3#32) := ⟨![4 * ((i 0).val % 4) + 3, 0, 384], off14_eq i 3⟩
theorem off1_eq (i : grid0.Coords) : k0_off1 i = ![896 * ((i 0).val % 4), 0] := by
  have h : ∀ n : Fin 152, k0_off1 (mk n) = ![896 * (n.val % 4), 0] := by decide +kernel
  rw [eq_mk i]; exact h _
theorem off6_eq (i : grid0.Coords) : k0_off6 i = ![896 * ((i 0).val % 4), 0] := by
  have h : ∀ n : Fin 152, k0_off6 (mk n) = ![896 * (n.val % 4), 0] := by decide +kernel
  rw [eq_mk i]; exact h _
theorem off15_eq (i : grid0.Coords) : k0_off15 i = ![896 * ((i 0).val % 4), 0] := by
  have h : ∀ n : Fin 152, k0_off15 (mk n) = ![896 * (n.val % 4), 0] := by decide +kernel
  rw [eq_mk i]; exact h _
theorem cond1_iff (i : grid0.Coords) : k0_cond1 i = 1#1 ↔ ((i 0).val % 8 < 4 ∧ 4 ≤ (i 0).val ∧ (i 0).val < 148) := by
  have h : ∀ n : Fin 152, k0_cond1 (mk n) = 1#1 ↔ (n.val % 8 < 4 ∧ 4 ≤ n.val ∧ n.val < 148) := by decide +kernel
  rw [eq_mk i]; exact h _
theorem cond2_iff (i : grid0.Coords) : k0_cond2 i = 1#1 ↔ (4 ≤ (i 0).val % 8 ∧ (i 0).val < 148) := by
  have h : ∀ n : Fin 152, k0_cond2 (mk n) = 1#1 ↔ (4 ≤ n.val % 8 ∧ n.val < 148) := by decide +kernel
  rw [eq_mk i]; exact h _
theorem cond3_iff (i : grid0.Coords) : k0_cond3 i = 1#1 ↔ ((i 0).val < 4) := by
  have h : ∀ n : Fin 152, k0_cond3 (mk n) = 1#1 ↔ (n.val < 4) := by decide +kernel
  rw [eq_mk i]; exact h _
theorem cond4_iff (i : grid0.Coords) : k0_cond4 i = 1#1 ↔ (148 ≤ (i 0).val) := by
  have h : ∀ n : Fin 152, k0_cond4 (mk n) = 1#1 ↔ (148 ≤ n.val) := by decide +kernel
  rw [eq_mk i]; exact h _

end Cert.WgradIdeal.Hand

end
-- ==== Proof.WgradIdeal.RunB.lean ====
module

public import proofs.«01_k».proof.Proof.Gen.WgradIdeal.Frame
public import proofs.«01_k».proof.Proof.Gen.WgradIdeal.Skeleton
public import proofs.«01_k».proof.Proof.WgradIdeal.Points
public import Idealize.ShloMosaic.Lib.WholeRead
public import Idealize.ShloMosaic.Lib.VecWindow

@[expose] public section

set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- At an even tile but the first: the body multiplies the second buffer's tile and copies its slab rows into the first. -/
def runB (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : k0_cond1 i = 1#1) (hc2 : ¬k0_cond2 i = 1#1) (hc3 : ¬k0_cond3 i = 1#1) (hc4 : ¬k0_cond4 i = 1#1)
    (x1 x2 x3 x4 : Vec F S512x128 .bf16) (x5 : Vec F S3584x2048 .bf16) (b7 b8 : Vec F S16x128x512 .bf16) :
    { L : List (View.Piece (Elt F) S16x128x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare b7 ∗ owns (c : Thread nD τ) arg8 fullShare b8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay6 b8 (arg5.view.readAt (Elt F) (Rect.unit (s := S3584x2048) (k0_off1 i) S896x2048.size (k0_off1_inb i hc1)).toLoadRect (harg5.unread x5))) ∗ owns (c : Thread nD τ) arg7 fullShare (arg7.view.read (Elt F) (arg7.view.writes (Elt F) (harg7.unread b7) L)) ∗ owns (c : Thread nD τ) arg8 fullShare b8) -∗ K ⟨⟩))
          ⊢ wp frame (wpE (defs₀ (F := F)) Variants.none c none) E (cc0_wgrad i arg1 harg1 arg2 harg2 arg3 harg3 arg4 harg4 arg5 harg5 arg6 harg6 arg7 harg7 arg8 harg8) K } := by
  refine ⟨?_, fun E K => ?run⟩
  case run =>
    simp only [cc0_wgrad_eq_skeleton]; unfold cc0_wgrad_skel
    simp only [k0_part1_eq_skeleton, k0_part2_eq_skeleton, k0_part3_eq_skeleton, k0_part4_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; exact (View.read_writes_full _ _ _ _ _).trans (congrArg (fun z => k0_pay6 z _) ((View.readAt_full _ _ _).trans (harg8.read_unread _)))
    isplitl [H7]
    · iexists _; isplitr; swap; · iexact H7
      ipureintro; rfl
    iexists _; isplitr; · ipureintro; exact harg8.read_unread _
    iexact H8

end Cert.WgradIdeal.Hand

end
-- ==== Proof.WgradIdeal.RunC.lean ====
module

public import proofs.«01_k».proof.Proof.Gen.WgradIdeal.Frame
public import proofs.«01_k».proof.Proof.Gen.WgradIdeal.Skeleton
public import proofs.«01_k».proof.Proof.WgradIdeal.Points
public import Idealize.ShloMosaic.Lib.WholeRead
public import Idealize.ShloMosaic.Lib.VecWindow

@[expose] public section

set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- At an odd tile but the last: the body multiplies the first buffer's tile and copies its slab rows into the second. -/
def runC (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : k0_cond2 i = 1#1) (hc3 : ¬k0_cond3 i = 1#1) (hc4 : ¬k0_cond4 i = 1#1)
    (x1 x2 x3 x4 : Vec F S512x128 .bf16) (x5 : Vec F S3584x2048 .bf16) (b7 b8 : Vec F S16x128x512 .bf16) :
    { L : List (View.Piece (Elt F) S16x128x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare b7 ∗ owns (c : Thread nD τ) arg8 fullShare b8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay25 b7 (arg5.view.readAt (Elt F) (Rect.unit (s := S3584x2048) (k0_off6 i) S896x2048.size (k0_off6_inb i hc2)).toLoadRect (harg5.unread x5))) ∗ owns (c : Thread nD τ) arg7 fullShare b7 ∗ owns (c : Thread nD τ) arg8 fullShare (arg8.view.read (Elt F) (arg8.view.writes (Elt F) (harg8.unread b8) L))) -∗ K ⟨⟩))
          ⊢ wp frame (wpE (defs₀ (F := F)) Variants.none c none) E (cc0_wgrad i arg1 harg1 arg2 harg2 arg3 harg3 arg4 harg4 arg5 harg5 arg6 harg6 arg7 harg7 arg8 harg8) K } := by
  refine ⟨?_, fun E K => ?run⟩
  case run =>
    simp only [cc0_wgrad_eq_skeleton]; unfold cc0_wgrad_skel
    simp only [k0_part5_eq_skeleton, k0_part6_eq_skeleton, k0_part7_eq_skeleton, k0_part8_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; exact (View.read_writes_full _ _ _ _ _).trans (congrArg (fun z => k0_pay25 z _) ((View.readAt_full _ _ _).trans (harg7.read_unread _)))
    isplitl [H7]
    · iexists _; isplitr; · ipureintro; exact harg7.read_unread _
      iexact H7
    iexists _; isplitr; swap; · iexact H8
    ipureintro; rfl

end Cert.WgradIdeal.Hand

end
-- ==== Proof.WgradIdeal.Fill.lean ====
/- Sixteen 128x128 stores, side by side, into four of a buffer's sixteen 128-row chunks: what the buffer then holds. -/
module

public import proofs.«01_k».proof.Proof.Gen.WgradIdeal.Frame
public import proofs.«01_k».proof.Proof.Gen.WgradIdeal.Skeleton
public import proofs.«01_k».proof.Proof.WgradIdeal.RunA
public import proofs.«01_k».proof.Proof.WgradIdeal.RunB
public import proofs.«01_k».proof.Proof.WgradIdeal.RunC
public import Idealize.ShloMosaic.Lib.WholeRead
public import Idealize.ShloMosaic.Lib.VecWindow

@[expose] public section

set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A 128x128 block as the body stores it: with a leading axis of one. -/
def cp (v : Vec F S128x128 .bf16) : FVec F S1x128x128 .bf16 :=
  shapeCast S1x128x128 (shapeCast S128x128 v shapeCasts_S128x128_S128x128) shapeCasts_S128x128_S1x128x128

/-- The index of a 128x128 block under which an element of the stored block sits. -/
def ix2 (x : S1x128x128.Idx) : S128x128.Idx := fun a => x a.succ

theorem cp_apply (v : Vec F S128x128 .bf16) (x : S1x128x128.Idx) : cp v x = v (ix2 x) := by
  unfold cp
  rw [shapeCast_self]
  exact shapeCast_addUnit_apply _ v _ x

/-- A list of sixteen, from four by four. -/
def list16 {α : Type} (p : Fin 4 → Fin 4 → α) : List α :=
  [p 3 3, p 2 3, p 1 3, p 0 3, p 3 2, p 2 2, p 1 2, p 0 2, p 3 1, p 2 1, p 1 1, p 0 1, p 3 0, p 2 0, p 1 0, p 0 0]

theorem mem_list16 {α : Type} (p : Fin 4 → Fin 4 → α) (l g : Fin 4) : p l g ∈ list16 p := by
  unfold list16; fin_cases l <;> fin_cases g <;> simp

theorem of_mem_list16 {α : Type} (p : Fin 4 → Fin 4 → α) (q : α) (h : q ∈ list16 p) : ∃ l g, q = p l g := by
  unfold list16 at h
  simp only [List.mem_cons, List.not_mem_nil, or_false] at h
  rcases h with h | h | h | h | h | h | h | h | h | h | h | h | h | h | h | h <;> exact ⟨_, _, h⟩

/-- The element of the slab's row block that lands on element `y` of the buffer. -/
def slabIx (y : S16x128x512.Idx) : S512x128.Idx
  | ⟨0, _⟩ => ⟨((y 0).val % 4) * 128 + (y 1).val, by have h1 : (y 1).val < 128 := (y 1).isLt; show _ < 512; omega⟩
  | ⟨1, _⟩ => ⟨(y 2).val % 128, Nat.mod_lt _ (by decide)⟩
  | ⟨n + 2, h⟩ => absurd h (Nat.not_lt.2 (Nat.le_add_left _ _))

/-- Which of the four windows element `y` of the buffer comes from. -/
def slabOf (y : S16x128x512.Idx) : Fin 4 := ⟨(y 2).val / 128, by have h : (y 2).val < 512 := (y 2).isLt; omega⟩

section

variable (off : Fin 4 → Fin 4 → Fin 3 → ℕ) (inb : ∀ l g a, off l g a + S1x128x128.size a ≤ S16x128x512.size a)
    (M : Fin 4 → { m : Memref sig .tc .vmem S512x128 .bf16 // m.IsWhole }) (X : Fin 4 → Vec F S512x128 .bf16)

/-- The rows a block is read from lie in the slab. -/
theorem rowsInb (g : Fin 4) : ∀ a, (![128 * g.val, 0] : Fin 2 → ℕ) a + S128x128.size a ≤ S512x128.size a := by
  intro a
  have := g.isLt
  match a with
  | ⟨0, _⟩ => show 128 * g.val + 128 ≤ 512; omega
  | ⟨1, _⟩ => show 0 + 128 ≤ 128; omega

/-- One stored block: rows `128 g …` of window `l`. -/
def pieceOf (l g : Fin 4) : View.Piece (Elt F) S16x128x512 .bf16 :=
  ⟨Rect.unit (s := S16x128x512) (off l g) S1x128x128.size (inb l g),
    cp ((M l).1.view.readAt (Elt F) (Rect.unit (s := S512x128) ![128 * g.val, 0] S128x128.size (rowsInb g)).toLoadRect ((M l).2.unread (X l)))⟩

/-- After the sixteen stores at chunks `4 u … 4 u + 3` the buffer holds, in these chunks, the windows' rows, and elsewhere what it held. -/
theorem fill_read (u : ℕ) (hu : u < 4) (hoff : ∀ l g, off l g = ![4 * u + g.val, 0, 128 * l.val])
    {m : Memref sig .tc .vmem S16x128x512 .bf16} (hm : m.IsWhole) (b : Vec F S16x128x512 .bf16) (y : S16x128x512.Idx) :
    m.view.read (Elt F) (m.view.writes (Elt F) (hm.unread b) (list16 (pieceOf off inb M X))) y
      = if (y 0).val / 4 = u then X (slabOf y) (slabIx y) else b y := by
  have hy0 : (y 0).val < 16 := (y 0).isLt
  have hy1 : (y 1).val < 128 := (y 1).isLt
  have hy2 : (y 2).val < 512 := (y 2).isLt
  by_cases h : (y 0).val / 4 = u
  · rw [if_pos h]
    refine View.read_writes_apply_of_pieces _ _ (fun y => X (slabOf y) (slabIx y)) _ ?_ y ?_
    · intro p hp x
      obtain ⟨l, g, rfl⟩ := of_mem_list16 _ p hp
      have hx0 : (x 0).val < 1 := (x 0).isLt
      have hx1 : (x 1).val < 128 := (x 1).isLt
      have hx2 : (x 2).val < 128 := (x 2).isLt
      have hl := l.isLt
      have hg := g.isLt
      have e0 : (((pieceOf off inb M X l g).1.emb x) 0).val = 4 * u + g.val := by
        show off l g 0 + 1 * (x 0).val = _
        rw [hoff]; show 4 * u + g.val + 1 * (x 0).val = _; omega
      have e1 : (((pieceOf off inb M X l g).1.emb x) 1).val = (x 1).val := by
        show off l g 1 + 1 * (x 1).val = _
        rw [hoff]; show 0 + 1 * (x 1).val = _; omega
      have e2 : (((pieceOf off inb M X l g).1.emb x) 2).val = 128 * l.val + (x 2).val := by
        show off l g 2 + 1 * (x 2).val = _
        rw [hoff]; show 128 * l.val + 1 * (x 2).val = _; omega
      have hs : slabOf ((pieceOf off inb M X l g).1.emb x) = l := Fin.ext (by
        show _ / 128 = l.val
        rw [e2]; omega)
      have hv : (pieceOf off inb M X l g).2 x
          = cp ((M l).1.view.readAt (Elt F) (Rect.unit (s := S512x128) ![128 * g.val, 0] S128x128.size (rowsInb g)).toLoadRect ((M l).2.unread (X l))) x := rfl
      refine (hv.trans ((cp_apply _ _).trans ((M l).2.readAt_unread _ _ _))).trans ?_
      show _ = X (slabOf _) (slabIx _)
      rw [hs]
      congr 1
      funext a
      apply Fin.ext
      match a with
      | ⟨0, _⟩ =>
        show 128 * g.val + 1 * (x 1).val = (_ % 4) * 128 + _
        rw [e0, e1]; omega
      | ⟨1, _⟩ =>
        show 0 + 1 * (x 2).val = _ % 128
        rw [e2]; omega
    · refine ⟨pieceOf off inb M X (slabOf y) ⟨(y 0).val % 4, Nat.mod_lt _ (by decide)⟩, mem_list16 _ _ _, ?_⟩
      show y ∈ (Rect.unit (s := S16x128x512) (off _ _) S1x128x128.size (inb _ _)).set
      rw [Rect.mem_set_unit]
      intro a
      rw [hoff]
      match a with
      | ⟨0, _⟩ => show 4 * u + (y 0).val % 4 ≤ (y 0).val ∧ (y 0).val < 4 * u + (y 0).val % 4 + 1; omega
      | ⟨1, _⟩ => show 0 ≤ (y 1).val ∧ (y 1).val < 0 + 128; omega
      | ⟨2, _⟩ =>
        show 128 * ((y 2).val / 128) ≤ (y 2).val ∧ (y 2).val < 128 * ((y 2).val / 128) + 128; omega
  · rw [if_neg h, View.read_writes_apply_of_forall_not_mem]
    · exact congrFun (hm.read_unread b) y
    · intro p hp hmem
      obtain ⟨l, g, rfl⟩ := of_mem_list16 _ p hp
      have hg := g.isLt
      have := (Rect.mem_set_unit.mp (show y ∈ (Rect.unit (s := S16x128x512) (off l g) S1x128x128.size (inb l g)).set from hmem)) 0
      rw [hoff] at this
      have h2 : 4 * u + g.val ≤ (y 0).val ∧ (y 0).val < 4 * u + g.val + 1 := this
      omega

end

/-- Where the stores of this case go. -/
def offA (i : grid0.Coords) : Fin 4 → Fin 4 → Fin 3 → ℕ
  | 0, g => k0_off11 i (BitVec.ofNat 32 g.val)
  | 1, g => k0_off12 i (BitVec.ofNat 32 g.val)
  | 2, g => k0_off13 i (BitVec.ofNat 32 g.val)
  | 3, g => k0_off14 i (BitVec.ofNat 32 g.val)

theorem offA_eq (i : grid0.Coords) (l g : Fin 4) : offA i l g = ![4 * ((i 0).val % 4) + g.val, 0, 128 * l.val] := by
  fin_cases l
  · exact off11_eq i g
  · exact off12_eq i g
  · exact off13_eq i g
  · exact off14_eq i g

theorem offA_inb (i : grid0.Coords) (h : k0_cond3 i = 1#1) (l g : Fin 4) (a : Fin 3) :
    offA i l g a + S1x128x128.size a ≤ S16x128x512.size a := by
  fin_cases l
  · exact k0_off11_inb i h g a
  · exact k0_off12_inb i h g a
  · exact k0_off13_inb i h g a
  · exact k0_off14_inb i h g a

set_option maxHeartbeats 2000000 in
/-- The case's stores are these sixteen. -/
theorem runA_pieces (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : ¬k0_cond2 i = 1#1) (hc3 : k0_cond3 i = 1#1) (hc4 : ¬k0_cond4 i = 1#1)
    (x1 x2 x3 x4 : Vec F S512x128 .bf16) (x5 : Vec F S3584x2048 .bf16) (x6 : Vec F S896x512 .f32) (b7 b8 : Vec F S16x128x512 .bf16) :
    (runA c i arg1 harg1 arg2 harg2 arg3 harg3 arg4 harg4 arg5 harg5 arg6 harg6 arg7 harg7 arg8 harg8 hc1 hc2 hc3 hc4 x1 x2 x3 x4 x5 x6 b7 b8).1
      = list16 (pieceOf (offA i) (offA_inb i hc3) ![⟨arg1, harg1⟩, ⟨arg2, harg2⟩, ⟨arg3, harg3⟩, ⟨arg4, harg4⟩] ![x1, x2, x3, x4]) := rfl

/-- Where the stores of this case go. -/
def offB (i : grid0.Coords) : Fin 4 → Fin 4 → Fin 3 → ℕ
  | 0, g => k0_off2 i (BitVec.ofNat 32 g.val)
  | 1, g => k0_off3 i (BitVec.ofNat 32 g.val)
  | 2, g => k0_off4 i (BitVec.ofNat 32 g.val)
  | 3, g => k0_off5 i (BitVec.ofNat 32 g.val)

theorem offB_eq (i : grid0.Coords) (l g : Fin 4) : offB i l g = ![4 * ((i 0).val % 4) + g.val, 0, 128 * l.val] := by
  fin_cases l
  · exact off2_eq i g
  · exact off3_eq i g
  · exact off4_eq i g
  · exact off5_eq i g

theorem offB_inb (i : grid0.Coords) (h : k0_cond1 i = 1#1) (l g : Fin 4) (a : Fin 3) :
    offB i l g a + S1x128x128.size a ≤ S16x128x512.size a := by
  fin_cases l
  · exact k0_off2_inb i h g a
  · exact k0_off3_inb i h g a
  · exact k0_off4_inb i h g a
  · exact k0_off5_inb i h g a

set_option maxHeartbeats 2000000 in
/-- The case's stores are these sixteen. -/
theorem runB_pieces (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : k0_cond1 i = 1#1) (hc2 : ¬k0_cond2 i = 1#1) (hc3 : ¬k0_cond3 i = 1#1) (hc4 : ¬k0_cond4 i = 1#1)
    (x1 x2 x3 x4 : Vec F S512x128 .bf16) (x5 : Vec F S3584x2048 .bf16) (b7 b8 : Vec F S16x128x512 .bf16) :
    (runB c i arg1 harg1 arg2 harg2 arg3 harg3 arg4 harg4 arg5 harg5 arg6 harg6 arg7 harg7 arg8 harg8 hc1 hc2 hc3 hc4 x1 x2 x3 x4 x5 b7 b8).1
      = list16 (pieceOf (offB i) (offB_inb i hc1) ![⟨arg1, harg1⟩, ⟨arg2, harg2⟩, ⟨arg3, harg3⟩, ⟨arg4, harg4⟩] ![x1, x2, x3, x4]) := rfl

/-- Where the stores of this case go. -/
def offC (i : grid0.Coords) : Fin 4 → Fin 4 → Fin 3 → ℕ
  | 0, g => k0_off7 i (BitVec.ofNat 32 g.val)
  | 1, g => k0_off8 i (BitVec.ofNat 32 g.val)
  | 2, g => k0_off9 i (BitVec.ofNat 32 g.val)
  | 3, g => k0_off10 i (BitVec.ofNat 32 g.val)

theorem offC_eq (i : grid0.Coords) (l g : Fin 4) : offC i l g = ![4 * ((i 0).val % 4) + g.val, 0, 128 * l.val] := by
  fin_cases l
  · exact off7_eq i g
  · exact off8_eq i g
  · exact off9_eq i g
  · exact off10_eq i g

theorem offC_inb (i : grid0.Coords) (h : k0_cond2 i = 1#1) (l g : Fin 4) (a : Fin 3) :
    offC i l g a + S1x128x128.size a ≤ S16x128x512.size a := by
  fin_cases l
  · exact k0_off7_inb i h g a
  · exact k0_off8_inb i h g a
  · exact k0_off9_inb i h g a
  · exact k0_off10_inb i h g a

set_option maxHeartbeats 2000000 in
/-- The case's stores are these sixteen. -/
theorem runC_pieces (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : k0_cond2 i = 1#1) (hc3 : ¬k0_cond3 i = 1#1) (hc4 : ¬k0_cond4 i = 1#1)
    (x1 x2 x3 x4 : Vec F S512x128 .bf16) (x5 : Vec F S3584x2048 .bf16) (b7 b8 : Vec F S16x128x512 .bf16) :
    (runC c i arg1 harg1 arg2 harg2 arg3 harg3 arg4 harg4 arg5 harg5 arg6 harg6 arg7 harg7 arg8 harg8 hc1 hc2 hc3 hc4 x1 x2 x3 x4 x5 b7 b8).1
      = list16 (pieceOf (offC i) (offC_inb i hc2) ![⟨arg1, harg1⟩, ⟨arg2, harg2⟩, ⟨arg3, harg3⟩, ⟨arg4, harg4⟩] ![x1, x2, x3, x4]) := rfl

end Cert.WgradIdeal.Hand

end
-- ==== Proof.WgradIdeal.RunD.lean ====
module

public import proofs.«01_k».proof.Proof.Gen.WgradIdeal.Frame
public import proofs.«01_k».proof.Proof.Gen.WgradIdeal.Skeleton
public import Idealize.ShloMosaic.Lib.WholeRead
public import Idealize.ShloMosaic.Lib.VecWindow

@[expose] public section

set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- At the last four points: the body multiplies the first buffer's tile and copies nothing. -/
theorem runD (c : Dev nD) (i : grid0.Coords) (arg1 : Memref sig .tc .vmem S512x128 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S3584x2048 .bf16) (harg5 : arg5.IsWhole) (arg6 : Memref sig .tc .vmem S896x512 .f32) (harg6 : arg6.IsWhole) (arg7 : Memref sig .tc .vmem S16x128x512 .bf16) (harg7 : arg7.IsWhole) (arg8 : Memref sig .tc .vmem S16x128x512 .bf16) (harg8 : arg8.IsWhole) (hc1 : ¬k0_cond1 i = 1#1) (hc2 : ¬k0_cond2 i = 1#1) (hc3 : ¬k0_cond3 i = 1#1) (hc4 : k0_cond4 i = 1#1)
    (x1 x2 x3 x4 : Vec F S512x128 .bf16) (x5 : Vec F S3584x2048 .bf16) (b7 b8 : Vec F S16x128x512 .bf16) (E : Set ℕ) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare b7 ∗ owns (c : Thread nD τ) arg8 fullShare b8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay5 b7 (arg5.view.readAt (Elt F) (Rect.unit (s := S3584x2048) (k0_off15 i) S896x2048.size (k0_off15_inb i hc4)).toLoadRect (harg5.unread x5))) ∗ owns (c : Thread nD τ) arg7 fullShare b7 ∗ owns (c : Thread nD τ) arg8 fullShare b8) -∗ K ⟨⟩))
          ⊢ wp frame (wpE (defs₀ (F := F)) Variants.none c none) E (cc0_wgrad i arg1 harg1 arg2 harg2 arg3 harg3 arg4 harg4 arg5 harg5 arg6 harg6 arg7 harg7 arg8 harg8) K := by
  simp only [cc0_wgrad_eq_skeleton]; unfold cc0_wgrad_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
  sl_exec (disch := first | sl_exact hc1 | sl_exact hc2 | sl_exact hc3 | sl_exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro; exact (View.read_writes_full _ _ _ _ _).trans (congrArg (fun z => k0_pay5 z _) ((View.readAt_full _ _ _).trans (harg7.read_unread _)))
  isplitl [H7]
  · iexists _; isplitr; · ipureintro; exact harg7.read_unread _
    iexact H7
  iexists _; isplitr; · ipureintro; exact harg8.read_unread _
  iexact H8

end Cert.WgradIdeal.Hand

end
-- ==== Proof.WgradIdeal.Tile.lean ====
/- What the two tile buffers hold before each grid point, as a statement about the windows' blocks: no separation logic here. -/
module

public import proofs.«01_k».proof.Proof.Gen.WgradIdeal.Frame
public import proofs.«01_k».proof.Proof.Gen.WgradIdeal.Skeleton
public import proofs.«01_k».proof.Proof.WgradIdeal.Fill
public import proofs.«01_k».proof.Proof.WgradIdeal.RunD
public import Idealize.ShloMosaic.Lib.Claim
public import Idealize.ShloMosaic.Lib.WholeRead
public import Idealize.ShloMosaic.Lib.VecWindow

@[expose] public section

set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four column windows' blocks at a point. -/
def blkL (c : Dev nD) (t : Fin cfg0.N) : Fin 4 → Vec F S512x128 .bf16 := ![iblk m c 0 t, iblk m c 1 t, iblk m c 2 t, iblk m c 3 t]

/-- The point numbered `n` (modulo the grid). -/
def pt (n : ℕ) : Fin cfg0.N := ⟨n % 152, by rw [show cfg0.N = 152 from N_0]; exact Nat.mod_lt _ (by decide)⟩

theorem pt_val (t : Fin cfg0.N) : pt t.val = t := by
  have h : t.val < 152 := lt_of_lt_of_eq t.isLt (show cfg0.N = 152 from N_0)
  exact Fin.ext (Nat.mod_eq_of_lt h)

/-- Tile `j`: 2048 rows, 512 columns, its rows staged at the points `4 j … 4 j + 3`. -/
def tile (c : Dev nD) (j : ℕ) : Vec F S16x128x512 .bf16 :=
  fun y => blkL m c (pt (4 * j + (y 0).val / 4)) (slabOf y) (slabIx y)

/-- Before point `n`: the buffer being filled holds the first `n % 4` quarters of tile `n / 4`, the other one all of the tile before. -/
def Inv (c : Dev nD) (n : ℕ) (B0 B1 : Vec F S16x128x512 .bf16) : Prop :=
  (n < 148 → ∀ y, (y 0).val / 4 < n % 4 → (if n / 4 % 2 = 0 then B0 else B1) y = tile m c (n / 4) y)
  ∧ (4 ≤ n → (if n / 4 % 2 = 0 then B1 else B0) = tile m c (n / 4 - 1))

theorem inv_zero (c : Dev nD) (B0 B1 : Vec F S16x128x512 .bf16) : Inv m c 0 B0 B1 :=
  ⟨fun _ y h => absurd h (by simp), fun h => absurd h (by decide)⟩

theorem quarter (c : Dev nD) (n : ℕ) (hn : n < 148) (cur cur' : Vec F S16x128x512 .bf16)
    (hc : ∀ y, (y 0).val / 4 < n % 4 → cur y = tile m c (n / 4) y)
    (hf : ∀ y, cur' y = if (y 0).val / 4 = n % 4 then blkL m c (pt n) (slabOf y) (slabIx y) else cur y) (y : S16x128x512.Idx)
    (hy : (y 0).val / 4 < n % 4 + 1) : cur' y = tile m c (n / 4) y := by
  rw [hf]
  by_cases h : (y 0).val / 4 = n % 4
  · rw [if_pos h]
    unfold tile
    rw [h, show 4 * (n / 4) + n % 4 = n from Nat.div_add_mod n 4]
  · rw [if_neg h]
    exact hc y (by omega)

theorem inv_even (c : Dev nD) (n : ℕ) (hn : n < 148) (he : n / 4 % 2 = 0) (B0 B0' B1 : Vec F S16x128x512 .bf16) (h : Inv m c n B0 B1)
    (hf : ∀ y, B0' y = if (y 0).val / 4 = n % 4 then blkL m c (pt n) (slabOf y) (slabIx y) else B0 y) : Inv m c (n + 1) B0' B1 := by
  obtain ⟨h1, h2⟩ := h
  rw [if_pos he] at h1 h2
  have hq := quarter m c n hn B0 B0' (h1 hn) hf
  by_cases h3 : n % 4 = 3
  · have e1 : (n + 1) / 4 = n / 4 + 1 := by omega
    have e2 : ¬(n + 1) / 4 % 2 = 0 := by omega
    refine ⟨fun _ y hy => absurd hy (by omega), fun _ => ?_⟩
    rw [if_neg e2, e1, Nat.add_sub_cancel]
    funext y
    have hy0 : (y 0).val < 16 := (y 0).isLt
    exact hq y (by omega)
  · have e1 : (n + 1) / 4 = n / 4 := by omega
    have e3 : (n + 1) % 4 = n % 4 + 1 := by omega
    refine ⟨fun _ y hy => ?_, fun h4 => ?_⟩
    · rw [e1, if_pos he]; exact hq y (by omega)
    · rw [e1, if_pos he]; exact h2 (by omega)

theorem inv_odd (c : Dev nD) (n : ℕ) (hn : n < 148) (he : ¬n / 4 % 2 = 0) (B0 B1' B1 : Vec F S16x128x512 .bf16) (h : Inv m c n B0 B1)
    (hf : ∀ y, B1' y = if (y 0).val / 4 = n % 4 then blkL m c (pt n) (slabOf y) (slabIx y) else B1 y) : Inv m c (n + 1) B0 B1' := by
  obtain ⟨h1, h2⟩ := h
  rw [if_neg he] at h1 h2
  have hq := quarter m c n hn B1 B1' (h1 hn) hf
  by_cases h3 : n % 4 = 3
  · have e1 : (n + 1) / 4 = n / 4 + 1 := by omega
    have e2 : (n + 1) / 4 % 2 = 0 := by omega
    refine ⟨fun _ y hy => absurd hy (by omega), fun _ => ?_⟩
    rw [if_pos e2, e1, Nat.add_sub_cancel]
    funext y
    have hy0 : (y 0).val < 16 := (y 0).isLt
    exact hq y (by omega)
  · have e1 : (n + 1) / 4 = n / 4 := by omega
    have e3 : (n + 1) % 4 = n % 4 + 1 := by omega
    refine ⟨fun _ y hy => ?_, fun h4 => ?_⟩
    · rw [e1, if_neg he]; exact hq y (by omega)
    · rw [e1, if_neg he]; exact h2 (by omega)

theorem inv_last (c : Dev nD) (n : ℕ) (hn : 148 ≤ n) (hN : n < 152) (B0 B1 : Vec F S16x128x512 .bf16) (h : Inv m c n B0 B1) : Inv m c (n + 1) B0 B1 ∨ n = 151 := by
  by_cases h3 : n = 151
  · exact Or.inr h3
  · refine Or.inl ⟨fun h => absurd h (by omega), fun h4 => ?_⟩
    have e1 : (n + 1) / 4 = n / 4 := by omega
    rw [e1]; exact h.2 (by omega)

/-- The rows of the resident operand a point multiplies. -/
def rowIx (u : ℕ) (hu : u < 4) (x : S896x2048.Idx) : S3584x2048.Idx
  | ⟨0, _⟩ => ⟨896 * u + (x 0).val, by have h1 : (x 0).val < 896 := (x 0).isLt; show _ < 3584; omega⟩
  | ⟨1, _⟩ => x 1
  | ⟨n + 2, h⟩ => absurd h (Nat.not_lt.2 (Nat.le_add_left _ _))

/-- The 896 rows of the resident operand multiplied at point `t`. -/
def rows (c : Dev nD) (t : Fin cfg0.N) : Vec F S896x2048 .bf16 :=
  fun x => (iblk m c 4 t : Vec F S3584x2048 .bf16) (rowIx (t.val % 4) (Nat.mod_lt _ (by decide)) x)

/-- Reading 896 rows at the offsets of a point gives `rows`. -/
theorem rows_read (c : Dev nD) (t : Fin cfg0.N) (off : Fin 2 → ℕ) (inb : ∀ a, off a + S896x2048.size a ≤ S3584x2048.size a)
    (hoff : off = ![896 * (t.val % 4), 0]) {M : Memref sig .tc .vmem S3584x2048 .bf16} (hM : M.IsWhole) :
    M.view.readAt (Elt F) (Rect.unit (s := S3584x2048) off S896x2048.size inb).toLoadRect (hM.unread (iblk m c 4 t)) = rows m c t := by
  subst hoff
  funext x
  refine (hM.readAt_unread _ _ _).trans ?_
  unfold rows
  congr 1
  funext a
  apply Fin.ext
  match a with
  | ⟨0, _⟩ => show 896 * (t.val % 4) + 1 * (x 0).val = 896 * (t.val % 4) + (x 0).val; omega
  | ⟨1, _⟩ => show 0 + 1 * (x 1).val = (x 1).val; omega

/-- The product block written at point `t`: the rows times the tile before the one being filled. -/
def prod (c : Dev nD) (t : Fin cfg0.N) : Vec F S896x512 .f32 := k0_pay5 (tile m c (t.val / 4 - 1)) (rows m c t)

end Cert.WgradIdeal.Hand

end
-- ==== Proof.WgradIdeal.Body.lean ====
/- The kernel's run at every grid point, the launch, and the frame. -/
module

public import proofs.«01_k».proof.Proof.Gen.WgradIdeal.Frame
public import proofs.«01_k».proof.Proof.Gen.WgradIdeal.Skeleton
public import proofs.«01_k».proof.Proof.WgradIdeal.Tile
public import proofs.«01_k».proof.Proof.WgradIdeal.RunD
public import Idealize.ShloMosaic.Lib.Claim
public import Idealize.ShloMosaic.Lib.WholeRead
public import Idealize.ShloMosaic.Lib.VecWindow

@[expose] public section

set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two tile buffers. -/
abbrev scM0 : Memref sig .tc .vmem S16x128x512 .bf16 := Memref.whole cc0_scratch0
abbrev scM1 : Memref sig .tc .vmem S16x128x512 .bf16 := Memref.whole cc0_scratch1

/-- The launch's invariant: both buffers at some contents, and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before point `n`: the buffers at contents the invariant speaks of (after the last point, at any). -/
def PhiS (c : Dev nD) (n : ℕ) (_ : n ≤ cfg0.N) : sProp 𝕄 :=
  iprop(∃ B0 B1, ⌜Inv m c n B0 B1 ∨ n = 152⌝ ∗ owns (c : Thread nD τ) scM0 fullShare B0 ∗ owns (c : Thread nD τ) scM1 fullShare B1 ∗ (∃ r, prngReg c r))

/-- The proof data: the arrays as the launch finds them, each input's buffer at its block, the output's at the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prod m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after0_4]
theorem after0_5 (c : Dev nD) (t : Fin cfg0.N) : (dats m 0 c).after 5 t = prod m c t := by dsimp only [dats]

theorem early_lt (n : ℕ) (hn : n < 4) : n < cfg0.N := lt_of_lt_of_eq (Nat.lt_of_lt_of_le hn (by decide : 4 ≤ 152)) (show 152 = cfg0.N from N_0.symm)

theorem flush5_decided : ∀ (n : ℕ) (hn : n < 4), (cfg0.win 5).flush ⟨n, early_lt n hn⟩ = false := by decide +kernel

/-- The output's block is written back at no point before the fifth. -/
theorem flush5_early (t : Fin cfg0.N) (h : t.val < 4) : (cfg0.win 5).flush t = false := flush5_decided t.val h

theorem leaves0_5_live (c : Dev nD) (t : Fin cfg0.N) (h : cfg0.idle 5 (grid0.coords t) = false) :
    (dats m 0 c).leavesExact 5 t = owns (c : Thread nD τ) (st0_5 t) fullShare (prod m c t) := by
  unfold Dat.leavesExact; rw [h, after0_5]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

section Cases

variable (c : Dev nD) (t : Fin cfg0.N)

theorem cval : ((grid0.coords t) 0).val = t.val := coords0 t

set_option maxHeartbeats 4800000 in
/-- The first four points: the first tile is copied in, nothing is multiplied. -/
theorem sound_A (h : t.val < 4) :
    bodyPre m c t ⊢ wp frame (wpE (defs₀ (F := F)) Variants.none c none) Set.univ (bodyAt0 t) (fun _ => bodyPost m c t) := by
  have hN : t.val < 152 := lt_of_lt_of_eq t.isLt (show cfg0.N = 152 from N_0)
  have hc1 : ¬k0_cond1 (grid0.coords t) = 1#1 := by rw [cond1_iff, cval]; omega
  have hc2 : ¬k0_cond2 (grid0.coords t) = 1#1 := by rw [cond2_iff, cval]; omega
  have hc3 : k0_cond3 (grid0.coords t) = 1#1 := by rw [cond3_iff, cval]; omega
  have hc4 : ¬k0_cond4 (grid0.coords t) = 1#1 := by rw [cond4_iff, cval]; omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2, leaves0_3, leaves0_4]
  rw [(dats m 0 c).leavesExact_idle 5 t (by show (!(k0_cond1 _ == 1#1) && !(k0_cond2 _ == 1#1) && !(k0_cond4 _ == 1#1)) = true; simp [hc1, hc2, hc4]) (flush5_early t h)]
  unfold PhiS
  iintro ⟨⟨%B0, %B1, %hI, HS0, HS1, Hg⟩, Ho, ⟨%d0, H0⟩, ⟨%d1, H1⟩, ⟨%d2, H2⟩, ⟨%d3, H3⟩, ⟨%d4, H4⟩, ⟨%d5, H5⟩⟩
  have hI' : Inv m c t.val B0 B1 := hI.resolve_right (by omega)
  iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0 (Memref.isWhole_whole _) scM1 (Memref.isWhole_whole _) hc1 hc2 hc3 hc4 (iblk m c 0 t) (iblk m c 1 t) (iblk m c 2 t) (iblk m c 3 t) (iblk m c 4 t) ((dats m 0 c).before 5 t d5) B0 B1).2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · iexists _; iexists _; isplitr
    swap
    · isplitl [HS0]; · iexact HS0
      isplitl [HS1]; · iexact HS1
      iexact Hg
    ipureintro
    refine Or.inl (inv_even m c t.val (by omega) (by omega) B0 _ B1 hI' fun y => ?_)
    rw [runA_pieces]
    refine (fill_read _ _ _ _ (t.val % 4) (Nat.mod_lt _ (by decide)) (fun l g => by rw [offA_eq, cval]) _ _ y).trans ?_
    rw [pt_val]
    have e : (![iblk m c 0 t, iblk m c 1 t, iblk m c 2 t, iblk m c 3 t] : Fin 4 → Vec F S512x128 .bf16) = blkL m c t := rfl
    rw [e]
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 4800000 in
/-- An even tile: copied into the first buffer while the second is multiplied. -/
theorem sound_B (h4 : 4 ≤ t.val) (h : t.val < 148) (he : t.val / 4 % 2 = 0) :
    bodyPre m c t ⊢ wp frame (wpE (defs₀ (F := F)) Variants.none c none) Set.univ (bodyAt0 t) (fun _ => bodyPost m c t) := by
  have hN : t.val < 152 := lt_of_lt_of_eq t.isLt (show cfg0.N = 152 from N_0)
  have hc1 : k0_cond1 (grid0.coords t) = 1#1 := by rw [cond1_iff, cval]; omega
  have hc2 : ¬k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2, leaves0_3, leaves0_4]
  rw [leaves0_5_live m c t (by show (!(k0_cond1 _ == 1#1) && !(k0_cond2 _ == 1#1) && !(k0_cond4 _ == 1#1)) = false; simp [hc1])]
  unfold PhiS
  iintro ⟨⟨%B0, %B1, %hI, HS0, HS1, Hg⟩, Ho, ⟨%d0, H0⟩, ⟨%d1, H1⟩, ⟨%d2, H2⟩, ⟨%d3, H3⟩, ⟨%d4, H4⟩, ⟨%d5, H5⟩⟩
  have hI' : Inv m c t.val B0 B1 := hI.resolve_right (by omega)
  iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0 (Memref.isWhole_whole _) scM1 (Memref.isWhole_whole _) hc1 hc2 hc3 hc4 (iblk m c 0 t) (iblk m c 1 t) (iblk m c 2 t) (iblk m c 3 t) (iblk m c 4 t) B0 B1).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · iexists _; iexists _; isplitr
    swap
    · isplitl [HS0]; · iexact HS0
      isplitl [HS1]; · iexact HS1
      iexact Hg
    ipureintro
    refine Or.inl (inv_even m c t.val (by omega) he B0 _ B1 hI' fun y => ?_)
    rw [runB_pieces]
    refine (fill_read _ _ _ _ (t.val % 4) (Nat.mod_lt _ (by decide)) (fun l g => by rw [offB_eq, cval]) _ _ y).trans ?_
    rw [pt_val]
    have e : (![iblk m c 0 t, iblk m c 1 t, iblk m c 2 t, iblk m c 3 t] : Fin 4 → Vec F S512x128 .bf16) = blkL m c t := rfl
    rw [e]
  isplitl [Ho]; · iexact Ho
  isplitl [H0]; · iexact H0
  isplitl [H1]; · iexact H1
  isplitl [H2]; · iexact H2
  isplitl [H3]; · iexact H3
  isplitl [H4]; · iexact H4
  have hB : B1 = tile m c (t.val / 4 - 1) := (by have := hI'.2 (by omega); rwa [if_pos he] at this)
  have hP : k0_pay6 B1 ((st0_4 t).view.readAt (Elt F) (Rect.unit (s := S3584x2048) (k0_off1 (grid0.coords t)) S896x2048.size (k0_off1_inb (grid0.coords t) hc1)).toLoadRect ((hstage0_4 ((cfg0.slots t 4).cast nbuf0_4)).unread (iblk m c 4 t))) = prod m c t := by
    rw [rows_read m c t _ _ (by rw [off1_eq, cval]) _, hB]; rfl
  rw [← hP]
  iexact H5

set_option maxHeartbeats 4800000 in
/-- An odd tile: copied into the second buffer while the first is multiplied. -/
theorem sound_C (h4 : 4 ≤ t.val) (h : t.val < 148) (he : ¬t.val / 4 % 2 = 0) :
    bodyPre m c t ⊢ wp frame (wpE (defs₀ (F := F)) Variants.none c none) Set.univ (bodyAt0 t) (fun _ => bodyPost m c t) := by
  have hN : t.val < 152 := lt_of_lt_of_eq t.isLt (show cfg0.N = 152 from N_0)
  have hc1 : ¬k0_cond1 (grid0.coords t) = 1#1 := by rw [cond1_iff, cval]; omega
  have hc2 : k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2, leaves0_3, leaves0_4]
  rw [leaves0_5_live m c t (by show (!(k0_cond1 _ == 1#1) && !(k0_cond2 _ == 1#1) && !(k0_cond4 _ == 1#1)) = false; simp [hc2])]
  unfold PhiS
  iintro ⟨⟨%B0, %B1, %hI, HS0, HS1, Hg⟩, Ho, ⟨%d0, H0⟩, ⟨%d1, H1⟩, ⟨%d2, H2⟩, ⟨%d3, H3⟩, ⟨%d4, H4⟩, ⟨%d5, H5⟩⟩
  have hI' : Inv m c t.val B0 B1 := hI.resolve_right (by omega)
  iapply ((runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0 (Memref.isWhole_whole _) scM1 (Memref.isWhole_whole _) hc1 hc2 hc3 hc4 (iblk m c 0 t) (iblk m c 1 t) (iblk m c 2 t) (iblk m c 3 t) (iblk m c 4 t) B0 B1).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · iexists _; iexists _; isplitr
    swap
    · isplitl [HS0]; · iexact HS0
      isplitl [HS1]; · iexact HS1
      iexact Hg
    ipureintro
    refine Or.inl (inv_odd m c t.val (by omega) he B0 _ B1 hI' fun y => ?_)
    rw [runC_pieces]
    refine (fill_read _ _ _ _ (t.val % 4) (Nat.mod_lt _ (by decide)) (fun l g => by rw [offC_eq, cval]) _ _ y).trans ?_
    rw [pt_val]
    have e : (![iblk m c 0 t, iblk m c 1 t, iblk m c 2 t, iblk m c 3 t] : Fin 4 → Vec F S512x128 .bf16) = blkL m c t := rfl
    rw [e]
  isplitl [Ho]; · iexact Ho
  isplitl [H0]; · iexact H0
  isplitl [H1]; · iexact H1
  isplitl [H2]; · iexact H2
  isplitl [H3]; · iexact H3
  isplitl [H4]; · iexact H4
  have hB : B0 = tile m c (t.val / 4 - 1) := (by have := hI'.2 (by omega); rwa [if_neg he] at this)
  have hP : k0_pay25 B0 ((st0_4 t).view.readAt (Elt F) (Rect.unit (s := S3584x2048) (k0_off6 (grid0.coords t)) S896x2048.size (k0_off6_inb (grid0.coords t) hc2)).toLoadRect ((hstage0_4 ((cfg0.slots t 4).cast nbuf0_4)).unread (iblk m c 4 t))) = prod m c t := by
    rw [rows_read m c t _ _ (by rw [off6_eq, cval]) _, hB]; rfl
  rw [← hP]
  iexact H5

set_option maxHeartbeats 4800000 in
/-- The last four points: the last tile is multiplied. -/
theorem sound_D (h : 148 ≤ t.val) :
    bodyPre m c t ⊢ wp frame (wpE (defs₀ (F := F)) Variants.none c none) Set.univ (bodyAt0 t) (fun _ => bodyPost m c t) := by
  have hN : t.val < 152 := lt_of_lt_of_eq t.isLt (show cfg0.N = 152 from N_0)
  have hc1 : ¬k0_cond1 (grid0.coords t) = 1#1 := by rw [cond1_iff, cval]; omega
  have hc2 : ¬k0_cond2 (grid0.coords t) = 1#1 := by rw [cond2_iff, cval]; omega
  have hc3 : ¬k0_cond3 (grid0.coords t) = 1#1 := by rw [cond3_iff, cval]; omega
  have hc4 : k0_cond4 (grid0.coords t) = 1#1 := by rw [cond4_iff, cval]; omega
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2, leaves0_3, leaves0_4]
  rw [leaves0_5_live m c t (by show (!(k0_cond1 _ == 1#1) && !(k0_cond2 _ == 1#1) && !(k0_cond4 _ == 1#1)) = false; simp [hc4])]
  unfold PhiS
  iintro ⟨⟨%B0, %B1, %hI, HS0, HS1, Hg⟩, Ho, ⟨%d0, H0⟩, ⟨%d1, H1⟩, ⟨%d2, H2⟩, ⟨%d3, H3⟩, ⟨%d4, H4⟩, ⟨%d5, H5⟩⟩
  have hI' : Inv m c t.val B0 B1 := hI.resolve_right (by omega)
  iapply (runD c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0 (Memref.isWhole_whole _) scM1 (Memref.isWhole_whole _) hc1 hc2 hc3 hc4 (iblk m c 0 t) (iblk m c 1 t) (iblk m c 2 t) (iblk m c 3 t) (iblk m c 4 t) B0 B1 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · iexists _; iexists _; isplitr
    swap
    · isplitl [HS0]; · iexact HS0
      isplitl [HS1]; · iexact HS1
      iexact Hg
    ipureintro
    exact (inv_last m c t.val h hN B0 B1 hI').imp id (by omega)
  isplitl [Ho]; · iexact Ho
  isplitl [H0]; · iexact H0
  isplitl [H1]; · iexact H1
  isplitl [H2]; · iexact H2
  isplitl [H3]; · iexact H3
  isplitl [H4]; · iexact H4
  have hB : B0 = tile m c (t.val / 4 - 1) := (by have := hI'.2 (by omega); rwa [if_neg (by omega)] at this)
  have hP : k0_pay5 B0 ((st0_4 t).view.readAt (Elt F) (Rect.unit (s := S3584x2048) (k0_off15 (grid0.coords t)) S896x2048.size (k0_off15_inb (grid0.coords t) hc4)).toLoadRect ((hstage0_4 ((cfg0.slots t 4).cast nbuf0_4)).unread (iblk m c 4 t))) = prod m c t := by
    rw [rows_read m c t _ _ (by rw [off15_eq, cval]) _, hB]; rfl
  rw [← hP]
  iexact H5

end Cases

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h4 : t.val < 4
  · exact sound_A m c t h4
  · by_cases h : t.val < 148
    · by_cases he : t.val / 4 % 2 = 0
      · exact sound_B m c t (by omega) h he
      · exact sound_C m c t (by omega) h he
    · exact sound_D m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%B0, HS0⟩, ⟨%B1, HS1⟩⟩, Hg⟩
  iexists B0; iexists B1; isplitr
  · ipureintro; exact Or.inl (inv_zero m c B0 B1)
  isplitl [HS0]; · iexact HS0
  isplitl [HS1]; · iexact HS1
  iexact Hg

theorem hout (c : Dev nD) : (dats m 0 c).Φ (Fin.last cfg0.N) ⊢ Pipeline.ΦA spec0 c := by
  rw [show (dats m 0 c).Φ (Fin.last cfg0.N) = PhiS m c cfg0.N (le_refl _) from rfl, PhiA0_eq]
  unfold PhiS
  iintro ⟨%B0, %B1, -, HS0, HS1, Hg⟩
  isplitl [HS0 HS1]
  · isplitl [HS0]
    · iexists B0; iexact HS0
    iexists B1; iexact HS1
  iexact Hg

set_option backward.isDefEq.respectTransparency.types false in
/-- The launch, and every semaphore counter at zero afterwards. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.WgradIdeal.Hand

end
-- ==== Proof.WgradIdeal.Value.lean ====
/- What the weight-gradient products amount to over the extended reals: the whole product of the two arguments. -/
module
public import proofs.«01_k».proof.Defs
public import proofs.«01_k».proof.Proof.WgradIdeal.Body
public import proofs.«01_k».proof.Proof.Gen.WgradRefIdeal
public import Idealize.ShloMosaic.Lib.Claim
public import Idealize.ShloMosaic.Lib.Pipeline.ValueKit
@[expose] public section
set_option maxRecDepth 16384
noncomputable section
namespace Cert.WgradIdeal.Hand
open Cert.WgradIdeal Cert.WgradIdeal.Gen
open Idealize.ShloMosaic Idealize.ShloMosaic.TcCoe Idealize.SL.Sem
open Idealize.ShloMosaic.Pipeline (Dat)

theorem idx0 : ∀ t : Fin cfg0.N, t.val < 148 → win0_0.index t = ![t.val % 4, 4 * (t.val / 4)] ∧ win0_1.index t = ![t.val % 4, 4 * (t.val / 4) + 1] ∧ win0_2.index t = ![t.val % 4, 4 * (t.val / 4) + 2] ∧ win0_3.index t = ![t.val % 4, 4 * (t.val / 4) + 3] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, 4 ≤ t.val → win0_5.index t = ![t.val % 4, t.val / 4 - 1] :=
  (by decide +kernel : ∀ t : Fin grid0.N, _)
theorem flush5 : ∀ t : Fin cfg0.N, (cfg0.win 5).flush t = true → 4 ≤ t.val :=
  (by decide +kernel : ∀ t : Fin grid0.N, _)

theorem covers : (cfg0.win 5).Covers := by decide +kernel

variable (m : (ℓ : Loc nD τ sig) → Buf (Elt Ideal) ℓ)

/-- The argument arrays with 128 rows of zeros below. -/
def padX (X : FVec Ideal S1920x3584 .bf16) : FVec Ideal S2048x3584 .bf16 :=
  pad S2048x3584 ![0, 0] ![128, 0] ![0, 0] X (sitofp (F := Ideal) .bf16 (constantI S_ 32 0#32)) pads_S1920x3584_S2048x3584_01280_000 h_S_
def padY (Y : FVec Ideal S1920x18944 .bf16) : FVec Ideal S2048x18944 .bf16 :=
  pad S2048x18944 ![0, 0] ![128, 0] ![0, 0] Y (sitofp (F := Ideal) .bf16 (constantI S_ 32 0#32)) pads_S1920x18944_S2048x18944_01280_000 h_S_

theorem v1 (c : Dev nD) : V m c main_v1 = transpose S3584x2048 [1, 0] (padX (m ((c : Thread nD τ).loc main_arg0))) transposes_S2048x3584_S3584x2048_1_0 := by
  unfold V
  simp only [hostOps0, hostOps0_1, hostOps0_2, hostOps0_3, List.flatten_cons, List.flatten_nil, List.append_nil, List.cons_append,
      List.nil_append]
  entry_read
  rfl

theorem v2 (c : Dev nD) : V m c main_v2 = padY (m ((c : Thread nD τ).loc main_arg1)) := by
  unfold V
  simp only [hostOps0, hostOps0_1, hostOps0_2, hostOps0_3, List.flatten_cons, List.flatten_nil, List.append_nil, List.cons_append,
      List.nil_append]
  entry_read
  rfl

theorem padX_lo (X : FVec Ideal S1920x3584 .bf16) (k : Fin 1920) (j : Fin 3584) : padX X (Idealize.ShloMosaic.ix2 (k.castAdd 128) j) = X (Idealize.ShloMosaic.ix2 k j) := by
  pointwise [padX]
  exact dif_pos k.isLt
theorem padY_lo (X : FVec Ideal S1920x18944 .bf16) (k : Fin 1920) (j : Fin 18944) : padY X (Idealize.ShloMosaic.ix2 (k.castAdd 128) j) = X (Idealize.ShloMosaic.ix2 k j) := by
  pointwise [padY]
  exact dif_pos k.isLt
theorem padX_hi (X : FVec Ideal S1920x3584 .bf16) (k : Fin 128) (j : Fin 3584) : padX X (Idealize.ShloMosaic.ix2 (k.natAdd 1920) j) = (0 : EReal) := by
  pointwise [padX]
  refine (dif_neg (Nat.not_lt.2 (Nat.le_add_right 1920 k.val))).trans ?_
  show (((0#32 : BitVec 32).toInt : ℝ) : EReal) = 0
  simp
theorem blk_read (c : Dev nD) (t : Fin cfg0.N) (h : t.val < 148) (l : Fin 4) (x : S512x128.Idx) :
    blkL m c t l x = (V m c main_v2 : Vec Ideal S2048x18944 .bf16) (Idealize.ShloMosaic.ix2 ⟨512 * (t.val % 4) + (x 0).val, by have := (x 0).isLt; have h2 : (x 0).val < 512 := this; omega⟩ ⟨512 * (t.val / 4) + 128 * l.val + (x 1).val, by have h2 : (x 1).val < 128 := (x 1).isLt; omega⟩) := by
  obtain ⟨h0, h1, h2, h3⟩ := idx0 t h
  fin_cases l
  · show iblk m c 0 t x = _
    blk_ext [iblk, h0]
  · show iblk m c 1 t x = _
    blk_ext [iblk, h1]
  · show iblk m c 2 t x = _
    blk_ext [iblk, h2]
  · show iblk m c 3 t x = _
    blk_ext [iblk, h3]

/-- The reference's product at an index. -/
def REF (X : FVec Ideal S1920x3584 .bf16) (Y : FVec Ideal S1920x18944 .bf16) : FVec Ideal S3584x18944 .f32 :=
  Host.dotGeneral (F := Ideal) WgradRefIdeal.dot_S1920x3584_S1920x18944_S3584x18944_0_0_1_1_n_n none X Y

theorem REF_apply (X : FVec Ideal S1920x3584 .bf16) (Y : FVec Ideal S1920x18944 .bf16) (i : S3584x18944.Idx) :
    REF X Y i = ∑ k : Fin 1920, (X (Idealize.ShloMosaic.ix2 k (i 0)) * Y (Idealize.ShloMosaic.ix2 k (i 1)) : EReal) := by
  pointwise [REF]

/-- A tile's element is the padded array's. -/
theorem tile_read (c : Dev nD) (j : ℕ) (hj : j < 37) (k : Fin 2048) (n : Fin 512) :
    tile m c j (Idealize.ShloMosaic.ix3 ⟨k.val / 128, by omega⟩ ⟨k.val % 128, Nat.mod_lt _ (by decide)⟩ n)
      = padY (m ((c : Thread nD τ).loc main_arg1)) (Idealize.ShloMosaic.ix2 k ⟨512 * j + n.val, by omega⟩) := by
  have hk := k.isLt
  have hn := n.isLt
  unfold tile
  have e : (pt (4 * j + k.val / 128 / 4)).val = 4 * j + k.val / 512 := by
    show (4 * j + k.val / 128 / 4) % 152 = _; omega
  refine (blk_read m c (pt (4 * j + k.val / 128 / 4)) (by rw [e]; omega) _ _).trans ?_
  rw [v2]
  congr 1
  funext a
  apply Fin.ext
  match a with
  | ⟨0, _⟩ =>
    show 512 * ((pt (4 * j + k.val / 128 / 4)).val % 4) + ((k.val / 128) % 4 * 128 + k.val % 128) = k.val
    rw [e]; omega
  | ⟨1, _⟩ =>
    show 512 * ((pt (4 * j + k.val / 128 / 4)).val / 4) + 128 * (n.val / 128) + n.val % 128 = 512 * j + n.val
    rw [e]; omega

/-- A row of the resident operand is a column of the padded array. -/
theorem rows_apply (c : Dev nD) (t : Fin cfg0.N) (y : Fin 896) (k : Fin 2048) :
    rows m c t (Idealize.ShloMosaic.ix2 y k)
      = padX (m ((c : Thread nD τ).loc main_arg0)) (Idealize.ShloMosaic.ix2 k ⟨896 * (t.val % 4) + y.val, by omega⟩) := by
  have h : rows m c t (Idealize.ShloMosaic.ix2 y k) = (V m c main_v1 : Vec Ideal S3584x2048 .bf16) (Idealize.ShloMosaic.ix2 ⟨896 * (t.val % 4) + y.val, by omega⟩ k) := by
    unfold rows
    have h4 := idx4 t
    blk_ext [iblk, h4, rowIx]
  rw [h, v1]
  pointwise

/-- Point by point: a written block holds the reference's product. -/
theorem point (c : Dev nD) (t : Fin cfg0.N) (h4 : 4 ≤ t.val) (y : S896x512.Idx) (i : S3584x18944.Idx)
    (h0 : (i 0).val = 896 * (t.val % 4) + (y 0).val) (h1 : (i 1).val = 512 * (t.val / 4 - 1) + (y 1).val) :
    prod m c t y = REF (m ((c : Thread nD τ).loc main_arg0)) (m ((c : Thread nD τ).loc main_arg1)) i := by
  have hN : t.val < 152 := lt_of_lt_of_eq t.isLt (show cfg0.N = 152 from N_0)
  have hp : prod m c t y = ∑ x : Fin 2048, (rows m c t (Idealize.ShloMosaic.ix2 (y 0) x)
      * tile m c (t.val / 4 - 1) (Idealize.ShloMosaic.ix3 ⟨x.val / 128, by omega⟩ ⟨x.val % 128, Nat.mod_lt _ (by decide)⟩ (y 1)) : EReal) := by
    unfold prod
    pointwise [k0_pay5]
  rw [hp, REF_apply]
  refine (Finset.sum_congr rfl fun x _ => congrArg₂ (fun a b : EReal => a * b) (rows_apply m c t (y 0) x)
    (tile_read m c (t.val / 4 - 1) (by omega) x (y 1))).trans ?_
  refine (Fin.sum_univ_add (a := 1920) (b := 128) _).trans ?_
  refine (congrArg₂ (fun a b : EReal => a + b) (Finset.sum_congr rfl fun x _ => congrArg₂ (fun a b : EReal => a * b) (padX_lo _ x _) (padY_lo _ x _))
    (Finset.sum_eq_zero fun x _ => (congrArg (fun a : EReal => a * _) (padX_hi _ x _)).trans (zero_mul _))).trans ?_
  refine (add_zero _).trans ?_
  have e0 : (⟨896 * (t.val % 4) + (y 0).val, by have : (y 0).val < 896 := (y 0).isLt; omega⟩ : Fin 3584) = i 0 := Fin.ext h0.symm
  have e1 : (⟨512 * (t.val / 4 - 1) + (y 1).val, by have : (y 1).val < 512 := (y 1).isLt; omega⟩ : Fin 18944) = i 1 := Fin.ext h1.symm
  exact Finset.sum_congr rfl fun x _ => congrArg₂ (fun a b : EReal => a * b) (congrArg (fun z => m ((c : Thread nD τ).loc main_arg0) (Idealize.ShloMosaic.ix2 x z)) e0)
    (congrArg (fun z => m ((c : Thread nD τ).loc main_arg1) (Idealize.ShloMosaic.ix2 x z)) e1)

/-- The result array after the run. -/
theorem final (c : Dev nD) : (dats m 0 c).arrAt 5 (cfgs 0).N
    = REF (m ((c : Thread nD τ).loc main_arg0)) (m ((c : Thread nD τ).loc main_arg1)) := by
  refine (dats m 0 c).arrAt_eq_of_covers 5 _ covers fun t hf y => ?_
  have h4 := flush5 t hf
  have h5 := idx5 t h4
  blk_simp
  rw [after0_5]
  refine point m c t h4 y _ ?_ ?_
  · blk_simp [h5]
    exact congrArg (· + _) (Nat.mul_comm _ _)
  · blk_simp [h5]
    exact congrArg (· + _) (Nat.mul_comm _ _)

end Cert.WgradIdeal.Hand
end
-- ==== Proof.Dgrad.Points.lean ====
/- The grid's arithmetic: what the body's conditions and offsets are at the 260 points. -/
module

public import proofs.«01_k».proof.Proof.Gen.Dgrad.Frame
public import proofs.«01_k».proof.Proof.Gen.Dgrad.Skeleton

@[expose] public section

set_option maxRecDepth 16384

noncomputable section

namespace Cert.Dgrad.Hand

open Cert.Dgrad Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The coordinates of the point with number `n`. -/
def mk (n : Fin 260) : grid0.Coords := fun | ⟨0, _⟩ => n

theorem eq_mk (i : grid0.Coords) : i = mk (i 0) := by
  funext a
  match a with
  | ⟨0, _⟩ => rfl

theorem coords0 (t : Fin cfg0.N) : (grid0.coords t 0).val = t.val := by
  have ht : t.val < 260 := Nat.lt_of_lt_of_eq t.isLt N_0
  have e : (grid0.coords t 0).val = t.val / 1 % 260 := Pipeline.Grid.coords_val t 0 (by decide) rfl
  rw [e]; omega

/-- The condition of the body's first branch. -/
abbrev cond1 (i : grid0.Coords) : BitVec 1 :=
  Scalar.cmpi .ne (Scalar.extui (Scalar.cmpi .eq (BitVec.ofNat 32 (i 0).val) 0#32)) 0#32

theorem off1_eq (i : grid0.Coords) : k0_off1 i = ![((i 0).val + 6) % 7, 0, 0] := by
  have h : ∀ n : Fin 260, k0_off1 (mk n) = ![(n.val + 6) % 7, 0, 0] := by decide +kernel
  rw [eq_mk i]; exact h _
instance (i : grid0.Coords) : ClosedOff (k0_off1 i) := ⟨![((i 0).val + 6) % 7, 0, 0], off1_eq i⟩
theorem off2_eq (i : grid0.Coords) : k0_off2 i = ![((i 0).val + 6) % 7, 0, 0] := by
  have h : ∀ n : Fin 260, k0_off2 (mk n) = ![(n.val + 6) % 7, 0, 0] := by decide +kernel
  rw [eq_mk i]; exact h _
instance (i : grid0.Coords) : ClosedOff (k0_off2 i) := ⟨![((i 0).val + 6) % 7, 0, 0], off2_eq i⟩
theorem off3_eq (i : grid0.Coords) : k0_off3 i = ![((i 0).val + 6) % 7, 0, 0] := by
  have h : ∀ n : Fin 260, k0_off3 (mk n) = ![(n.val + 6) % 7, 0, 0] := by decide +kernel
  rw [eq_mk i]; exact h _
instance (i : grid0.Coords) : ClosedOff (k0_off3 i) := ⟨![((i 0).val + 6) % 7, 0, 0], off3_eq i⟩
theorem off4_eq (i : grid0.Coords) : k0_off4 i = ![((i 0).val + 6) % 7, 0, 0] := by
  have h : ∀ n : Fin 260, k0_off4 (mk n) = ![(n.val + 6) % 7, 0, 0] := by decide +kernel
  rw [eq_mk i]; exact h _
instance (i : grid0.Coords) : ClosedOff (k0_off4 i) := ⟨![((i 0).val + 6) % 7, 0, 0], off4_eq i⟩
theorem cond1_iff (i : grid0.Coords) : cond1 i = 1#1 ↔ ((i 0).val = 0) := by
  have h : ∀ n : Fin 260, cond1 (mk n) = 1#1 ↔ (n.val = 0) := by decide +kernel
  rw [eq_mk i]; exact h _
theorem cond2_iff (i : grid0.Coords) : k0_cond2 i = 1#1 ↔ ((i 0).val % 2 = 0 ∧ 0 < (i 0).val ∧ (i 0).val < 259) := by
  have h : ∀ n : Fin 260, k0_cond2 (mk n) = 1#1 ↔ (n.val % 2 = 0 ∧ 0 < n.val ∧ n.val < 259) := by decide +kernel
  rw [eq_mk i]; exact h _
theorem cond3_iff (i : grid0.Coords) : k0_cond3 i = 1#1 ↔ ((i 0).val % 2 = 1 ∧ (i 0).val < 259) := by
  have h : ∀ n : Fin 260, k0_cond3 (mk n) = 1#1 ↔ (n.val % 2 = 1 ∧ n.val < 259) := by decide +kernel
  rw [eq_mk i]; exact h _
theorem cond4_iff (i : grid0.Coords) : k0_cond4 i = 1#1 ↔ ((i 0).val = 259) := by
  have h : ∀ n : Fin 260, k0_cond4 (mk n) = 1#1 ↔ (n.val = 259) := by decide +kernel
  rw [eq_mk i]; exact h _
theorem cond5_iff (i : grid0.Coords) : k0_cond5 i = 1#1 ↔ (253 ≤ (i 0).val) := by
  have h : ∀ n : Fin 260, k0_cond5 (mk n) = 1#1 ↔ (253 ≤ n.val) := by decide +kernel
  rw [eq_mk i]; exact h _

end Cert.Dgrad.Hand

end
-- ==== Proof.Dgrad.RunA.lean ====
module

public import proofs.«01_k».proof.Proof.Dgrad.Points
public import Idealize.ShloMosaic.Lib.WholeRead
public import Idealize.ShloMosaic.Lib.VecWindow

@[expose] public section

set_option maxRecDepth 16384

noncomputable section

namespace Cert.Dgrad.Hand

open Cert.Dgrad Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the run's proof term is large
set_option maxHeartbeats 4000000 in
/-- At the first point: the body zeroes the accumulators and copies its block into the first buffer. Only the inputs' buffers are followed. -/
theorem runA (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x128 .i32) (harg8 : arg8.IsWhole) (hc1 : cond1 i = 1#1) (hc2 : ¬k0_cond2 i = 1#1) (hc3 : ¬k0_cond3 i = 1#1) (hc4 : ¬k0_cond4 i = 1#1) (hc5 : ¬k0_cond5 i = 1#1)
    (x1 : Vec F S512x512 .bf16) (x2 : Vec F S4x1920x128 .bf16) (x3 : Vec F S512x512 .bf16) (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_dgrad i arg1 harg1 arg2 harg2 arg3 harg3 arg4 harg4 arg5 harg5 arg6 harg6 arg7 harg7 arg8 harg8) K := by
  simp only [cc0_dgrad_eq_skeleton]; unfold cc0_dgrad_skel
  simp only [k0_part1_eq_skeleton, k0_part2_eq_skeleton, k0_part12_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  iexists _; iexists _; isplitr; swap; · iexact H8
  ipureintro; rfl

end Cert.Dgrad.Hand

end
-- ==== Proof.Dgrad.RunB.lean ====
module

public import proofs.«01_k».proof.Proof.Dgrad.Points
public import Idealize.ShloMosaic.Lib.WholeRead
public import Idealize.ShloMosaic.Lib.VecWindow

@[expose] public section

set_option maxRecDepth 16384

noncomputable section

namespace Cert.Dgrad.Hand

open Cert.Dgrad Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the run's proof term is large
set_option maxHeartbeats 4000000 in
/-- At an even point before the last sweep: the body multiplies the second buffer and copies its block into the first. Only the inputs' buffers are followed. -/
theorem runB (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x128 .i32) (harg8 : arg8.IsWhole) (hc1 : ¬cond1 i = 1#1) (hc2 : k0_cond2 i = 1#1) (hc3 : ¬k0_cond3 i = 1#1) (hc4 : ¬k0_cond4 i = 1#1) (hc5 : ¬k0_cond5 i = 1#1)
    (x1 : Vec F S512x512 .bf16) (x2 : Vec F S4x1920x128 .bf16) (x3 : Vec F S512x512 .bf16) (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_dgrad i arg1 harg1 arg2 harg2 arg3 harg3 arg4 harg4 arg5 harg5 arg6 harg6 arg7 harg7 arg8 harg8) K := by
  simp only [cc0_dgrad_eq_skeleton]; unfold cc0_dgrad_skel
  simp only [k0_part3_eq_skeleton, k0_part4_eq_skeleton, k0_part5_eq_skeleton, k0_part12_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  iexists _; iexists _; isplitr; swap; · iexact H8
  ipureintro; rfl

end Cert.Dgrad.Hand

end
-- ==== Proof.Dgrad.RunC.lean ====
module

public import proofs.«01_k».proof.Proof.Dgrad.Points
public import Idealize.ShloMosaic.Lib.WholeRead
public import Idealize.ShloMosaic.Lib.VecWindow

@[expose] public section

set_option maxRecDepth 16384

noncomputable section

namespace Cert.Dgrad.Hand

open Cert.Dgrad Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the run's proof term is large
set_option maxHeartbeats 4000000 in
/-- At an odd point before the last sweep: the body multiplies the first buffer and copies its block into the second. Only the inputs' buffers are followed. -/
theorem runC (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x128 .i32) (harg8 : arg8.IsWhole) (hc1 : ¬cond1 i = 1#1) (hc2 : ¬k0_cond2 i = 1#1) (hc3 : k0_cond3 i = 1#1) (hc4 : ¬k0_cond4 i = 1#1) (hc5 : ¬k0_cond5 i = 1#1)
    (x1 : Vec F S512x512 .bf16) (x2 : Vec F S4x1920x128 .bf16) (x3 : Vec F S512x512 .bf16) (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_dgrad i arg1 harg1 arg2 harg2 arg3 harg3 arg4 harg4 arg5 harg5 arg6 harg6 arg7 harg7 arg8 harg8) K := by
  simp only [cc0_dgrad_eq_skeleton]; unfold cc0_dgrad_skel
  simp only [k0_part6_eq_skeleton, k0_part7_eq_skeleton, k0_part8_eq_skeleton, k0_part12_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  iexists _; iexists _; isplitr; swap; · iexact H8
  ipureintro; rfl

end Cert.Dgrad.Hand

end
-- ==== Proof.Dgrad.RunE.lean ====
module

public import proofs.«01_k».proof.Proof.Dgrad.Points
public import Idealize.ShloMosaic.Lib.WholeRead
public import Idealize.ShloMosaic.Lib.VecWindow

@[expose] public section

set_option maxRecDepth 16384

noncomputable section

namespace Cert.Dgrad.Hand

open Cert.Dgrad Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the run's proof term is large
set_option maxHeartbeats 4000000 in
/-- At an even point of the last sweep: as before, and the slab that is now complete is written out. Only the inputs' buffers are followed. -/
theorem runE (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x128 .i32) (harg8 : arg8.IsWhole) (hc1 : ¬cond1 i = 1#1) (hc2 : k0_cond2 i = 1#1) (hc3 : ¬k0_cond3 i = 1#1) (hc4 : ¬k0_cond4 i = 1#1) (hc5 : k0_cond5 i = 1#1)
    (x1 : Vec F S512x512 .bf16) (x2 : Vec F S4x1920x128 .bf16) (x3 : Vec F S512x512 .bf16) (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_dgrad i arg1 harg1 arg2 harg2 arg3 harg3 arg4 harg4 arg5 harg5 arg6 harg6 arg7 harg7 arg8 harg8) K := by
  simp only [cc0_dgrad_eq_skeleton]; unfold cc0_dgrad_skel
  simp only [k0_part3_eq_skeleton, k0_part4_eq_skeleton, k0_part5_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  iexists _; iexists _; isplitr; swap; · iexact H8
  ipureintro; rfl

end Cert.Dgrad.Hand

end
-- ==== Proof.Dgrad.RunG.lean ====
module

public import proofs.«01_k».proof.Proof.Dgrad.Points
public import Idealize.ShloMosaic.Lib.WholeRead
public import Idealize.ShloMosaic.Lib.VecWindow

@[expose] public section

set_option maxRecDepth 16384

noncomputable section

namespace Cert.Dgrad.Hand

open Cert.Dgrad Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the run's proof term is large
set_option maxHeartbeats 4000000 in
/-- At an odd point of the last sweep: as before, and the slab that is now complete is written out. Only the inputs' buffers are followed. -/
theorem runG (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x128 .i32) (harg8 : arg8.IsWhole) (hc1 : ¬cond1 i = 1#1) (hc2 : ¬k0_cond2 i = 1#1) (hc3 : k0_cond3 i = 1#1) (hc4 : ¬k0_cond4 i = 1#1) (hc5 : k0_cond5 i = 1#1)
    (x1 : Vec F S512x512 .bf16) (x2 : Vec F S4x1920x128 .bf16) (x3 : Vec F S512x512 .bf16) (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_dgrad i arg1 harg1 arg2 harg2 arg3 harg3 arg4 harg4 arg5 harg5 arg6 harg6 arg7 harg7 arg8 harg8) K := by
  simp only [cc0_dgrad_eq_skeleton]; unfold cc0_dgrad_skel
  simp only [k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  iexists _; iexists _; isplitr; swap; · iexact H8
  ipureintro; rfl

end Cert.Dgrad.Hand

end
-- ==== Proof.Dgrad.RunH.lean ====
module

public import proofs.«01_k».proof.Proof.Dgrad.Points
public import Idealize.ShloMosaic.Lib.WholeRead
public import Idealize.ShloMosaic.Lib.VecWindow

@[expose] public section

set_option maxRecDepth 16384

noncomputable section

namespace Cert.Dgrad.Hand

open Cert.Dgrad Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the run's proof term is large
set_option maxHeartbeats 4000000 in
/-- At the last point: the body multiplies the first buffer and writes the last slab out. Only the inputs' buffers are followed. -/
theorem runH (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x128 .i32) (harg8 : arg8.IsWhole) (hc1 : ¬cond1 i = 1#1) (hc2 : ¬k0_cond2 i = 1#1) (hc3 : ¬k0_cond3 i = 1#1) (hc4 : k0_cond4 i = 1#1) (hc5 : k0_cond5 i = 1#1)
    (x1 : Vec F S512x512 .bf16) (x2 : Vec F S4x1920x128 .bf16) (x3 : Vec F S512x512 .bf16) (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_dgrad i arg1 harg1 arg2 harg2 arg3 harg3 arg4 harg4 arg5 harg5 arg6 harg6 arg7 harg7 arg8 harg8) K := by
  simp only [cc0_dgrad_eq_skeleton]; unfold cc0_dgrad_skel
  simp only [k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  iexists _; iexists _; isplitr; swap; · iexact H8
  ipureintro; rfl

end Cert.Dgrad.Hand

end
-- ==== Proof.Dgrad.Body.lean ====
/- The kernel's run at every grid point, the launch, and the frame: of the buffers it writes only that it owns them. -/
module

public import proofs.«01_k».proof.Proof.Gen.Dgrad.Frame
public import proofs.«01_k».proof.Proof.Gen.Dgrad.Skeleton
public import proofs.«01_k».proof.Proof.Dgrad.Points
public import proofs.«01_k».proof.Proof.Dgrad.RunA
public import proofs.«01_k».proof.Proof.Dgrad.RunB
public import proofs.«01_k».proof.Proof.Dgrad.RunC
public import proofs.«01_k».proof.Proof.Dgrad.RunE
public import proofs.«01_k».proof.Proof.Dgrad.RunG
public import proofs.«01_k».proof.Proof.Dgrad.RunH
public import Idealize.ShloMosaic.Lib.Claim
public import Idealize.ShloMosaic.Lib.WholeRead

@[expose] public section

set_option maxRecDepth 16384

noncomputable section

namespace Cert.Dgrad.Hand

open Cert.Dgrad Cert.Dgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The accumulator, the two tile buffers, and the buffer the result's words are put together in. -/
abbrev scM0 : Memref sig .tc .vmem S7x1920x512 .f32 := Memref.whole cc0_scratch0
abbrev scM1 : Memref sig .tc .vmem S512x512 .bf16 := Memref.whole cc0_scratch1
abbrev scM2 : Memref sig .tc .vmem S512x512 .bf16 := Memref.whole cc0_scratch2
abbrev scM3 : Memref sig .tc .vmem S960x128 .i32 := Memref.whole cc0_scratch3

/-- The launch's invariant: every scratch buffer at some contents, and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The window whose contents the frame does not follow: the result's. -/
def fgt : Fin cfg0.W → Bool := fun w => w == 3

/-- The proof data: the arrays as the launch finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := by
  dsimp only [dats]

theorem Phi_eq (c : Dev nD) (t) : (dats m 0 c).Φ t = Pipeline.ΦA spec0 c := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

section Cases

variable (c : Dev nD) (t : Fin cfg0.N)

theorem cval : ((grid0.coords t) 0).val = t.val := coords0 t

set_option maxHeartbeats 4800000 in
/-- The first point. -/
theorem sound_A (h : t.val = 0) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : cond1 (grid0.coords t) = 1#1 := by rw [cond1_iff, cval]; omega
  have hc2 : ¬k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  have hc5 : ¬k0_cond5 (grid0.coords t) = 1#1 := by rw [cond5_iff, cval]; omega
  unfold bodyPre bodyPost bodyAt0
  simp only [before0_0, before0_1, before0_2, after0_0, after0_1, after0_2, Phi_eq]
  rw [show (dats m 0 c).owesAt () t.succ = (dats m 0 c).owesAt () t.castSucc from rfl]
  rw [PhiA0_eq]
  iintro ⟨⟨⟨HS0, HS1, HS2, HS3⟩, Hg⟩, Ho, ⟨%d0, H0⟩, ⟨%d1, H1⟩, ⟨%d2, H2⟩, H3⟩
  iapply (runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

set_option maxHeartbeats 4800000 in
/-- An even point before the last sweep. -/
theorem sound_B (h0 : 0 < t.val) (h : t.val < 253) (he : t.val % 2 = 0) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  have hc5 : ¬k0_cond5 (grid0.coords t) = 1#1 := by rw [cond5_iff, cval]; omega
  unfold bodyPre bodyPost bodyAt0
  simp only [before0_0, before0_1, before0_2, after0_0, after0_1, after0_2, Phi_eq]
  rw [show (dats m 0 c).owesAt () t.succ = (dats m 0 c).owesAt () t.castSucc from rfl]
  rw [PhiA0_eq]
  iintro ⟨⟨⟨HS0, HS1, HS2, HS3⟩, Hg⟩, Ho, ⟨%d0, H0⟩, ⟨%d1, H1⟩, ⟨%d2, H2⟩, H3⟩
  iapply (runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

set_option maxHeartbeats 4800000 in
/-- An odd point before the last sweep. -/
theorem sound_C (h : t.val < 253) (he : t.val % 2 = 1) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : ¬k0_cond2 (grid0.coords t) = 1#1 := by rw [cond2_iff, cval]; omega
  have hc3 : k0_cond3 (grid0.coords t) = 1#1 := by rw [cond3_iff, cval]; omega
  have hc4 : ¬k0_cond4 (grid0.coords t) = 1#1 := by rw [cond4_iff, cval]; omega
  have hc5 : ¬k0_cond5 (grid0.coords t) = 1#1 := by rw [cond5_iff, cval]; omega
  unfold bodyPre bodyPost bodyAt0
  simp only [before0_0, before0_1, before0_2, after0_0, after0_1, after0_2, Phi_eq]
  rw [show (dats m 0 c).owesAt () t.succ = (dats m 0 c).owesAt () t.castSucc from rfl]
  rw [PhiA0_eq]
  iintro ⟨⟨⟨HS0, HS1, HS2, HS3⟩, Hg⟩, Ho, ⟨%d0, H0⟩, ⟨%d1, H1⟩, ⟨%d2, H2⟩, H3⟩
  iapply (runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

set_option maxHeartbeats 4800000 in
/-- An even point of the last sweep. -/
theorem sound_E (h0 : 253 ≤ t.val) (h : t.val < 259) (he : t.val % 2 = 0) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  have hc5 : k0_cond5 (grid0.coords t) = 1#1 := by rw [cond5_iff, cval]; omega
  unfold bodyPre bodyPost bodyAt0
  simp only [before0_0, before0_1, before0_2, after0_0, after0_1, after0_2, Phi_eq]
  rw [show (dats m 0 c).owesAt () t.succ = (dats m 0 c).owesAt () t.castSucc from rfl]
  rw [PhiA0_eq]
  iintro ⟨⟨⟨HS0, HS1, HS2, HS3⟩, Hg⟩, Ho, ⟨%d0, H0⟩, ⟨%d1, H1⟩, ⟨%d2, H2⟩, H3⟩
  iapply (runE c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

set_option maxHeartbeats 4800000 in
/-- An odd point of the last sweep. -/
theorem sound_G (h0 : 253 ≤ t.val) (h : t.val < 259) (he : t.val % 2 = 1) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : ¬k0_cond2 (grid0.coords t) = 1#1 := by rw [cond2_iff, cval]; omega
  have hc3 : k0_cond3 (grid0.coords t) = 1#1 := by rw [cond3_iff, cval]; omega
  have hc4 : ¬k0_cond4 (grid0.coords t) = 1#1 := by rw [cond4_iff, cval]; omega
  have hc5 : k0_cond5 (grid0.coords t) = 1#1 := by rw [cond5_iff, cval]; omega
  unfold bodyPre bodyPost bodyAt0
  simp only [before0_0, before0_1, before0_2, after0_0, after0_1, after0_2, Phi_eq]
  rw [show (dats m 0 c).owesAt () t.succ = (dats m 0 c).owesAt () t.castSucc from rfl]
  rw [PhiA0_eq]
  iintro ⟨⟨⟨HS0, HS1, HS2, HS3⟩, Hg⟩, Ho, ⟨%d0, H0⟩, ⟨%d1, H1⟩, ⟨%d2, H2⟩, H3⟩
  iapply (runG c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

set_option maxHeartbeats 4800000 in
/-- The last point. -/
theorem sound_H (h : t.val = 259) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : ¬k0_cond2 (grid0.coords t) = 1#1 := by rw [cond2_iff, cval]; omega
  have hc3 : ¬k0_cond3 (grid0.coords t) = 1#1 := by rw [cond3_iff, cval]; omega
  have hc4 : k0_cond4 (grid0.coords t) = 1#1 := by rw [cond4_iff, cval]; omega
  have hc5 : k0_cond5 (grid0.coords t) = 1#1 := by rw [cond5_iff, cval]; omega
  unfold bodyPre bodyPost bodyAt0
  simp only [before0_0, before0_1, before0_2, after0_0, after0_1, after0_2, Phi_eq]
  rw [show (dats m 0 c).owesAt () t.succ = (dats m 0 c).owesAt () t.castSucc from rfl]
  rw [PhiA0_eq]
  iintro ⟨⟨⟨HS0, HS1, HS2, HS3⟩, Hg⟩, Ho, ⟨%d0, H0⟩, ⟨%d1, H1⟩, ⟨%d2, H2⟩, H3⟩
  iapply (runH c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

end Cases

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  by_cases h0 : t.val = 0
  · exact sound_A m c t h0
  · by_cases h : t.val < 253
    · by_cases he : t.val % 2 = 0
      · exact sound_B m c t (by omega) h he
      · exact sound_C m c t h (by omega)
    · by_cases hl : t.val = 259
      · exact sound_H m c t hl
      · by_cases he : t.val % 2 = 0
        · exact sound_E m c t (by omega) (by omega) he
        · exact sound_G m c t (by omega) (by omega) (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every array but the result's is followed, and every semaphore counter is zero afterwards. -/
theorem run_main_quiescent : θ_run defs (onTc (τ := τ) (main (F := F))) (s₀ m ρ)
    (fun r => RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := Phi_eq m)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c)⟩, h.2⟩) (run_main_quiescent m ρ)

end Cert.Dgrad.Hand

end
-- ==== Proof.DgradIdeal.Words.lean ====
/- How the result's rows are put in order through the word buffer: what the buffer holds after its three stores. -/
module

public import proofs.«01_k».proof.Proof.Gen.DgradIdeal.Skeleton
public import Idealize.ShloMosaic.Lib.VecWindow
public import Idealize.ShloMosaic.Lib.ValueLayout
public import Idealize.ShloMosaic.Lib.Pipeline.ValueKit
public import Idealize.ShloMosaic.Lib.Pipeline.CanonAppend

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layout

variable {α : Type} {n : ℕ}

theorem cast_mid (x : (⟨2, ![n, 128]⟩ : Shape).Idx → α) (h : (⟨2, ![n, 128]⟩ : Shape).ShapeCasts ⟨3, ![n, 1, 128]⟩) (w : Fin n) (u : Fin 1) (j : Fin 128) :
    shapeCast ⟨3, ![n, 1, 128]⟩ x h (ix3 w u j) = x (ix2 w j) :=
  shapeCast_apply x h _ _ (by
    rw [Shape.rowMajor_val_three, Shape.rowMajor_val_two]
    show w.val * 128 + j.val = (w.val * 1 + u.val) * 128 + j.val
    omega)

theorem cast_unmid (x : (⟨3, ![n, 1, 128]⟩ : Shape).Idx → α) (h : (⟨3, ![n, 1, 128]⟩ : Shape).ShapeCasts ⟨2, ![n, 128]⟩) (w : Fin n) (j : Fin 128) :
    shapeCast ⟨2, ![n, 128]⟩ x h (ix2 w j) = x (ix3 w 0 j) :=
  shapeCast_apply x h _ _ (by
    rw [Shape.rowMajor_val_three, Shape.rowMajor_val_two]
    show (w.val * 1 + 0) * 128 + j.val = w.val * 128 + j.val
    omega)

theorem inter3 (lo hi : (⟨3, ![n, 1, 128]⟩ : Shape).Idx → α) (h : (⟨3, ![n, 2, 128]⟩ : Shape).Bitcasts 16 ⟨3, ![n, 1, 128]⟩ 32) (w : Fin n) (p : Fin 2) (j : Fin 128) :
    interleaveRows ⟨3, ![n, 2, 128]⟩ lo hi h (ix3 w p j) = if p.val = 0 then lo (ix3 w 0 j) else hi (ix3 w 0 j) := by
  have e : ∀ (f : (⟨3, ![n, 1, 128]⟩ : Shape).Idx → α) (z : (⟨3, ![n, 1, 128]⟩ : Shape).Idx), (z 0).val = w.val → (z 2).val = j.val → f z = f (ix3 w 0 j) := by
    intro f z h0 h2
    congr 1
    funext a
    apply Fin.ext
    match a with
    | ⟨0, _⟩ => exact h0
    | ⟨1, _⟩ => show (z 1).val = 0; have h1 : (z 1).val < 1 := (z 1).isLt; omega
    | ⟨2, _⟩ => exact h2
  unfold interleaveRows
  have hr : Shape.row (s := (⟨3, ![n, 2, 128]⟩ : Shape)) (ix3 w p j) % 2 = p.val := Nat.mod_eq_of_lt p.isLt
  simp only [hr]
  by_cases hp : p.val = 0
  · rw [if_pos hp, if_pos hp]; exact e lo _ rfl rfl
  · rw [if_neg hp, if_neg hp]; exact e hi _ rfl rfl

theorem rows3 (p : Fin 2) (x : (⟨3, ![n, 2, 128]⟩ : Shape).Idx → α) (h : (⟨3, ![n, 2, 128]⟩ : Shape).Bitcasts 16 ⟨3, ![n, 1, 128]⟩ 32) (w : Fin n) (u : Fin 1) (j : Fin 128) :
    rowsOfParity p ⟨3, ![n, 1, 128]⟩ x h (ix3 w u j) = x (ix3 w p j) := by
  unfold rowsOfParity
  congr 1
  funext a
  apply Fin.ext
  match a with
  | ⟨0, _⟩ => rfl
  | ⟨1, _⟩ => show 2 * u.val + p.val = p.val; omega
  | ⟨2, _⟩ => rfl

theorem rows2 (p : Fin 2) (x : S1920x128.Idx → α) (h : S1920x128.Bitcasts 16 S960x128 32) (w : Fin 960) (j : Fin 128) :
    rowsOfParity p S960x128 x h (ix2 w j) = x (ix2 ⟨2 * w.val + p.val, by omega⟩ j) := by
  unfold rowsOfParity
  congr 1
  funext a
  apply Fin.ext
  match a with
  | ⟨0, _⟩ => rfl
  | ⟨1, _⟩ => rfl

theorem inter2 (lo hi : S960x128.Idx → α) (h : S1920x128.Bitcasts 16 S960x128 32) (r : Fin 1920) (j : Fin 128) :
    interleaveRows S1920x128 lo hi h (ix2 r j) = if r.val % 2 = 0 then lo (ix2 ⟨r.val / 2, by omega⟩ j) else hi (ix2 ⟨r.val / 2, by omega⟩ j) := by
  unfold interleaveRows
  have hr : Shape.row (s := S1920x128) (ix2 r j) = r.val := rfl
  simp only [hr]
  by_cases hp : r.val % 2 = 0
  · rw [if_pos hp, if_pos hp]
    congr 1
    funext a
    match a with
    | ⟨0, _⟩ => rfl
    | ⟨1, _⟩ => rfl
  · rw [if_neg hp, if_neg hp]
    congr 1
    funext a
    match a with
    | ⟨0, _⟩ => rfl
    | ⟨1, _⟩ => rfl

end Layout

/-- 128 columns as they are first stored: the rows in pairs. -/
def paired (s : Vec F S1920x128 .bf16) : Vec F S960x2x128 .bf16 :=
  interleaveRows S960x2x128 (shapeCast S960x1x128 (rowsOfParity 0 S960x128 s bitcasts_S1920x128_w16_S960x128_w32) shapeCasts_S960x128_S960x1x128)
    (shapeCast S960x1x128 (rowsOfParity 1 S960x128 s bitcasts_S1920x128_w16_S960x128_w32) shapeCasts_S960x128_S960x1x128) bitcasts_S960x2x128_w16_S960x1x128_w32

/-- The low (0) or high (1) halves of every other word. -/
def half (p : Fin 2) (r : Vec F S480x2x128 .bf16) : Vec F S480x128 .bf16 :=
  shapeCast S480x128 (rowsOfParity p S480x1x128 r bitcasts_S480x2x128_w16_S480x1x128_w32) shapeCasts_S480x1x128_S480x128

/-- Words of given halves. -/
def join (a b : Vec F S480x128 .bf16) : Vec F S480x2x128 .bf16 :=
  interleaveRows S480x2x128 (shapeCast S480x1x128 a shapeCasts_S480x128_S480x1x128) (shapeCast S480x1x128 b shapeCasts_S480x128_S480x1x128) bitcasts_S480x2x128_w16_S480x1x128_w32

theorem paired_apply (s : Vec F S1920x128 .bf16) (w : Fin 960) (p : Fin 2) (j : Fin 128) :
    paired s (ix3 w p j) = s (ix2 ⟨2 * w.val + p.val, by omega⟩ j) := by
  unfold paired
  refine (inter3 _ _ _ w p j).trans ?_
  by_cases hp : p.val = 0
  · rw [if_pos hp]
    refine (cast_mid _ _ w 0 j).trans ((rows2 0 s _ w j).trans ?_)
    congr 2
    exact Fin.ext (by show 2 * w.val + 0 = 2 * w.val + p.val; omega)
  · rw [if_neg hp]
    refine (cast_mid _ _ w 0 j).trans ((rows2 1 s _ w j).trans ?_)
    congr 2
    exact Fin.ext (by show 2 * w.val + 1 = 2 * w.val + p.val; have := p.isLt; omega)

theorem half_apply (p : Fin 2) (r : Vec F S480x2x128 .bf16) (w : Fin 480) (j : Fin 128) : half p r (ix2 w j) = r (ix3 w p j) :=
  (cast_unmid _ _ w j).trans (rows3 p r _ w 0 j)

theorem join_apply (a b : Vec F S480x128 .bf16) (w : Fin 480) (p : Fin 2) (j : Fin 128) :
    join a b (ix3 w p j) = if p.val = 0 then a (ix2 w j) else b (ix2 w j) := by
  unfold join
  refine (inter3 _ _ _ w p j).trans ?_
  by_cases hp : p.val = 0
  · rw [if_pos hp, if_pos hp]; exact cast_mid _ _ w 0 j
  · rw [if_neg hp, if_neg hp]; exact cast_mid _ _ w 0 j

/-- The whole buffer, its even words and its odd words. -/
abbrev allW : Rect S960x2x128 := Rect.unit ![0, 0, 0] S960x2x128.size inb_S960x2x128_S960x2x128_0_0_0
abbrev evenW : Rect S960x2x128 := ⟨⟨![0, 0, 0], S480x2x128.size, ![2, 1, 1], inb_S960x2x128_S480x2x128_0_0_0_s_2_1_1⟩, spos_2_1_1⟩
abbrev oddW : Rect S960x2x128 := ⟨⟨![1, 0, 0], S480x2x128.size, ![2, 1, 1], inb_S960x2x128_S480x2x128_1_0_0_s_2_1_1⟩, spos_2_1_1⟩

section Chain

variable (v : View sig .tc .vmem S960x2x128 .bf16) (s : Vec F S1920x128 .bf16) (H : List (View.Piece (Elt F) S960x2x128 .bf16))

/-- The first store. -/
def stored : List (View.Piece (Elt F) S960x2x128 .bf16) := ⟨allW, paired s⟩ :: H
/-- The even and the odd words read back. -/
def evens : Vec F S480x2x128 .bf16 := v.readCov (stored s H) evenW.toLoadRect
def odds : Vec F S480x2x128 .bf16 := v.readCov (stored s H) oddW.toLoadRect
/-- All three stores, the last first. -/
def chain : List (View.Piece (Elt F) S960x2x128 .bf16) :=
  ⟨oddW, join (half 1 (evens v s H)) (half 1 (odds v s H))⟩ :: ⟨evenW, join (half 0 (evens v s H)) (half 0 (odds v s H))⟩ :: stored s H
/-- The buffer read as a whole at the end. -/
def words : Vec F S960x2x128 .bf16 := v.readCov (chain v s H) allW.toLoadRect

theorem stored_read (y : S960x2x128.Idx) : View.canon (stored s H) y = paired s y := by
  unfold stored
  have h := View.canon_cons_unit_lit (Val := Elt F) (S := S960x2x128) (e := .bf16) (off := ![0, 0, 0]) inb_S960x2x128_S960x2x128_0_0_0 (paired s) H (by decide)
  exact congrFun h y

theorem evens_apply (w : Fin 480) (p : Fin 2) (j : Fin 128) : evens v s H (ix3 w p j) = s (ix2 ⟨4 * w.val + p.val, by omega⟩ j) := by
  unfold evens
  rw [View.readCov_eq_canon']
  refine (stored_read s H _).trans ?_
  refine Eq.trans (congrArg (paired s) (?_ : _ = ix3 (⟨2 * w.val, by omega⟩ : Fin 960) p j)) ((paired_apply s _ p j).trans ?_)
  · funext a
    apply Fin.ext
    match a with
    | ⟨0, _⟩ => show 0 + 2 * w.val = 2 * w.val; omega
    | ⟨1, _⟩ => show 0 + 1 * p.val = p.val; omega
    | ⟨2, _⟩ => show 0 + 1 * j.val = j.val; omega
  · congr 2
    exact Fin.ext (by show 2 * (2 * w.val) + p.val = 4 * w.val + p.val; omega)

theorem odds_apply (w : Fin 480) (p : Fin 2) (j : Fin 128) : odds v s H (ix3 w p j) = s (ix2 ⟨4 * w.val + 2 + p.val, by omega⟩ j) := by
  unfold odds
  rw [View.readCov_eq_canon']
  refine (stored_read s H _).trans ?_
  refine Eq.trans (congrArg (paired s) (?_ : _ = ix3 (⟨2 * w.val + 1, by omega⟩ : Fin 960) p j)) ((paired_apply s _ p j).trans ?_)
  · funext a
    apply Fin.ext
    match a with
    | ⟨0, _⟩ => show 1 + 2 * w.val = 2 * w.val + 1; omega
    | ⟨1, _⟩ => show 0 + 1 * p.val = p.val; omega
    | ⟨2, _⟩ => show 0 + 1 * j.val = j.val; omega
  · congr 2
    exact Fin.ext (by show 2 * (2 * w.val + 1) + p.val = 4 * w.val + 2 + p.val; omega)

/-- What the buffer holds in the end: at word `y 0`, half `y 1`, the element of row `4 (y 0 / 2) + 2 (y 1) + y 0 % 2`. -/
def mixed (y : S960x2x128.Idx) : Elt F .bf16 :=
  s (ix2 ⟨4 * ((y 0).val / 2) + 2 * (y 1).val + (y 0).val % 2, by
    have h0 : (y 0).val < 960 := (y 0).isLt; have h1 : (y 1).val < 2 := (y 1).isLt; omega⟩ (y 2))

theorem joined_apply (p : Fin 2) (x : S480x2x128.Idx) :
    join (half p (evens v s H)) (half p (odds v s H)) x
      = s (ix2 ⟨4 * (x 0).val + 2 * (x 1).val + p.val, by
        have h0 : (x 0).val < 480 := (x 0).isLt; have h1 : (x 1).val < 2 := (x 1).isLt; omega⟩ (x 2)) := by
  have hx : x = ix3 (x 0) (x 1) (x 2) := by
    funext a
    match a with
    | ⟨0, _⟩ => rfl
    | ⟨1, _⟩ => rfl
    | ⟨2, _⟩ => rfl
  have h1 : (x 1).val < 2 := (x 1).isLt
  refine (congrArg _ hx).trans ((join_apply _ _ (x 0) (x 1) (x 2)).trans ?_)
  by_cases hp : (x 1).val = 0
  · rw [if_pos hp]
    refine (half_apply p _ (x 0) (x 2)).trans ((evens_apply v s H (x 0) p (x 2)).trans ?_)
    congr 2
    exact Fin.ext (by show 4 * (x 0).val + p.val = 4 * (x 0).val + 2 * (x 1).val + p.val; omega)
  · rw [if_neg hp]
    refine (half_apply p _ (x 0) (x 2)).trans ((odds_apply v s H (x 0) p (x 2)).trans ?_)
    congr 2
    exact Fin.ext (by show 4 * (x 0).val + 2 + p.val = 4 * (x 0).val + 2 * (x 1).val + p.val; omega)

theorem words_apply (y : S960x2x128.Idx) : words v s H y = mixed s y := by
  unfold words
  rw [View.readCov_eq_canon']
  have e : allW.toLoadRect.idx y = y := by
    funext a
    apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  show View.canon (chain v s H) (allW.toLoadRect.idx y) = _
  rw [e]
  refine View.canon_append_of_pieces (mixed s) (stored s H)
    [⟨oddW, join (half 1 (evens v s H)) (half 1 (odds v s H))⟩, ⟨evenW, join (half 0 (evens v s H)) (half 0 (odds v s H))⟩] ?_ y ?_
  · intro q hq x
    rcases List.mem_cons.mp hq with rfl | hq
    · refine (joined_apply v s H 1 x).trans ?_
      unfold mixed
      congr 1
      funext a
      apply Fin.ext
      match a with
      | ⟨0, _⟩ =>
        show 4 * (x 0).val + 2 * (x 1).val + 1 = 4 * ((1 + 2 * (x 0).val) / 2) + 2 * (0 + 1 * (x 1).val) + (1 + 2 * (x 0).val) % 2
        omega
      | ⟨1, _⟩ => show (x 2).val = 0 + 1 * (x 2).val; omega
    · obtain rfl := List.mem_singleton.mp hq
      refine (joined_apply v s H 0 x).trans ?_
      unfold mixed
      congr 1
      funext a
      apply Fin.ext
      match a with
      | ⟨0, _⟩ =>
        show 4 * (x 0).val + 2 * (x 1).val + 0 = 4 * ((0 + 2 * (x 0).val) / 2) + 2 * (0 + 1 * (x 1).val) + (0 + 2 * (x 0).val) % 2
        omega
      | ⟨1, _⟩ => show (x 2).val = 0 + 1 * (x 2).val; omega
  · have h0 : (y 0).val < 960 := (y 0).isLt
    by_cases hp : (y 0).val % 2 = 0
    · refine ⟨_, List.mem_cons_of_mem _ (List.mem_singleton_self _), ?_⟩
      show y ∈ evenW.set
      have : y = evenW.emb (ix3 (⟨(y 0).val / 2, by omega⟩ : Fin 480) (y 1) (y 2)) := by
        funext a
        apply Fin.ext
        match a with
        | ⟨0, _⟩ => show (y 0).val = 0 + 2 * ((y 0).val / 2); omega
        | ⟨1, _⟩ => show (y 1).val = 0 + 1 * (y 1).val; omega
        | ⟨2, _⟩ => show (y 2).val = 0 + 1 * (y 2).val; omega
      rw [this]
      exact LoadRect.idx_mem _ _
    · refine ⟨_, List.mem_cons_self, ?_⟩
      show y ∈ oddW.set
      have : y = oddW.emb (ix3 (⟨(y 0).val / 2, by omega⟩ : Fin 480) (y 1) (y 2)) := by
        funext a
        apply Fin.ext
        match a with
        | ⟨0, _⟩ => show (y 0).val = 1 + 2 * ((y 0).val / 2); omega
        | ⟨1, _⟩ => show (y 1).val = 0 + 1 * (y 1).val; omega
        | ⟨2, _⟩ => show (y 2).val = 0 + 1 * (y 2).val; omega
      rw [this]
      exact LoadRect.idx_mem _ _

end Chain

/-- The rows of the words: row `2 w` is the low halves of word row `w`, row `2 w + 1` the high ones. -/
def unpaired (x : Vec F S960x2x128 .bf16) : Vec F S1920x128 .bf16 :=
  interleaveRows S1920x128 (shapeCast S960x128 (rowsOfParity 0 S960x1x128 x bitcasts_S960x2x128_w16_S960x1x128_w32) shapeCasts_S960x1x128_S960x128)
    (shapeCast S960x128 (rowsOfParity 1 S960x1x128 x bitcasts_S960x2x128_w16_S960x1x128_w32) shapeCasts_S960x1x128_S960x128) bitcasts_S1920x128_w16_S960x128_w32

/-- The row a row of the result comes from: of four rows the middle two change places. -/
def swapRow (r : Fin 1920) : Fin 1920 := ⟨4 * (r.val / 4) + 2 * (r.val % 2) + r.val / 2 % 2, by omega⟩

theorem unpaired_words (v : View sig .tc .vmem S960x2x128 .bf16) (s : Vec F S1920x128 .bf16) (H : List (View.Piece (Elt F) S960x2x128 .bf16)) (r : Fin 1920) (j : Fin 128) :
    unpaired (words v s H) (ix2 r j) = s (ix2 (swapRow r) j) := by
  have hr := r.isLt
  unfold unpaired
  refine (inter2 _ _ _ r j).trans ?_
  by_cases hp : r.val % 2 = 0
  · rw [if_pos hp]
    refine (cast_unmid _ _ _ j).trans ((rows3 0 _ _ _ 0 j).trans ((words_apply v s H _).trans ?_))
    unfold mixed swapRow
    congr 2
    exact Fin.ext (by show 4 * (r.val / 2 / 2) + 2 * 0 + r.val / 2 % 2 = 4 * (r.val / 4) + 2 * (r.val % 2) + r.val / 2 % 2; omega)
  · rw [if_neg hp]
    refine (cast_unmid _ _ _ j).trans ((rows3 1 _ _ _ 0 j).trans ((words_apply v s H _).trans ?_))
    unfold mixed swapRow
    congr 2
    exact Fin.ext (by show 4 * (r.val / 2 / 2) + 2 * 1 + r.val / 2 % 2 = 4 * (r.val / 4) + 2 * (r.val % 2) + r.val / 2 % 2; omega)

/-- The 128 columns starting at `o` of a vector of 512. -/
def cols (o : ℕ) (h : S1920x512.Slices ![0, o] S1920x128) (x : Vec F S1920x512 .bf16) : Vec F S1920x128 .bf16 := extractStridedSlice S1920x128 ![0, o] x h

/-- Four stores into the result's block, of 128 columns each. -/
def four (w3 w2 w1 w0 : Vec F S1920x128 .bf16) : List (View.Piece (Elt F) S1920x512 .bf16) :=
  [⟨Rect.unit ![0, 384] S1920x128.size inb_S1920x512_S1920x128_0_384, w3⟩,
   ⟨Rect.unit ![0, 256] S1920x128.size inb_S1920x512_S1920x128_0_256, w2⟩,
   ⟨Rect.unit ![0, 128] S1920x128.size inb_S1920x512_S1920x128_0_128, w1⟩,
   ⟨Rect.unit ![0, 0] S1920x128.size inb_S1920x512_S1920x128_0_0, w0⟩]

def cols0 (x : Vec F S1920x512 .bf16) : Vec F S1920x128 .bf16 := cols 0 slices_S1920x512_o0_0_S1920x128 x
def cols1 (x : Vec F S1920x512 .bf16) : Vec F S1920x128 .bf16 := cols 128 slices_S1920x512_o0_128_S1920x128 x
def cols2 (x : Vec F S1920x512 .bf16) : Vec F S1920x128 .bf16 := cols 256 slices_S1920x512_o0_256_S1920x128 x
def cols3 (x : Vec F S1920x512 .bf16) : Vec F S1920x128 .bf16 := cols 384 slices_S1920x512_o0_384_S1920x128 x

/-- The four stores of the last steps. -/
def outPieces (v : View sig .tc .vmem S960x2x128 .bf16) (x : Vec F S1920x512 .bf16) : List (View.Piece (Elt F) S1920x512 .bf16) :=
  four (unpaired (words v (cols3 x) (chain v (cols2 x) (chain v (cols1 x) (chain v (cols0 x) [])))))
    (unpaired (words v (cols2 x) (chain v (cols1 x) (chain v (cols0 x) []))))
    (unpaired (words v (cols1 x) (chain v (cols0 x) [])))
    (unpaired (words v (cols0 x) []))

/-- The vector with its rows in the result's order. -/
def swapped (x : Vec F S1920x512 .bf16) : Vec F S1920x512 .bf16 := fun y => x (ix2 (swapRow (y 0)) (y 1))

theorem piece_apply (v : View sig .tc .vmem S960x2x128 .bf16) (x : Vec F S1920x512 .bf16) (o : ℕ) (h : S1920x512.Slices ![0, o] S1920x128)
    (inb : ∀ a, (![0, o] : Fin 2 → ℕ) a + S1920x128.size a ≤ S1920x512.size a) (H : List (View.Piece (Elt F) S960x2x128 .bf16)) (z : S1920x128.Idx) :
    unpaired (words v (cols o h x) H) z = swapped x ((Rect.unit (s := S1920x512) ![0, o] S1920x128.size inb).emb z) := by
  have hz : z = ix2 (z 0) (z 1) := by
    funext a
    match a with
    | ⟨0, _⟩ => rfl
    | ⟨1, _⟩ => rfl
  refine (congrArg _ hz).trans ((unpaired_words v _ H (z 0) (z 1)).trans ?_)
  unfold cols extractStridedSlice swapped
  congr 1
  funext a
  apply Fin.ext
  match a with
  | ⟨0, _⟩ =>
    show 0 + (4 * ((z 0).val / 4) + 2 * ((z 0).val % 2) + (z 0).val / 2 % 2)
      = 4 * ((0 + 1 * (z 0).val) / 4) + 2 * ((0 + 1 * (z 0).val) % 2) + (0 + 1 * (z 0).val) / 2 % 2
    omega
  | ⟨1, _⟩ => show o + (z 1).val = o + 1 * (z 1).val; omega

theorem four_cover (w3 w2 w1 w0 : Vec F S1920x128 .bf16) (y : S1920x512.Idx) : ∃ p ∈ four w3 w2 w1 w0, y ∈ p.1.set := by
  have h1 : (y 1).val < 512 := (y 1).isLt
  have h0 : (y 0).val < 1920 := (y 0).isLt
  have key : ∀ (o : ℕ) (inb : ∀ a, (![0, o] : Fin 2 → ℕ) a + S1920x128.size a ≤ S1920x512.size a), o ≤ (y 1).val → (y 1).val < o + 128 →
      y ∈ (Rect.unit (s := S1920x512) ![0, o] S1920x128.size inb).set := by
    intro o inb ha hb
    rw [Rect.mem_set_unit]
    intro a
    match a with
    | ⟨0, _⟩ => exact ⟨Nat.zero_le _, by show (y 0).val < 0 + 1920; omega⟩
    | ⟨1, _⟩ => exact ⟨ha, hb⟩
  unfold four
  by_cases a3 : 384 ≤ (y 1).val
  · exact ⟨⟨Rect.unit ![0, 384] S1920x128.size inb_S1920x512_S1920x128_0_384, w3⟩, List.mem_cons_self, key 384 inb_S1920x512_S1920x128_0_384 a3 (by omega)⟩
  by_cases a2 : 256 ≤ (y 1).val
  · exact ⟨⟨Rect.unit ![0, 256] S1920x128.size inb_S1920x512_S1920x128_0_256, w2⟩, List.mem_cons_of_mem _ List.mem_cons_self, key 256 inb_S1920x512_S1920x128_0_256 a2 (by omega)⟩
  by_cases a1 : 128 ≤ (y 1).val
  · exact ⟨⟨Rect.unit ![0, 128] S1920x128.size inb_S1920x512_S1920x128_0_128, w1⟩, List.mem_cons_of_mem _ (List.mem_cons_of_mem _ List.mem_cons_self), key 128 inb_S1920x512_S1920x128_0_128 a1 (by omega)⟩
  · exact ⟨⟨Rect.unit ![0, 0] S1920x128.size inb_S1920x512_S1920x128_0_0, w0⟩, List.mem_cons_of_mem _ (List.mem_cons_of_mem _ (List.mem_cons_of_mem _ List.mem_cons_self)), key 0 inb_S1920x512_S1920x128_0_0 (Nat.zero_le _) (by omega)⟩

theorem four_mem {w3 w2 w1 w0 : Vec F S1920x128 .bf16} {P : View.Piece (Elt F) S1920x512 .bf16 → Prop}
    (h3 : P ⟨Rect.unit ![0, 384] S1920x128.size inb_S1920x512_S1920x128_0_384, w3⟩)
    (h2 : P ⟨Rect.unit ![0, 256] S1920x128.size inb_S1920x512_S1920x128_0_256, w2⟩)
    (h1 : P ⟨Rect.unit ![0, 128] S1920x128.size inb_S1920x512_S1920x128_0_128, w1⟩)
    (h0 : P ⟨Rect.unit ![0, 0] S1920x128.size inb_S1920x512_S1920x128_0_0, w0⟩) : ∀ p ∈ four w3 w2 w1 w0, P p := by
  intro p hp
  unfold four at hp
  rcases List.mem_cons.mp hp with rfl | hp
  · exact h3
  rcases List.mem_cons.mp hp with rfl | hp
  · exact h2
  rcases List.mem_cons.mp hp with rfl | hp
  · exact h1
  obtain rfl := List.mem_singleton.mp hp
  exact h0

/-- After the four stores the block holds the vector with its rows in the result's order. -/
theorem out_read (v : View sig .tc .vmem S960x2x128 .bf16) (x : Vec F S1920x512 .bf16) (u : View sig .tc .vmem S1920x512 .bf16) (f : u.ty.Contents (Elt F)) :
    u.read (Elt F) (u.writes (Elt F) f (outPieces v x)) = swapped x := by
  funext y
  refine View.read_writes_apply_of_pieces u f (swapped x) (outPieces v x) ?_ y (four_cover _ _ _ _ y)
  exact four_mem (P := fun p => ∀ z : p.1.shape.Idx, p.2 z = swapped x (p.1.emb z))
    (fun z => piece_apply v x 384 slices_S1920x512_o0_384_S1920x128 inb_S1920x512_S1920x128_0_384 _ z)
    (fun z => piece_apply v x 256 slices_S1920x512_o0_256_S1920x128 inb_S1920x512_S1920x128_0_256 _ z)
    (fun z => piece_apply v x 128 slices_S1920x512_o0_128_S1920x128 inb_S1920x512_S1920x128_0_128 _ z)
    (fun z => piece_apply v x 0 slices_S1920x512_o0_0_S1920x128 inb_S1920x512_S1920x128_0_0 _ z)

end Cert.DgradIdeal.Hand

end
-- ==== Proof.DgradIdeal.Points.lean ====
/- The grid's arithmetic: what the body's conditions and offsets are at the 260 points. -/
module

public import proofs.«01_k».proof.Proof.Gen.DgradIdeal.Frame
public import proofs.«01_k».proof.Proof.Gen.DgradIdeal.Skeleton

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The coordinates of the point with number `n`. -/
def mk (n : Fin 260) : grid0.Coords := fun | ⟨0, _⟩ => n

theorem eq_mk (i : grid0.Coords) : i = mk (i 0) := by
  funext a
  match a with
  | ⟨0, _⟩ => rfl

theorem coords0 (t : Fin cfg0.N) : (grid0.coords t 0).val = t.val := by
  have ht : t.val < 260 := Nat.lt_of_lt_of_eq t.isLt N_0
  have e : (grid0.coords t 0).val = t.val / 1 % 260 := Pipeline.Grid.coords_val t 0 (by decide) rfl
  rw [e]; omega

/-- The condition of the body's first branch. -/
abbrev cond1 (i : grid0.Coords) : BitVec 1 :=
  Scalar.cmpi .ne (Scalar.extui (Scalar.cmpi .eq (BitVec.ofNat 32 (i 0).val) 0#32)) 0#32

theorem off1_eq (i : grid0.Coords) : k0_off1 i = ![((i 0).val + 6) % 7, 0, 0] := by
  have h : ∀ n : Fin 260, k0_off1 (mk n) = ![(n.val + 6) % 7, 0, 0] := by decide +kernel
  rw [eq_mk i]; exact h _
instance (i : grid0.Coords) : ClosedOff (k0_off1 i) := ⟨![((i 0).val + 6) % 7, 0, 0], off1_eq i⟩
theorem off2_eq (i : grid0.Coords) : k0_off2 i = ![((i 0).val + 6) % 7, 0, 0] := by
  have h : ∀ n : Fin 260, k0_off2 (mk n) = ![(n.val + 6) % 7, 0, 0] := by decide +kernel
  rw [eq_mk i]; exact h _
instance (i : grid0.Coords) : ClosedOff (k0_off2 i) := ⟨![((i 0).val + 6) % 7, 0, 0], off2_eq i⟩
theorem off3_eq (i : grid0.Coords) : k0_off3 i = ![((i 0).val + 6) % 7, 0, 0] := by
  have h : ∀ n : Fin 260, k0_off3 (mk n) = ![(n.val + 6) % 7, 0, 0] := by decide +kernel
  rw [eq_mk i]; exact h _
instance (i : grid0.Coords) : ClosedOff (k0_off3 i) := ⟨![((i 0).val + 6) % 7, 0, 0], off3_eq i⟩
theorem off4_eq (i : grid0.Coords) : k0_off4 i = ![((i 0).val + 6) % 7, 0, 0] := by
  have h : ∀ n : Fin 260, k0_off4 (mk n) = ![(n.val + 6) % 7, 0, 0] := by decide +kernel
  rw [eq_mk i]; exact h _
instance (i : grid0.Coords) : ClosedOff (k0_off4 i) := ⟨![((i 0).val + 6) % 7, 0, 0], off4_eq i⟩
theorem cond1_iff (i : grid0.Coords) : cond1 i = 1#1 ↔ ((i 0).val = 0) := by
  have h : ∀ n : Fin 260, cond1 (mk n) = 1#1 ↔ (n.val = 0) := by decide +kernel
  rw [eq_mk i]; exact h _
theorem cond2_iff (i : grid0.Coords) : k0_cond2 i = 1#1 ↔ ((i 0).val % 2 = 0 ∧ 0 < (i 0).val ∧ (i 0).val < 259) := by
  have h : ∀ n : Fin 260, k0_cond2 (mk n) = 1#1 ↔ (n.val % 2 = 0 ∧ 0 < n.val ∧ n.val < 259) := by decide +kernel
  rw [eq_mk i]; exact h _
theorem cond3_iff (i : grid0.Coords) : k0_cond3 i = 1#1 ↔ ((i 0).val % 2 = 1 ∧ (i 0).val < 259) := by
  have h : ∀ n : Fin 260, k0_cond3 (mk n) = 1#1 ↔ (n.val % 2 = 1 ∧ n.val < 259) := by decide +kernel
  rw [eq_mk i]; exact h _
theorem cond4_iff (i : grid0.Coords) : k0_cond4 i = 1#1 ↔ ((i 0).val = 259) := by
  have h : ∀ n : Fin 260, k0_cond4 (mk n) = 1#1 ↔ (n.val = 259) := by decide +kernel
  rw [eq_mk i]; exact h _
theorem cond5_iff (i : grid0.Coords) : k0_cond5 i = 1#1 ↔ (253 ≤ (i 0).val) := by
  have h : ∀ n : Fin 260, k0_cond5 (mk n) = 1#1 ↔ (253 ≤ n.val) := by decide +kernel
  rw [eq_mk i]; exact h _

end Cert.DgradIdeal.Hand

end
-- ==== Proof.DgradIdeal.Fill.lean ====
/- What the stores of a grid point leave: the tile copied into a buffer, the product added to its slab, the finished slab in the result's block. -/
module

public import proofs.«01_k».proof.Proof.DgradIdeal.Words
public import proofs.«01_k».proof.Proof.DgradIdeal.Points
public import Idealize.ShloMosaic.Lib.WholeRead
public import Idealize.ShloMosaic.Lib.VecWindow

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A 128x128 block as the body stores it. -/
def cp (v : Vec F S128x128 .bf16) : FVec F S128x128 .bf16 :=
  shapeCast S128x128 (shapeCast S128x128 v shapeCasts_S128x128_S128x128) shapeCasts_S128x128_S128x128

theorem cp_eq (v : Vec F S128x128 .bf16) : cp v = v := by
  unfold cp
  rw [shapeCast_self, shapeCast_self]

/-- A list of sixteen, from four by four. -/
def list16 {α : Type} (p : Fin 4 → Fin 4 → α) : List α :=
  [p 3 3, p 3 2, p 3 1, p 3 0, p 2 3, p 2 2, p 2 1, p 2 0, p 1 3, p 1 2, p 1 1, p 1 0, p 0 3, p 0 2, p 0 1, p 0 0]

theorem mem_list16 {α : Type} (p : Fin 4 → Fin 4 → α) (l g : Fin 4) : p l g ∈ list16 p := by
  unfold list16; fin_cases l <;> fin_cases g <;> simp

theorem of_mem_list16 {α : Type} (p : Fin 4 → Fin 4 → α) (q : α) (h : q ∈ list16 p) : ∃ l g, q = p l g := by
  unfold list16 at h
  simp only [List.mem_cons, List.not_mem_nil, or_false] at h
  rcases h with h | h | h | h | h | h | h | h | h | h | h | h | h | h | h | h <;> exact ⟨_, _, h⟩

theorem blockInb (l g : Fin 4) : ∀ a, (![128 * l.val, 128 * g.val] : Fin 2 → ℕ) a + S128x128.size a ≤ S512x512.size a := by
  intro a
  have := g.isLt
  have := l.isLt
  match a with
  | ⟨0, _⟩ => show 128 * l.val + 128 ≤ 512; omega
  | ⟨1, _⟩ => show 128 * g.val + 128 ≤ 512; omega

/-- One stored block. -/
def pieceOf (M : Memref sig .tc .vmem S512x512 .bf16) (hM : M.IsWhole) (X : Vec F S512x512 .bf16) (l g : Fin 4) : View.Piece (Elt F) S512x512 .bf16 :=
  ⟨Rect.unit (s := S512x512) ![128 * l.val, 128 * g.val] S128x128.size (blockInb l g),
    cp (M.view.readAt (Elt F) (Rect.unit (s := S512x512) ![128 * l.val, 128 * g.val] S128x128.size (blockInb l g)).toLoadRect (hM.unread X))⟩

/-- After the sixteen stores the buffer holds the window's block. -/
theorem fill_read (M : Memref sig .tc .vmem S512x512 .bf16) (hM : M.IsWhole) (X : Vec F S512x512 .bf16) (u : View sig .tc .vmem S512x512 .bf16) (f : u.ty.Contents (Elt F)) :
    u.read (Elt F) (u.writes (Elt F) f (list16 (pieceOf M hM X))) = X := by
  funext y
  have hy0 : (y 0).val < 512 := (y 0).isLt
  have hy1 : (y 1).val < 512 := (y 1).isLt
  refine View.read_writes_apply_of_pieces u f X _ ?_ y ?_
  · intro p hp x
    obtain ⟨l, g, rfl⟩ := of_mem_list16 _ p hp
    have hv : (pieceOf M hM X l g).2 x
        = cp (M.view.readAt (Elt F) (Rect.unit (s := S512x512) ![128 * l.val, 128 * g.val] S128x128.size (blockInb l g)).toLoadRect (hM.unread X)) x := rfl
    exact hv.trans ((congrFun (cp_eq _) x).trans (hM.readAt_unread _ _ _))
  · refine ⟨pieceOf M hM X ⟨(y 0).val / 128, by omega⟩ ⟨(y 1).val / 128, by omega⟩, mem_list16 _ _ _, ?_⟩
    show y ∈ (Rect.unit (s := S512x512) ![128 * ((y 0).val / 128), 128 * ((y 1).val / 128)] S128x128.size (blockInb ⟨(y 0).val / 128, by omega⟩ ⟨(y 1).val / 128, by omega⟩)).set
    rw [Rect.mem_set_unit]
    intro a
    match a with
    | ⟨0, _⟩ => show 128 * ((y 0).val / 128) ≤ (y 0).val ∧ (y 0).val < 128 * ((y 0).val / 128) + 128; omega
    | ⟨1, _⟩ => show 128 * ((y 1).val / 128) ≤ (y 1).val ∧ (y 1).val < 128 * ((y 1).val / 128) + 128; omega

/-- A slab plus the product of the four row groups, side by side, with a tile. -/
def mul (x2 : Vec F S4x1920x128 .bf16) (s : Vec F S1x1920x512 .f32) (b : Vec F S512x512 .bf16) : Vec F S1x1920x512 .f32 :=
  k0_pay5 (fun j => x2 (ix3 0 (j 1) (j 2))) (fun j => x2 (ix3 1 (j 1) (j 2))) (fun j => x2 (ix3 2 (j 1) (j 2))) (fun j => x2 (ix3 3 (j 1) (j 2))) s b

/-- Slab `k` of the accumulator. -/
def slabAt (k : Fin 7) (A : Vec F S7x1920x512 .f32) : Vec F S1x1920x512 .f32 := fun j => A (ix3 k (j 1) (j 2))

/-- The accumulator after a product is added to slab `k`. -/
def accNew (k : Fin 7) (A : Vec F S7x1920x512 .f32) (x2 : Vec F S4x1920x128 .bf16) (b : Vec F S512x512 .bf16) : Vec F S7x1920x512 .f32 :=
  fun y => if (y 0).val = k.val then mul x2 (slabAt k A) b (ix3 0 (y 1) (y 2)) else A y

/-- The store into the accumulator. -/
def accPiece (off : Fin 3 → ℕ) (inb : ∀ a, off a + S1x1920x512.size a ≤ S7x1920x512.size a)
    (arg2 : Memref sig .tc .vmem S4x1920x128 .bf16) (harg2 : arg2.IsWhole) (arg5 : Memref sig .tc .vmem S7x1920x512 .f32) (harg5 : arg5.IsWhole)
    (argb : Memref sig .tc .vmem S512x512 .bf16) (hargb : argb.IsWhole) (x2 : Vec F S4x1920x128 .bf16) (a5 : Vec F S7x1920x512 .f32) (b : Vec F S512x512 .bf16) :
    View.Piece (Elt F) S7x1920x512 .f32 :=
  ⟨Rect.unit (s := S7x1920x512) off S1x1920x512.size inb,
    k0_pay5 (arg2.view.readAt (Elt F) (Rect.unit (s := S4x1920x128) ![0, 0, 0] S1x1920x128.size inb_S4x1920x128_S1x1920x128_0_0_0).toLoadRect (harg2.unread x2))
      (arg2.view.readAt (Elt F) (Rect.unit (s := S4x1920x128) ![1, 0, 0] S1x1920x128.size inb_S4x1920x128_S1x1920x128_1_0_0).toLoadRect (harg2.unread x2))
      (arg2.view.readAt (Elt F) (Rect.unit (s := S4x1920x128) ![2, 0, 0] S1x1920x128.size inb_S4x1920x128_S1x1920x128_2_0_0).toLoadRect (harg2.unread x2))
      (arg2.view.readAt (Elt F) (Rect.unit (s := S4x1920x128) ![3, 0, 0] S1x1920x128.size inb_S4x1920x128_S1x1920x128_3_0_0).toLoadRect (harg2.unread x2))
      (arg5.view.readAt (Elt F) (Rect.unit (s := S7x1920x512) off S1x1920x512.size inb).toLoadRect (harg5.unread a5))
      (argb.view.readAt (Elt F) (Rect.unit (s := S512x512) ![0, 0] S512x512.size inb_S512x512_S512x512_0_0).toLoadRect (hargb.unread b))⟩

theorem slab_load (k : ℕ) (hk : k < 4) (inb : ∀ a, (![k, 0, 0] : Fin 3 → ℕ) a + S1x1920x128.size a ≤ S4x1920x128.size a)
    (arg2 : Memref sig .tc .vmem S4x1920x128 .bf16) (harg2 : arg2.IsWhole) (x2 : Vec F S4x1920x128 .bf16) :
    arg2.view.readAt (Elt F) (Rect.unit (s := S4x1920x128) ![k, 0, 0] S1x1920x128.size inb).toLoadRect (harg2.unread x2) = fun j => x2 (ix3 ⟨k, hk⟩ (j 1) (j 2)) := by
  funext j
  have h0 : (j 0).val < 1 := (j 0).isLt
  refine (harg2.readAt_unread _ _ _).trans ?_
  congr 1
  funext a
  apply Fin.ext
  match a with
  | ⟨0, _⟩ => show k + 1 * (j 0).val = k; omega
  | ⟨1, _⟩ => show 0 + 1 * (j 1).val = (j 1).val; omega
  | ⟨2, _⟩ => show 0 + 1 * (j 2).val = (j 2).val; omega

theorem whole_load (argb : Memref sig .tc .vmem S512x512 .bf16) (hargb : argb.IsWhole) (b : Vec F S512x512 .bf16) :
    argb.view.readAt (Elt F) (Rect.unit (s := S512x512) ![0, 0] S512x512.size inb_S512x512_S512x512_0_0).toLoadRect (hargb.unread b) = b := by
  funext j
  refine (hargb.readAt_unread _ _ _).trans ?_
  congr 1
  funext a
  apply Fin.ext
  match a with
  | ⟨0, _⟩ => show 0 + 1 * (j 0).val = (j 0).val; omega
  | ⟨1, _⟩ => show 0 + 1 * (j 1).val = (j 1).val; omega

/-- The accumulator after a slab is stored. -/
theorem slab_store (off : Fin 3 → ℕ) (inb : ∀ a, off a + S1x1920x512.size a ≤ S7x1920x512.size a) (k : Fin 7) (hoff : off = ![k.val, 0, 0])
    (arg5 : Memref sig .tc .vmem S7x1920x512 .f32) (harg5 : arg5.IsWhole) (a5 : Vec F S7x1920x512 .f32) (w : Vec F S1x1920x512 .f32) (y : S7x1920x512.Idx) :
    arg5.view.read (Elt F) (arg5.view.writes (Elt F) (harg5.unread a5) [⟨Rect.unit (s := S7x1920x512) off S1x1920x512.size inb, w⟩]) y
      = if (y 0).val = k.val then w (ix3 0 (y 1) (y 2)) else a5 y := by
  by_cases h : (y 0).val = k.val
  · rw [if_pos h]
    refine View.read_writes_apply_of_pieces _ _ (fun y => w (ix3 0 (y 1) (y 2))) _ ?_ y ?_
    · intro p hp x
      obtain rfl := List.mem_singleton.mp hp
      have h0 : (x 0).val < 1 := (x 0).isLt
      show w x = _
      congr 1
      funext a
      apply Fin.ext
      subst hoff
      match a with
      | ⟨0, _⟩ => show (x 0).val = 0; omega
      | ⟨1, _⟩ => show (x 1).val = 0 + 1 * (x 1).val; omega
      | ⟨2, _⟩ => show (x 2).val = 0 + 1 * (x 2).val; omega
    · refine ⟨_, List.mem_singleton_self _, ?_⟩
      show y ∈ (Rect.unit (s := S7x1920x512) off S1x1920x512.size inb).set
      rw [Rect.mem_set_unit]
      subst hoff
      intro a
      have h1 : (y 1).val < 1920 := (y 1).isLt
      have h2 : (y 2).val < 512 := (y 2).isLt
      match a with
      | ⟨0, _⟩ => show k.val ≤ (y 0).val ∧ (y 0).val < k.val + 1; omega
      | ⟨1, _⟩ => show 0 ≤ (y 1).val ∧ (y 1).val < 0 + 1920; omega
      | ⟨2, _⟩ => show 0 ≤ (y 2).val ∧ (y 2).val < 0 + 512; omega
  · rw [if_neg h, View.read_writes_apply_of_forall_not_mem]
    · exact congrFun (harg5.read_unread a5) y
    · intro p hp hmem
      obtain rfl := List.mem_singleton.mp hp
      have := (Rect.mem_set_unit.mp (show y ∈ (Rect.unit (s := S7x1920x512) off S1x1920x512.size inb).set from hmem)) 0
      subst hoff
      have h2 : k.val ≤ (y 0).val ∧ (y 0).val < k.val + 1 := this
      omega

section Acc

variable (off : Fin 3 → ℕ) (inb : ∀ a, off a + S1x1920x512.size a ≤ S7x1920x512.size a) {k : Fin 7} (hoff : off = ![k.val, 0, 0])
    (arg2 : Memref sig .tc .vmem S4x1920x128 .bf16) (harg2 : arg2.IsWhole) (arg5 : Memref sig .tc .vmem S7x1920x512 .f32) (harg5 : arg5.IsWhole)
    (argb : Memref sig .tc .vmem S512x512 .bf16) (hargb : argb.IsWhole) (x2 : Vec F S4x1920x128 .bf16) (a5 : Vec F S7x1920x512 .f32) (b : Vec F S512x512 .bf16)

include hoff in
/-- What is stored. -/
theorem acc_val : accPiece off inb arg2 harg2 arg5 harg5 argb hargb x2 a5 b = ⟨Rect.unit (s := S7x1920x512) off S1x1920x512.size inb, mul x2 (slabAt k a5) b⟩ := by
  subst hoff
  have h5 : arg5.view.readAt (Elt F) (Rect.unit (s := S7x1920x512) ![k.val, 0, 0] S1x1920x512.size inb).toLoadRect (harg5.unread a5) = slabAt k a5 := by
    funext j
    have h0 : (j 0).val < 1 := (j 0).isLt
    refine (harg5.readAt_unread _ _ _).trans ?_
    unfold slabAt
    congr 1
    funext a
    apply Fin.ext
    match a with
    | ⟨0, _⟩ => show k.val + 1 * (j 0).val = k.val; omega
    | ⟨1, _⟩ => show 0 + 1 * (j 1).val = (j 1).val; omega
    | ⟨2, _⟩ => show 0 + 1 * (j 2).val = (j 2).val; omega
  unfold accPiece mul
  dsimp only
  rw [slab_load 0 (by decide), slab_load 1 (by decide), slab_load 2 (by decide), slab_load 3 (by decide), whole_load, h5]
  rfl

include hoff in
/-- The accumulator after the store. -/
theorem acc_read : arg5.view.read (Elt F) (arg5.view.writes (Elt F) (harg5.unread a5) [accPiece off inb arg2 harg2 arg5 harg5 argb hargb x2 a5 b]) = accNew k a5 x2 b := by
  rw [acc_val off inb hoff arg2 harg2 arg5 harg5 argb hargb x2 a5 b]
  funext y
  exact slab_store off inb k hoff arg5 harg5 a5 _ y

include hoff in
/-- The slab read back for the result is the one just stored. -/
theorem acc_again (off' : Fin 3 → ℕ) (inb' : ∀ a, off' a + S1x1920x512.size a ≤ S7x1920x512.size a) (hoff' : off' = ![k.val, 0, 0]) :
    arg5.view.readCov [accPiece off inb arg2 harg2 arg5 harg5 argb hargb x2 a5 b] (Rect.unit (s := S7x1920x512) off' S1x1920x512.size inb').toLoadRect = mul x2 (slabAt k a5) b := by
  have e : off' = off := hoff'.trans hoff.symm
  subst e
  rw [acc_val off' inb hoff arg2 harg2 arg5 harg5 argb hargb x2 a5 b]
  exact View.readCov_cons_toLoadRect arg5.view (Rect.unit (s := S7x1920x512) off' S1x1920x512.size inb) (mul x2 (slabAt k a5) b) []

end Acc

/-- The accumulator cleared. -/
theorem zero_read (u : View sig .tc .vmem S7x1920x512 .f32) (f : u.ty.Contents (Elt F)) :
    u.read (Elt F) (u.writes (Elt F) f [⟨Rect.unit ![0, 0, 0] S7x1920x512.size inb_S7x1920x512_S7x1920x512_0_0_0, k0_pay9⟩]) = (k0_pay9 : FVec F S7x1920x512 .f32) := by
  funext y
  refine View.read_writes_apply_of_pieces u f k0_pay9 _ ?_ y ?_
  · intro p hp x
    obtain rfl := List.mem_singleton.mp hp
    show (k0_pay9 : FVec F S7x1920x512 .f32) x = k0_pay9 _
    congr 1
    funext a
    apply Fin.ext
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · refine ⟨_, List.mem_singleton_self _, ?_⟩
    show y ∈ (Rect.unit (s := S7x1920x512) ![0, 0, 0] S7x1920x512.size inb_S7x1920x512_S7x1920x512_0_0_0).set
    rw [Rect.mem_set_unit]
    intro a
    have := (y a).isLt
    match a with
    | ⟨0, _⟩ => exact ⟨Nat.zero_le _, by show (y 0).val < 0 + 7; have h : (y 0).val < 7 := (y 0).isLt; omega⟩
    | ⟨1, _⟩ => exact ⟨Nat.zero_le _, by show (y 1).val < 0 + 1920; have h : (y 1).val < 1920 := (y 1).isLt; omega⟩
    | ⟨2, _⟩ => exact ⟨Nat.zero_le _, by show (y 2).val < 0 + 512; have h : (y 2).val < 512 := (y 2).isLt; omega⟩

/-- What a last step stores as its block of the result. -/
def outv (s : Vec F S1x1920x512 .f32) (x3 : Vec F S512x512 .bf16) : Vec F S1920x512 .bf16 := swapped (k0_pay51 s x3)

end Cert.DgradIdeal.Hand

end
-- ==== Proof.DgradIdeal.Tile.lean ====
/- What the scratch buffers hold before each grid point, as a statement about the windows' blocks: no separation logic here. -/
module

public import proofs.«01_k».proof.Proof.DgradIdeal.Fill

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point numbered `n` (modulo the grid). -/
def pt (n : ℕ) : Fin cfg0.N := ⟨n % 260, by rw [show cfg0.N = 260 from N_0]; exact Nat.mod_lt _ (by decide)⟩

theorem pt_val (t : Fin cfg0.N) : pt t.val = t := by
  have h : t.val < 260 := lt_of_lt_of_eq t.isLt (show cfg0.N = 260 from N_0)
  exact Fin.ext (Nat.mod_eq_of_lt h)

/-- The tile staged at point `n`, and the rows it is multiplied with one point later. -/
def wblk (c : Dev nD) (n : ℕ) : Vec F S512x512 .bf16 := iblk m c 0 (pt n)
def yblk (c : Dev nD) (n : ℕ) : Vec F S4x1920x128 .bf16 := iblk m c 1 (pt n)

/-- The slab point `n` adds to. -/
def slabNo (n : ℕ) : Fin 7 := ⟨(n + 6) % 7, Nat.mod_lt _ (by decide)⟩

/-- The accumulator after point `n`. -/
def accAt (c : Dev nD) : ℕ → Vec F S7x1920x512 .f32
  | 0 => k0_pay9
  | n + 1 => accNew (slabNo (n + 1)) (accAt c n) (yblk m c (n + 1)) (wblk m c n)

/-- Before point `n`: the accumulator as the points before left it, and the tile staged last in its buffer. -/
def Inv (c : Dev nD) (n : ℕ) (A : Vec F S7x1920x512 .f32) (B0 B1 : Vec F S512x512 .bf16) : Prop :=
  0 < n → A = accAt m c (n - 1) ∧ (n ≤ 259 → (if (n - 1) % 2 = 0 then B0 else B1) = wblk m c (n - 1))

theorem inv_zero (c : Dev nD) (A : Vec F S7x1920x512 .f32) (B0 B1 : Vec F S512x512 .bf16) : Inv m c 0 A B0 B1 := fun h => absurd h (lt_irrefl 0)

theorem inv_one (c : Dev nD) (A : Vec F S7x1920x512 .f32) (B0 B1 : Vec F S512x512 .bf16) (hA : A = k0_pay9) (hB : B0 = wblk m c 0) : Inv m c 1 A B0 B1 :=
  fun _ => ⟨hA, fun _ => hB⟩

theorem inv_next (c : Dev nD) (n : ℕ) (hn : 0 < n) (A A' : Vec F S7x1920x512 .f32) (B0 B1 B0' B1' : Vec F S512x512 .bf16) (hN : n ≤ 259) (h : Inv m c n A B0 B1)
    (hA : A' = accNew (slabNo n) A (yblk m c n) (if (n - 1) % 2 = 0 then B0 else B1))
    (hB : n < 259 → (if n % 2 = 0 then B0' else B1') = wblk m c n) : Inv m c (n + 1) A' B0' B1' := by
  obtain ⟨h1, h2⟩ := h hn
  have h2 := h2 hN
  intro _
  refine ⟨?_, fun h3 => hB (by omega)⟩
  rw [h2, h1] at hA
  obtain ⟨k, rfl⟩ : ∃ k, n = k + 1 := ⟨n - 1, by omega⟩
  exact hA

/-- What a last point leaves in the result's block. -/
def outAt (c : Dev nD) (t : Fin cfg0.N) : Vec F S1920x512 .bf16 :=
  outv (mul (yblk m c t.val) (slabAt (slabNo t.val) (accAt m c (t.val - 1))) (wblk m c (t.val - 1))) (iblk m c 2 t)

end Cert.DgradIdeal.Hand

end
-- ==== Proof.DgradIdeal.RunA.lean ====
module

public import proofs.«01_k».proof.Proof.DgradIdeal.Points
public import Idealize.ShloMosaic.Lib.WholeRead
public import Idealize.ShloMosaic.Lib.VecWindow

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- At the first point: the body zeroes the accumulators and copies its block into the first buffer. -/
def runA (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole) (hc1 : cond1 i = 1#1) (hc2 : ¬k0_cond2 i = 1#1) (hc3 : ¬k0_cond3 i = 1#1) (hc4 : ¬k0_cond4 i = 1#1) (hc5 : ¬k0_cond5 i = 1#1)
    (x1 : Vec F S512x512 .bf16) (x2 : Vec F S4x1920x128 .bf16) (x3 : Vec F S512x512 .bf16) (x4 : Vec F S1920x512 .bf16) (a5 : Vec F S7x1920x512 .f32) (b6 b7 : Vec F S512x512 .bf16) :
    { L : List (View.Piece (Elt F) S7x1920x512 .f32) × List (View.Piece (Elt F) S512x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare a5 ∗ owns (c : Thread nD τ) arg6 fullShare b6 ∗ owns (c : Thread nD τ) arg7 fullShare b7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (arg5.view.read (Elt F) (arg5.view.writes (Elt F) (harg5.unread a5) L.1)) ∗ owns (c : Thread nD τ) arg6 fullShare (arg6.view.read (Elt F) (arg6.view.writes (Elt F) (harg6.unread b6) L.2)) ∗ owns (c : Thread nD τ) arg7 fullShare b7 ∗ (∃ d, owns (c : Thread nD τ) arg8 fullShare d)) -∗ K ⟨⟩))
          ⊢ wp frame (wpE (defs₀ (F := F)) Variants.none c none) E (cc0_dgrad i arg1 harg1 arg2 harg2 arg3 harg3 arg4 harg4 arg5 harg5 arg6 harg6 arg7 harg7 arg8 harg8) K } := by
  refine ⟨⟨?_, ?_⟩, fun E K => ?run⟩
  case run =>
    simp only [cc0_dgrad_eq_skeleton]; unfold cc0_dgrad_skel
    simp only [k0_part1_eq_skeleton, k0_part2_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro; rfl
    isplitl [H6]
    · iexists _; isplitr; swap; · iexact H6
      ipureintro; rfl
    isplitl [H7]
    · iexists _; isplitr; · ipureintro; exact harg7.read_unread _
      iexact H7
    iexists _; iexists _; isplitr; swap; · iexact H8
    ipureintro; rfl

end Cert.DgradIdeal.Hand

end
-- ==== Proof.DgradIdeal.FitA.lean ====
/- The stores of the first point, in the terms of the lemmas about them. -/
module

public import proofs.«01_k».proof.Proof.DgradIdeal.Fill
public import proofs.«01_k».proof.Proof.DgradIdeal.RunA

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole)
  (x1 : Vec F S512x512 .bf16) (x2 : Vec F S4x1920x128 .bf16) (x3 : Vec F S512x512 .bf16) (x4 : Vec F S1920x512 .bf16) (a5 : Vec F S7x1920x512 .f32) (b6 b7 : Vec F S512x512 .bf16)

theorem runA_acc (hc1 : cond1 i = 1#1) (hc2 : ¬k0_cond2 i = 1#1) (hc3 : ¬k0_cond3 i = 1#1) (hc4 : ¬k0_cond4 i = 1#1) (hc5 : ¬k0_cond5 i = 1#1) : (runA c i arg1 harg1 arg2 harg2 arg3 harg3 arg4 harg4 arg5 harg5 arg6 harg6 arg7 harg7 arg8 harg8 hc1 hc2 hc3 hc4 hc5 x1 x2 x3 x4 a5 b6 b7).1.1
    = [⟨Rect.unit ![0, 0, 0] S7x1920x512.size inb_S7x1920x512_S7x1920x512_0_0_0, k0_pay9⟩] := rfl

set_option maxHeartbeats 2000000 in
theorem runA_buf (hc1 : cond1 i = 1#1) (hc2 : ¬k0_cond2 i = 1#1) (hc3 : ¬k0_cond3 i = 1#1) (hc4 : ¬k0_cond4 i = 1#1) (hc5 : ¬k0_cond5 i = 1#1) : (runA c i arg1 harg1 arg2 harg2 arg3 harg3 arg4 harg4 arg5 harg5 arg6 harg6 arg7 harg7 arg8 harg8 hc1 hc2 hc3 hc4 hc5 x1 x2 x3 x4 a5 b6 b7).1.2 = list16 (pieceOf arg1 harg1 x1) := rfl

end Runs

end Cert.DgradIdeal.Hand

end
-- ==== Proof.DgradIdeal.RunB.lean ====
module

public import proofs.«01_k».proof.Proof.DgradIdeal.Points
public import Idealize.ShloMosaic.Lib.WholeRead
public import Idealize.ShloMosaic.Lib.VecWindow

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- At an even point before the last sweep: the body multiplies the second buffer and copies its block into the first. -/
def runB (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole) (hc1 : ¬cond1 i = 1#1) (hc2 : k0_cond2 i = 1#1) (hc3 : ¬k0_cond3 i = 1#1) (hc4 : ¬k0_cond4 i = 1#1) (hc5 : ¬k0_cond5 i = 1#1)
    (x1 : Vec F S512x512 .bf16) (x2 : Vec F S4x1920x128 .bf16) (x3 : Vec F S512x512 .bf16) (x4 : Vec F S1920x512 .bf16) (a5 : Vec F S7x1920x512 .f32) (b6 b7 : Vec F S512x512 .bf16) :
    { L : List (View.Piece (Elt F) S7x1920x512 .f32) × List (View.Piece (Elt F) S512x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare a5 ∗ owns (c : Thread nD τ) arg6 fullShare b6 ∗ owns (c : Thread nD τ) arg7 fullShare b7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (arg5.view.read (Elt F) (arg5.view.writes (Elt F) (harg5.unread a5) L.1)) ∗ owns (c : Thread nD τ) arg6 fullShare (arg6.view.read (Elt F) (arg6.view.writes (Elt F) (harg6.unread b6) L.2)) ∗ owns (c : Thread nD τ) arg7 fullShare b7 ∗ (∃ d, owns (c : Thread nD τ) arg8 fullShare d)) -∗ K ⟨⟩))
          ⊢ wp frame (wpE (defs₀ (F := F)) Variants.none c none) E (cc0_dgrad i arg1 harg1 arg2 harg2 arg3 harg3 arg4 harg4 arg5 harg5 arg6 harg6 arg7 harg7 arg8 harg8) K } := by
  refine ⟨⟨?_, ?_⟩, fun E K => ?run⟩
  case run =>
    simp only [cc0_dgrad_eq_skeleton]; unfold cc0_dgrad_skel
    simp only [k0_part3_eq_skeleton, k0_part4_eq_skeleton, k0_part5_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro; rfl
    isplitl [H6]
    · iexists _; isplitr; swap; · iexact H6
      ipureintro; rfl
    isplitl [H7]
    · iexists _; isplitr; · ipureintro; exact harg7.read_unread _
      iexact H7
    iexists _; iexists _; isplitr; swap; · iexact H8
    ipureintro; rfl

end Cert.DgradIdeal.Hand

end
-- ==== Proof.DgradIdeal.FitB.lean ====
/- The stores of a case of the body, in the terms of the lemmas about them. -/
module

public import proofs.«01_k».proof.Proof.DgradIdeal.Fill
public import proofs.«01_k».proof.Proof.DgradIdeal.RunB

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole)
  (x1 : Vec F S512x512 .bf16) (x2 : Vec F S4x1920x128 .bf16) (x3 : Vec F S512x512 .bf16) (x4 : Vec F S1920x512 .bf16) (a5 : Vec F S7x1920x512 .f32) (b6 b7 : Vec F S512x512 .bf16)

set_option maxHeartbeats 2000000 in
theorem runB_buf (hc1 : ¬cond1 i = 1#1) (hc2 : k0_cond2 i = 1#1) (hc3 : ¬k0_cond3 i = 1#1) (hc4 : ¬k0_cond4 i = 1#1) (hc5 : ¬k0_cond5 i = 1#1) : (runB c i arg1 harg1 arg2 harg2 arg3 harg3 arg4 harg4 arg5 harg5 arg6 harg6 arg7 harg7 arg8 harg8 hc1 hc2 hc3 hc4 hc5 x1 x2 x3 x4 a5 b6 b7).1.2 = list16 (pieceOf arg1 harg1 x1) := rfl

set_option maxHeartbeats 2000000 in
theorem runB_acc (hc1 : ¬cond1 i = 1#1) (hc2 : k0_cond2 i = 1#1) (hc3 : ¬k0_cond3 i = 1#1) (hc4 : ¬k0_cond4 i = 1#1) (hc5 : ¬k0_cond5 i = 1#1) : (runB c i arg1 harg1 arg2 harg2 arg3 harg3 arg4 harg4 arg5 harg5 arg6 harg6 arg7 harg7 arg8 harg8 hc1 hc2 hc3 hc4 hc5 x1 x2 x3 x4 a5 b6 b7).1.1
    = [accPiece (k0_off1 i) (k0_off1_inb i hc2) arg2 harg2 arg5 harg5 arg7 harg7 x2 a5 b7] := rfl

end Runs

end Cert.DgradIdeal.Hand

end
-- ==== Proof.DgradIdeal.RunC.lean ====
module

public import proofs.«01_k».proof.Proof.DgradIdeal.Points
public import Idealize.ShloMosaic.Lib.WholeRead
public import Idealize.ShloMosaic.Lib.VecWindow

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- At an odd point before the last sweep: the body multiplies the first buffer and copies its block into the second. -/
def runC (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole) (hc1 : ¬cond1 i = 1#1) (hc2 : ¬k0_cond2 i = 1#1) (hc3 : k0_cond3 i = 1#1) (hc4 : ¬k0_cond4 i = 1#1) (hc5 : ¬k0_cond5 i = 1#1)
    (x1 : Vec F S512x512 .bf16) (x2 : Vec F S4x1920x128 .bf16) (x3 : Vec F S512x512 .bf16) (x4 : Vec F S1920x512 .bf16) (a5 : Vec F S7x1920x512 .f32) (b6 b7 : Vec F S512x512 .bf16) :
    { L : List (View.Piece (Elt F) S7x1920x512 .f32) × List (View.Piece (Elt F) S512x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare a5 ∗ owns (c : Thread nD τ) arg6 fullShare b6 ∗ owns (c : Thread nD τ) arg7 fullShare b7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (arg5.view.read (Elt F) (arg5.view.writes (Elt F) (harg5.unread a5) L.1)) ∗ owns (c : Thread nD τ) arg6 fullShare b6 ∗ owns (c : Thread nD τ) arg7 fullShare (arg7.view.read (Elt F) (arg7.view.writes (Elt F) (harg7.unread b7) L.2)) ∗ (∃ d, owns (c : Thread nD τ) arg8 fullShare d)) -∗ K ⟨⟩))
          ⊢ wp frame (wpE (defs₀ (F := F)) Variants.none c none) E (cc0_dgrad i arg1 harg1 arg2 harg2 arg3 harg3 arg4 harg4 arg5 harg5 arg6 harg6 arg7 harg7 arg8 harg8) K } := by
  refine ⟨⟨?_, ?_⟩, fun E K => ?run⟩
  case run =>
    simp only [cc0_dgrad_eq_skeleton]; unfold cc0_dgrad_skel
    simp only [k0_part6_eq_skeleton, k0_part7_eq_skeleton, k0_part8_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; swap; · iexact H5
      ipureintro; rfl
    isplitl [H6]
    · iexists _; isplitr; · ipureintro; exact harg6.read_unread _
      iexact H6
    isplitl [H7]
    · iexists _; isplitr; swap; · iexact H7
      ipureintro; rfl
    iexists _; iexists _; isplitr; swap; · iexact H8
    ipureintro; rfl

end Cert.DgradIdeal.Hand

end
-- ==== Proof.DgradIdeal.FitC.lean ====
/- The stores of a case of the body, in the terms of the lemmas about them. -/
module

public import proofs.«01_k».proof.Proof.DgradIdeal.Fill
public import proofs.«01_k».proof.Proof.DgradIdeal.RunC

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole)
  (x1 : Vec F S512x512 .bf16) (x2 : Vec F S4x1920x128 .bf16) (x3 : Vec F S512x512 .bf16) (x4 : Vec F S1920x512 .bf16) (a5 : Vec F S7x1920x512 .f32) (b6 b7 : Vec F S512x512 .bf16)

set_option maxHeartbeats 2000000 in
theorem runC_buf (hc1 : ¬cond1 i = 1#1) (hc2 : ¬k0_cond2 i = 1#1) (hc3 : k0_cond3 i = 1#1) (hc4 : ¬k0_cond4 i = 1#1) (hc5 : ¬k0_cond5 i = 1#1) : (runC c i arg1 harg1 arg2 harg2 arg3 harg3 arg4 harg4 arg5 harg5 arg6 harg6 arg7 harg7 arg8 harg8 hc1 hc2 hc3 hc4 hc5 x1 x2 x3 x4 a5 b6 b7).1.2 = list16 (pieceOf arg1 harg1 x1) := rfl

set_option maxHeartbeats 2000000 in
theorem runC_acc (hc1 : ¬cond1 i = 1#1) (hc2 : ¬k0_cond2 i = 1#1) (hc3 : k0_cond3 i = 1#1) (hc4 : ¬k0_cond4 i = 1#1) (hc5 : ¬k0_cond5 i = 1#1) : (runC c i arg1 harg1 arg2 harg2 arg3 harg3 arg4 harg4 arg5 harg5 arg6 harg6 arg7 harg7 arg8 harg8 hc1 hc2 hc3 hc4 hc5 x1 x2 x3 x4 a5 b6 b7).1.1
    = [accPiece (k0_off2 i) (k0_off2_inb i hc3) arg2 harg2 arg5 harg5 arg6 harg6 x2 a5 b6] := rfl

end Runs

end Cert.DgradIdeal.Hand

end
-- ==== Proof.DgradIdeal.RunE.lean ====
module

public import proofs.«01_k».proof.Proof.DgradIdeal.Points
public import Idealize.ShloMosaic.Lib.WholeRead
public import Idealize.ShloMosaic.Lib.VecWindow

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- At an even point of the last sweep: as before, and the slab that is now complete is written out. -/
def runE (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole) (hc1 : ¬cond1 i = 1#1) (hc2 : k0_cond2 i = 1#1) (hc3 : ¬k0_cond3 i = 1#1) (hc4 : ¬k0_cond4 i = 1#1) (hc5 : k0_cond5 i = 1#1)
    (x1 : Vec F S512x512 .bf16) (x2 : Vec F S4x1920x128 .bf16) (x3 : Vec F S512x512 .bf16) (a5 : Vec F S7x1920x512 .f32) (b6 b7 : Vec F S512x512 .bf16) :
    { L : List (View.Piece (Elt F) S7x1920x512 .f32) × List (View.Piece (Elt F) S512x512 .bf16) × (Vec F S960x2x128 .bf16 → List (View.Piece (Elt F) S1920x512 .bf16)) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare a5 ∗ owns (c : Thread nD τ) arg6 fullShare b6 ∗ owns (c : Thread nD τ) arg7 fullShare b7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ (∃ f d, owns (c : Thread nD τ) arg4 fullShare (arg4.view.read (Elt F) (arg4.view.writes (Elt F) f (L.2.2 d)))) ∗ owns (c : Thread nD τ) arg5 fullShare (arg5.view.read (Elt F) (arg5.view.writes (Elt F) (harg5.unread a5) L.1)) ∗ owns (c : Thread nD τ) arg6 fullShare (arg6.view.read (Elt F) (arg6.view.writes (Elt F) (harg6.unread b6) L.2.1)) ∗ owns (c : Thread nD τ) arg7 fullShare b7 ∗ (∃ d, owns (c : Thread nD τ) arg8 fullShare d)) -∗ K ⟨⟩))
          ⊢ wp frame (wpE (defs₀ (F := F)) Variants.none c none) E (cc0_dgrad i arg1 harg1 arg2 harg2 arg3 harg3 arg4 harg4 arg5 harg5 arg6 harg6 arg7 harg7 arg8 harg8) K } := by
  refine ⟨⟨?_, ?_, ?_⟩, fun E K => ?run⟩
  case run =>
    simp only [cc0_dgrad_eq_skeleton]; unfold cc0_dgrad_skel
    simp only [k0_part3_eq_skeleton, k0_part4_eq_skeleton, k0_part5_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%d8, %f8, %hf8, H8⟩, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7; obtain rfl := harg8.eq_unread hf8
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists f4; iexists d8; iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; · ipureintro; exact harg7.read_unread _
      iexact H7
    iexists _; iexists _; isplitr; swap; · iexact H8
    ipureintro; rfl

end Cert.DgradIdeal.Hand

end
-- ==== Proof.DgradIdeal.FitE.lean ====
/- The stores of a case of the body, in the terms of the lemmas about them. -/
module

public import proofs.«01_k».proof.Proof.DgradIdeal.Fill
public import proofs.«01_k».proof.Proof.DgradIdeal.RunE

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole)
  (x1 : Vec F S512x512 .bf16) (x2 : Vec F S4x1920x128 .bf16) (x3 : Vec F S512x512 .bf16) (x4 : Vec F S1920x512 .bf16) (a5 : Vec F S7x1920x512 .f32) (b6 b7 : Vec F S512x512 .bf16)

set_option maxHeartbeats 2000000 in
theorem runE_buf (hc1 : ¬cond1 i = 1#1) (hc2 : k0_cond2 i = 1#1) (hc3 : ¬k0_cond3 i = 1#1) (hc4 : ¬k0_cond4 i = 1#1) (hc5 : k0_cond5 i = 1#1) : (runE c i arg1 harg1 arg2 harg2 arg3 harg3 arg4 harg4 arg5 harg5 arg6 harg6 arg7 harg7 arg8 harg8 hc1 hc2 hc3 hc4 hc5 x1 x2 x3 a5 b6 b7).1.2.1 = list16 (pieceOf arg1 harg1 x1) := rfl

set_option maxHeartbeats 2000000 in
theorem runE_acc (hc1 : ¬cond1 i = 1#1) (hc2 : k0_cond2 i = 1#1) (hc3 : ¬k0_cond3 i = 1#1) (hc4 : ¬k0_cond4 i = 1#1) (hc5 : k0_cond5 i = 1#1) : (runE c i arg1 harg1 arg2 harg2 arg3 harg3 arg4 harg4 arg5 harg5 arg6 harg6 arg7 harg7 arg8 harg8 hc1 hc2 hc3 hc4 hc5 x1 x2 x3 a5 b6 b7).1.1
    = [accPiece (k0_off1 i) (k0_off1_inb i hc2) arg2 harg2 arg5 harg5 arg7 harg7 x2 a5 b7] := rfl

set_option maxHeartbeats 4000000 in
theorem runE_out (hc1 : ¬cond1 i = 1#1) (hc2 : k0_cond2 i = 1#1) (hc3 : ¬k0_cond3 i = 1#1) (hc4 : ¬k0_cond4 i = 1#1) (hc5 : k0_cond5 i = 1#1) (d : Vec F S960x2x128 .bf16) : (runE c i arg1 harg1 arg2 harg2 arg3 harg3 arg4 harg4 arg5 harg5 arg6 harg6 arg7 harg7 arg8 harg8 hc1 hc2 hc3 hc4 hc5 x1 x2 x3 a5 b6 b7).1.2.2 d
    = outPieces arg8.view (k0_pay51 (arg5.view.readCov [accPiece (k0_off1 i) (k0_off1_inb i hc2) arg2 harg2 arg5 harg5 arg7 harg7 x2 a5 b7] (Rect.unit (s := S7x1920x512) (k0_off4 i) S1x1920x512.size (k0_off4_inb i hc5)).toLoadRect)
        (arg3.view.readAt (Elt F) (Rect.unit (s := S512x512) ![0, 0] S512x512.size inb_S512x512_S512x512_0_0).toLoadRect (harg3.unread x3))) := rfl

/-- The result's block after this step. -/
theorem runE_read (hc1 : ¬cond1 i = 1#1) (hc2 : k0_cond2 i = 1#1) (hc3 : ¬k0_cond3 i = 1#1) (hc4 : ¬k0_cond4 i = 1#1) (hc5 : k0_cond5 i = 1#1) (d : Vec F S960x2x128 .bf16) (k : Fin 7) (hk : k.val = ((i 0).val + 6) % 7) (u : View sig .tc .vmem S1920x512 .bf16) (f : u.ty.Contents (Elt F)) :
    u.read (Elt F) (u.writes (Elt F) f ((runE c i arg1 harg1 arg2 harg2 arg3 harg3 arg4 harg4 arg5 harg5 arg6 harg6 arg7 harg7 arg8 harg8 hc1 hc2 hc3 hc4 hc5 x1 x2 x3 a5 b6 b7).1.2.2 d)) = outv (mul x2 (slabAt k a5) b7) x3 := by
  rw [runE_out, out_read]
  unfold outv
  rw [acc_again (k0_off1 i) (k0_off1_inb i hc2) (k := k) ((off1_eq i).trans (by rw [hk])) arg2 harg2 arg5 harg5 arg7 harg7 x2 a5 b7 (k0_off4 i) (k0_off4_inb i hc5) ((off4_eq i).trans (by rw [hk])), whole_load]

end Runs

end Cert.DgradIdeal.Hand

end
-- ==== Proof.DgradIdeal.RunG.lean ====
module

public import proofs.«01_k».proof.Proof.DgradIdeal.Points
public import Idealize.ShloMosaic.Lib.WholeRead
public import Idealize.ShloMosaic.Lib.VecWindow

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- At an odd point of the last sweep: as before, and the slab that is now complete is written out. -/
def runG (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole) (hc1 : ¬cond1 i = 1#1) (hc2 : ¬k0_cond2 i = 1#1) (hc3 : k0_cond3 i = 1#1) (hc4 : ¬k0_cond4 i = 1#1) (hc5 : k0_cond5 i = 1#1)
    (x1 : Vec F S512x512 .bf16) (x2 : Vec F S4x1920x128 .bf16) (x3 : Vec F S512x512 .bf16) (a5 : Vec F S7x1920x512 .f32) (b6 b7 : Vec F S512x512 .bf16) :
    { L : List (View.Piece (Elt F) S7x1920x512 .f32) × List (View.Piece (Elt F) S512x512 .bf16) × (Vec F S960x2x128 .bf16 → List (View.Piece (Elt F) S1920x512 .bf16)) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare a5 ∗ owns (c : Thread nD τ) arg6 fullShare b6 ∗ owns (c : Thread nD τ) arg7 fullShare b7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ (∃ f d, owns (c : Thread nD τ) arg4 fullShare (arg4.view.read (Elt F) (arg4.view.writes (Elt F) f (L.2.2 d)))) ∗ owns (c : Thread nD τ) arg5 fullShare (arg5.view.read (Elt F) (arg5.view.writes (Elt F) (harg5.unread a5) L.1)) ∗ owns (c : Thread nD τ) arg6 fullShare b6 ∗ owns (c : Thread nD τ) arg7 fullShare (arg7.view.read (Elt F) (arg7.view.writes (Elt F) (harg7.unread b7) L.2.1)) ∗ (∃ d, owns (c : Thread nD τ) arg8 fullShare d)) -∗ K ⟨⟩))
          ⊢ wp frame (wpE (defs₀ (F := F)) Variants.none c none) E (cc0_dgrad i arg1 harg1 arg2 harg2 arg3 harg3 arg4 harg4 arg5 harg5 arg6 harg6 arg7 harg7 arg8 harg8) K } := by
  refine ⟨⟨?_, ?_, ?_⟩, fun E K => ?run⟩
  case run =>
    simp only [cc0_dgrad_eq_skeleton]; unfold cc0_dgrad_skel
    simp only [k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%d8, %f8, %hf8, H8⟩, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7; obtain rfl := harg8.eq_unread hf8
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists f4; iexists d8; iexists _; isplitr; swap; · iexact H4
      ipureintro; rfl
    isplitl [H5]
    · iexists _; isplitr; swap; · iexact H5
      ipureintro; rfl
    isplitl [H6]
    · iexists _; isplitr; · ipureintro; exact harg6.read_unread _
      iexact H6
    isplitl [H7]
    · iexists _; isplitr; swap; · iexact H7
      ipureintro; rfl
    iexists _; iexists _; isplitr; swap; · iexact H8
    ipureintro; rfl

end Cert.DgradIdeal.Hand

end
-- ==== Proof.DgradIdeal.FitG.lean ====
/- The stores of a case of the body, in the terms of the lemmas about them. -/
module

public import proofs.«01_k».proof.Proof.DgradIdeal.Fill
public import proofs.«01_k».proof.Proof.DgradIdeal.RunG

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole)
  (x1 : Vec F S512x512 .bf16) (x2 : Vec F S4x1920x128 .bf16) (x3 : Vec F S512x512 .bf16) (x4 : Vec F S1920x512 .bf16) (a5 : Vec F S7x1920x512 .f32) (b6 b7 : Vec F S512x512 .bf16)

set_option maxHeartbeats 2000000 in
theorem runG_buf (hc1 : ¬cond1 i = 1#1) (hc2 : ¬k0_cond2 i = 1#1) (hc3 : k0_cond3 i = 1#1) (hc4 : ¬k0_cond4 i = 1#1) (hc5 : k0_cond5 i = 1#1) : (runG c i arg1 harg1 arg2 harg2 arg3 harg3 arg4 harg4 arg5 harg5 arg6 harg6 arg7 harg7 arg8 harg8 hc1 hc2 hc3 hc4 hc5 x1 x2 x3 a5 b6 b7).1.2.1 = list16 (pieceOf arg1 harg1 x1) := rfl

set_option maxHeartbeats 2000000 in
theorem runG_acc (hc1 : ¬cond1 i = 1#1) (hc2 : ¬k0_cond2 i = 1#1) (hc3 : k0_cond3 i = 1#1) (hc4 : ¬k0_cond4 i = 1#1) (hc5 : k0_cond5 i = 1#1) : (runG c i arg1 harg1 arg2 harg2 arg3 harg3 arg4 harg4 arg5 harg5 arg6 harg6 arg7 harg7 arg8 harg8 hc1 hc2 hc3 hc4 hc5 x1 x2 x3 a5 b6 b7).1.1
    = [accPiece (k0_off2 i) (k0_off2_inb i hc3) arg2 harg2 arg5 harg5 arg6 harg6 x2 a5 b6] := rfl

set_option maxHeartbeats 4000000 in
theorem runG_out (hc1 : ¬cond1 i = 1#1) (hc2 : ¬k0_cond2 i = 1#1) (hc3 : k0_cond3 i = 1#1) (hc4 : ¬k0_cond4 i = 1#1) (hc5 : k0_cond5 i = 1#1) (d : Vec F S960x2x128 .bf16) : (runG c i arg1 harg1 arg2 harg2 arg3 harg3 arg4 harg4 arg5 harg5 arg6 harg6 arg7 harg7 arg8 harg8 hc1 hc2 hc3 hc4 hc5 x1 x2 x3 a5 b6 b7).1.2.2 d
    = outPieces arg8.view (k0_pay51 (arg5.view.readCov [accPiece (k0_off2 i) (k0_off2_inb i hc3) arg2 harg2 arg5 harg5 arg6 harg6 x2 a5 b6] (Rect.unit (s := S7x1920x512) (k0_off4 i) S1x1920x512.size (k0_off4_inb i hc5)).toLoadRect)
        (arg3.view.readAt (Elt F) (Rect.unit (s := S512x512) ![0, 0] S512x512.size inb_S512x512_S512x512_0_0).toLoadRect (harg3.unread x3))) := rfl

/-- The result's block after this step. -/
theorem runG_read (hc1 : ¬cond1 i = 1#1) (hc2 : ¬k0_cond2 i = 1#1) (hc3 : k0_cond3 i = 1#1) (hc4 : ¬k0_cond4 i = 1#1) (hc5 : k0_cond5 i = 1#1) (d : Vec F S960x2x128 .bf16) (k : Fin 7) (hk : k.val = ((i 0).val + 6) % 7) (u : View sig .tc .vmem S1920x512 .bf16) (f : u.ty.Contents (Elt F)) :
    u.read (Elt F) (u.writes (Elt F) f ((runG c i arg1 harg1 arg2 harg2 arg3 harg3 arg4 harg4 arg5 harg5 arg6 harg6 arg7 harg7 arg8 harg8 hc1 hc2 hc3 hc4 hc5 x1 x2 x3 a5 b6 b7).1.2.2 d)) = outv (mul x2 (slabAt k a5) b6) x3 := by
  rw [runG_out, out_read]
  unfold outv
  rw [acc_again (k0_off2 i) (k0_off2_inb i hc3) (k := k) ((off2_eq i).trans (by rw [hk])) arg2 harg2 arg5 harg5 arg6 harg6 x2 a5 b6 (k0_off4 i) (k0_off4_inb i hc5) ((off4_eq i).trans (by rw [hk])), whole_load]

end Runs

end Cert.DgradIdeal.Hand

end
-- ==== Proof.DgradIdeal.RunH.lean ====
module

public import proofs.«01_k».proof.Proof.DgradIdeal.Points
public import Idealize.ShloMosaic.Lib.WholeRead
public import Idealize.ShloMosaic.Lib.VecWindow

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- At the last point: the body multiplies the first buffer and writes the last slab out. -/
def runH (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole) (hc1 : ¬cond1 i = 1#1) (hc2 : ¬k0_cond2 i = 1#1) (hc3 : ¬k0_cond3 i = 1#1) (hc4 : k0_cond4 i = 1#1) (hc5 : k0_cond5 i = 1#1)
    (x1 : Vec F S512x512 .bf16) (x2 : Vec F S4x1920x128 .bf16) (x3 : Vec F S512x512 .bf16) (a5 : Vec F S7x1920x512 .f32) (b6 b7 : Vec F S512x512 .bf16) :
    { L : List (View.Piece (Elt F) S7x1920x512 .f32) × List (View.Piece (Elt F) S512x512 .bf16) × (Vec F S960x2x128 .bf16 → List (View.Piece (Elt F) S1920x512 .bf16)) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare a5 ∗ owns (c : Thread nD τ) arg6 fullShare b6 ∗ owns (c : Thread nD τ) arg7 fullShare b7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ (∃ f d, owns (c : Thread nD τ) arg4 fullShare (arg4.view.read (Elt F) (arg4.view.writes (Elt F) f (L.2.2 d)))) ∗ owns (c : Thread nD τ) arg5 fullShare (arg5.view.read (Elt F) (arg5.view.writes (Elt F) (harg5.unread a5) L.1)) ∗ owns (c : Thread nD τ) arg6 fullShare b6 ∗ owns (c : Thread nD τ) arg7 fullShare b7 ∗ (∃ d, owns (c : Thread nD τ) arg8 fullShare d)) -∗ K ⟨⟩))
          ⊢ wp frame (wpE (defs₀ (F := F)) Variants.none c none) E (cc0_dgrad i arg1 harg1 arg2 harg2 arg3 harg3 arg4 harg4 arg5 harg5 arg6 harg6 arg7 harg7 arg8 harg8) K } := by
  refine ⟨⟨?_, [], ?_⟩, fun E K => ?run⟩
  case run =>
    simp only [cc0_dgrad_eq_skeleton]; unfold cc0_dgrad_skel
    simp only [k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%d8, %f8, %hf8, H8⟩, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7; obtain rfl := harg8.eq_unread hf8
    sl_exec (disch := first | sl_exact hc1 | sl_exact hc2 | sl_exact hc3 | sl_exact hc4 | sl_exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists f4; iexists d8; iexists _; isplitr; swap; · iexact H4
      ipureintro; rfl
    isplitl [H5]
    · iexists _; isplitr; swap; · iexact H5
      ipureintro; rfl
    isplitl [H6]
    · iexists _; isplitr; · ipureintro; exact harg6.read_unread _
      iexact H6
    isplitl [H7]
    · iexists _; isplitr; · ipureintro; exact harg7.read_unread _
      iexact H7
    iexists _; iexists _; isplitr; swap; · iexact H8
    ipureintro; rfl

end Cert.DgradIdeal.Hand

end
-- ==== Proof.DgradIdeal.FitH.lean ====
/- The stores of a case of the body, in the terms of the lemmas about them. -/
module

public import proofs.«01_k».proof.Proof.DgradIdeal.Fill
public import proofs.«01_k».proof.Proof.DgradIdeal.RunH

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid0.Coords) (arg1 : Memref sig .tc .vmem S512x512 .bf16) (harg1 : arg1.IsWhole) (arg2 : Memref sig .tc .vmem S4x1920x128 .bf16) (harg2 : arg2.IsWhole) (arg3 : Memref sig .tc .vmem S512x512 .bf16) (harg3 : arg3.IsWhole) (arg4 : Memref sig .tc .vmem S1920x512 .bf16) (harg4 : arg4.IsWhole) (arg5 : Memref sig .tc .vmem S7x1920x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S960x2x128 .bf16) (harg8 : arg8.IsWhole)
  (x1 : Vec F S512x512 .bf16) (x2 : Vec F S4x1920x128 .bf16) (x3 : Vec F S512x512 .bf16) (x4 : Vec F S1920x512 .bf16) (a5 : Vec F S7x1920x512 .f32) (b6 b7 : Vec F S512x512 .bf16)

set_option maxHeartbeats 2000000 in
theorem runH_acc (hc1 : ¬cond1 i = 1#1) (hc2 : ¬k0_cond2 i = 1#1) (hc3 : ¬k0_cond3 i = 1#1) (hc4 : k0_cond4 i = 1#1) (hc5 : k0_cond5 i = 1#1) : (runH c i arg1 harg1 arg2 harg2 arg3 harg3 arg4 harg4 arg5 harg5 arg6 harg6 arg7 harg7 arg8 harg8 hc1 hc2 hc3 hc4 hc5 x1 x2 x3 a5 b6 b7).1.1
    = [accPiece (k0_off3 i) (k0_off3_inb i hc4) arg2 harg2 arg5 harg5 arg6 harg6 x2 a5 b6] := rfl

set_option maxHeartbeats 4000000 in
theorem runH_out (hc1 : ¬cond1 i = 1#1) (hc2 : ¬k0_cond2 i = 1#1) (hc3 : ¬k0_cond3 i = 1#1) (hc4 : k0_cond4 i = 1#1) (hc5 : k0_cond5 i = 1#1) (d : Vec F S960x2x128 .bf16) : (runH c i arg1 harg1 arg2 harg2 arg3 harg3 arg4 harg4 arg5 harg5 arg6 harg6 arg7 harg7 arg8 harg8 hc1 hc2 hc3 hc4 hc5 x1 x2 x3 a5 b6 b7).1.2.2 d
    = outPieces arg8.view (k0_pay51 (arg5.view.readCov [accPiece (k0_off3 i) (k0_off3_inb i hc4) arg2 harg2 arg5 harg5 arg6 harg6 x2 a5 b6] (Rect.unit (s := S7x1920x512) (k0_off4 i) S1x1920x512.size (k0_off4_inb i hc5)).toLoadRect)
        (arg3.view.readAt (Elt F) (Rect.unit (s := S512x512) ![0, 0] S512x512.size inb_S512x512_S512x512_0_0).toLoadRect (harg3.unread x3))) := rfl

/-- The result's block after this step. -/
theorem runH_read (hc1 : ¬cond1 i = 1#1) (hc2 : ¬k0_cond2 i = 1#1) (hc3 : ¬k0_cond3 i = 1#1) (hc4 : k0_cond4 i = 1#1) (hc5 : k0_cond5 i = 1#1) (d : Vec F S960x2x128 .bf16) (k : Fin 7) (hk : k.val = ((i 0).val + 6) % 7) (u : View sig .tc .vmem S1920x512 .bf16) (f : u.ty.Contents (Elt F)) :
    u.read (Elt F) (u.writes (Elt F) f ((runH c i arg1 harg1 arg2 harg2 arg3 harg3 arg4 harg4 arg5 harg5 arg6 harg6 arg7 harg7 arg8 harg8 hc1 hc2 hc3 hc4 hc5 x1 x2 x3 a5 b6 b7).1.2.2 d)) = outv (mul x2 (slabAt k a5) b6) x3 := by
  rw [runH_out, out_read]
  unfold outv
  rw [acc_again (k0_off3 i) (k0_off3_inb i hc4) (k := k) ((off3_eq i).trans (by rw [hk])) arg2 harg2 arg5 harg5 arg6 harg6 x2 a5 b6 (k0_off4 i) (k0_off4_inb i hc5) ((off4_eq i).trans (by rw [hk])), whole_load]

end Runs

end Cert.DgradIdeal.Hand

end
-- ==== Proof.DgradIdeal.Body.lean ====
/- The kernel's run at every grid point, the launch, and the frame. -/
module

public import proofs.«01_k».proof.Proof.DgradIdeal.Tile
public import proofs.«01_k».proof.Proof.DgradIdeal.FitA
public import proofs.«01_k».proof.Proof.DgradIdeal.FitB
public import proofs.«01_k».proof.Proof.DgradIdeal.FitC
public import proofs.«01_k».proof.Proof.DgradIdeal.FitE
public import proofs.«01_k».proof.Proof.DgradIdeal.FitG
public import proofs.«01_k».proof.Proof.DgradIdeal.FitH
public import Idealize.ShloMosaic.Lib.Claim
public import Idealize.ShloMosaic.Lib.WholeRead
public import Idealize.ShloMosaic.Lib.VecWindow

@[expose] public section

set_option maxRecDepth 16384

noncomputable section

namespace Cert.DgradIdeal.Hand

open Cert.DgradIdeal Cert.DgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator, the two tile buffers, and the buffer the result's words are put together in. -/
abbrev scM0 : Memref sig .tc .vmem S7x1920x512 .f32 := Memref.whole cc0_scratch0
abbrev scM1 : Memref sig .tc .vmem S512x512 .bf16 := Memref.whole cc0_scratch1
abbrev scM2 : Memref sig .tc .vmem S512x512 .bf16 := Memref.whole cc0_scratch2
abbrev scM3 : Memref sig .tc .vmem S960x2x128 .bf16 := Memref.whole cc0_scratch3

/-- The launch's invariant: every scratch buffer at some contents, and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- Before point `n`: accumulator and tile buffers at contents the invariant speaks of. -/
def PhiS (c : Dev nD) (n : ℕ) (_ : n ≤ cfg0.N) : sProp 𝕄 :=
  iprop(∃ A B0 B1, ⌜Inv m c n A B0 B1⌝ ∗ owns (c : Thread nD τ) scM0 fullShare A ∗ owns (c : Thread nD τ) scM1 fullShare B0 ∗ owns (c : Thread nD τ) scM2 fullShare B1 ∗ (∃ d, owns (c : Thread nD τ) scM3 fullShare d) ∗ (∃ r, prngReg c r))

/-- The proof data: the arrays as the launch finds them, each input's buffer at its block, the output's at the finished slab. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after0_2]
theorem after0_3 (c : Dev nD) (t : Fin cfg0.N) : (dats m 0 c).after 3 t = outAt m c t := by dsimp only [dats]

theorem early_lt (n : ℕ) (hn : n < 253) : n < cfg0.N := lt_of_lt_of_eq (Nat.lt_of_lt_of_le hn (by decide : 253 ≤ 260)) (show 260 = cfg0.N from N_0.symm)

theorem flush3_decided : ∀ n : Fin 253, (cfg0.win 3).flush ⟨n.val, early_lt n.val n.isLt⟩ = false := by decide +kernel

/-- The output's block is written back at no point before the last sweep. -/
theorem flush3_early (t : Fin cfg0.N) (h : t.val < 253) : (cfg0.win 3).flush t = false := flush3_decided ⟨t.val, h⟩

theorem leaves0_3_live (c : Dev nD) (t : Fin cfg0.N) (h : cfg0.idle 3 (grid0.coords t) = false) :
    (dats m 0 c).leavesExact 3 t = owns (c : Thread nD τ) (st0_3 t) fullShare (outAt m c t) := by
  unfold Dat.leavesExact; rw [h, after0_3]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

section Cases

variable (c : Dev nD) (t : Fin cfg0.N)

theorem cval : ((grid0.coords t) 0).val = t.val := coords0 t

theorem yblk_val : yblk m c t.val = iblk m c 1 t := by unfold yblk; rw [pt_val]
theorem wblk_val : wblk m c t.val = iblk m c 0 t := by unfold wblk; rw [pt_val]

set_option maxHeartbeats 4800000 in
/-- The first point: the accumulator is cleared and the first tile copied. -/
theorem sound_A (h : t.val = 0) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : cond1 (grid0.coords t) = 1#1 := by rw [cond1_iff, cval]; omega
  have hc2 : ¬k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  have hc5 : ¬k0_cond5 (grid0.coords t) = 1#1 := by rw [cond5_iff, cval]; omega
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2]
  rw [(dats m 0 c).leavesExact_idle 3 t (by show (!(k0_cond5 _ == 1#1)) = true; simp [hc5]) (flush3_early t (by omega))]
  unfold PhiS
  iintro ⟨⟨%A, %B0, %B1, %hI, HS0, HS1, HS2, HS3, Hg⟩, Ho, ⟨%d0, H0⟩, ⟨%d1, H1⟩, ⟨%d2, H2⟩, ⟨%d3, H3⟩⟩
  iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) ((dats m 0 c).before 3 t d3) A B0 B1).2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · iexists _; iexists _; iexists _; isplitr
    swap
    · isplitl [HS0]; · iexact HS0
      isplitl [HS1]; · iexact HS1
      isplitl [HS2]; · iexact HS2
      isplitl [HS3]; · iexact HS3
      iexact Hg
    ipureintro
    rw [h]
    refine inv_one m c _ _ _ ?_ ?_
    · rw [runA_acc]; exact zero_read _ _
    · rw [runA_buf]
      refine (fill_read _ _ _ _ _).trans ?_
      rw [← h, wblk_val]
  isplitl [Ho]; · iexact Ho
  isplitl [H0]; · iexact H0
  isplitl [H1]; · iexact H1
  isplitl [H2]; · iexact H2
  iexists d3; iexact H3

set_option maxHeartbeats 4800000 in
/-- An even point before the last sweep. -/
theorem sound_B (h0 : 0 < t.val) (h : t.val < 253) (he : t.val % 2 = 0) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  have hc5 : ¬k0_cond5 (grid0.coords t) = 1#1 := by rw [cond5_iff, cval]; omega
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2]
  rw [(dats m 0 c).leavesExact_idle 3 t (by show (!(k0_cond5 _ == 1#1)) = true; simp [hc5]) (flush3_early t (by omega))]
  unfold PhiS
  iintro ⟨⟨%A, %B0, %B1, %hI, HS0, HS1, HS2, HS3, Hg⟩, Ho, ⟨%d0, H0⟩, ⟨%d1, H1⟩, ⟨%d2, H2⟩, ⟨%d3, H3⟩⟩
  iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) ((dats m 0 c).before 3 t d3) A B0 B1).2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · iexists _; iexists _; iexists _; isplitr
    swap
    · isplitl [HS0]; · iexact HS0
      isplitl [HS1]; · iexact HS1
      isplitl [HS2]; · iexact HS2
      isplitl [HS3]; · iexact HS3
      iexact Hg
    ipureintro
    refine inv_next m c t.val (by omega) A _ B0 B1 _ _ (by omega) hI ?_ ?_
    · rw [runB_acc, if_neg (by omega), yblk_val]
      exact acc_read (k0_off1 (grid0.coords t)) (k0_off1_inb (grid0.coords t) hc2) (k := slabNo t.val) ((off1_eq _).trans (by rw [cval]; rfl)) _ _ _ _ _ _ _ _ _
    · intro _
      rw [runB_buf, if_pos he, wblk_val]
      exact fill_read _ _ _ _ _
  isplitl [Ho]; · iexact Ho
  isplitl [H0]; · iexact H0
  isplitl [H1]; · iexact H1
  isplitl [H2]; · iexact H2
  iexists d3; iexact H3

set_option maxHeartbeats 4800000 in
/-- An odd point before the last sweep. -/
theorem sound_C (h : t.val < 253) (he : t.val % 2 = 1) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : ¬k0_cond2 (grid0.coords t) = 1#1 := by rw [cond2_iff, cval]; omega
  have hc3 : k0_cond3 (grid0.coords t) = 1#1 := by rw [cond3_iff, cval]; omega
  have hc4 : ¬k0_cond4 (grid0.coords t) = 1#1 := by rw [cond4_iff, cval]; omega
  have hc5 : ¬k0_cond5 (grid0.coords t) = 1#1 := by rw [cond5_iff, cval]; omega
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2]
  rw [(dats m 0 c).leavesExact_idle 3 t (by show (!(k0_cond5 _ == 1#1)) = true; simp [hc5]) (flush3_early t (by omega))]
  unfold PhiS
  iintro ⟨⟨%A, %B0, %B1, %hI, HS0, HS1, HS2, HS3, Hg⟩, Ho, ⟨%d0, H0⟩, ⟨%d1, H1⟩, ⟨%d2, H2⟩, ⟨%d3, H3⟩⟩
  iapply ((runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) ((dats m 0 c).before 3 t d3) A B0 B1).2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · iexists _; iexists _; iexists _; isplitr
    swap
    · isplitl [HS0]; · iexact HS0
      isplitl [HS1]; · iexact HS1
      isplitl [HS2]; · iexact HS2
      isplitl [HS3]; · iexact HS3
      iexact Hg
    ipureintro
    refine inv_next m c t.val (by omega) A _ B0 B1 _ _ (by omega) hI ?_ ?_
    · rw [runC_acc, if_pos (by omega), yblk_val]
      exact acc_read (k0_off2 (grid0.coords t)) (k0_off2_inb (grid0.coords t) hc3) (k := slabNo t.val) ((off2_eq _).trans (by rw [cval]; rfl)) _ _ _ _ _ _ _ _ _
    · intro _
      rw [runC_buf, if_neg (by omega), wblk_val]
      exact fill_read _ _ _ _ _
  isplitl [Ho]; · iexact Ho
  isplitl [H0]; · iexact H0
  isplitl [H1]; · iexact H1
  isplitl [H2]; · iexact H2
  iexists d3; iexact H3

set_option maxHeartbeats 4800000 in
/-- An even point of the last sweep. -/
theorem sound_E (h0 : 253 ≤ t.val) (h : t.val < 259) (he : t.val % 2 = 0) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : k0_cond2 (grid0.coords t) = 1#1 := by rw [cond2_iff, cval]; omega
  have hc3 : ¬k0_cond3 (grid0.coords t) = 1#1 := by rw [cond3_iff, cval]; omega
  have hc4 : ¬k0_cond4 (grid0.coords t) = 1#1 := by rw [cond4_iff, cval]; omega
  have hc5 : k0_cond5 (grid0.coords t) = 1#1 := by rw [cond5_iff, cval]; omega
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2]
  rw [leaves0_3_live m c t (by show (!(k0_cond5 _ == 1#1)) = false; simp [hc5])]
  unfold PhiS
  iintro ⟨⟨%A, %B0, %B1, %hI, HS0, HS1, HS2, HS3, Hg⟩, Ho, ⟨%d0, H0⟩, ⟨%d1, H1⟩, ⟨%d2, H2⟩, ⟨%d3, H3⟩⟩
  iapply ((runE c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) A B0 B1).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%f3, %d8, H3⟩, HS0, HS1, HS2, HS3⟩
  isplitl [HS0 HS1 HS2 HS3 Hg]
  · iexists _; iexists _; iexists _; isplitr
    swap
    · isplitl [HS0]; · iexact HS0
      isplitl [HS1]; · iexact HS1
      isplitl [HS2]; · iexact HS2
      isplitl [HS3]; · iexact HS3
      iexact Hg
    ipureintro
    refine inv_next m c t.val (by omega) A _ B0 B1 _ _ (by omega) hI ?_ ?_
    · rw [runE_acc, if_neg (by omega), yblk_val]
      exact acc_read (k0_off1 (grid0.coords t)) (k0_off1_inb (grid0.coords t) hc2) (k := slabNo t.val) ((off1_eq _).trans (by rw [cval]; rfl)) _ _ _ _ _ _ _ _ _
    · intro _
      rw [runE_buf, if_pos he, wblk_val]
      exact fill_read _ _ _ _ _
  isplitl [Ho]; · iexact Ho
  isplitl [H0]; · iexact H0
  isplitl [H1]; · iexact H1
  isplitl [H2]; · iexact H2
  obtain ⟨hA, hB⟩ := hI (by omega)
  have hB := hB (by omega)
  rw [if_neg (by omega)] at hB
  have hP : outAt m c t = outv (mul (iblk m c 1 t) (slabAt (slabNo t.val) A) B1) (iblk m c 2 t) := by
    unfold outAt; rw [hA, hB, yblk_val]
  rw [hP, ← runE_read c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) (iblk m c 0 t) (iblk m c 1 t) (iblk m c 2 t) A B0 B1 hc1 hc2 hc3 hc4 hc5 d8 (slabNo t.val) (by rw [cval]; rfl) (st0_3 t).view f3]
  iexact H3

set_option maxHeartbeats 4800000 in
/-- An odd point of the last sweep. -/
theorem sound_G (h0 : 253 ≤ t.val) (h : t.val < 259) (he : t.val % 2 = 1) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : ¬k0_cond2 (grid0.coords t) = 1#1 := by rw [cond2_iff, cval]; omega
  have hc3 : k0_cond3 (grid0.coords t) = 1#1 := by rw [cond3_iff, cval]; omega
  have hc4 : ¬k0_cond4 (grid0.coords t) = 1#1 := by rw [cond4_iff, cval]; omega
  have hc5 : k0_cond5 (grid0.coords t) = 1#1 := by rw [cond5_iff, cval]; omega
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2]
  rw [leaves0_3_live m c t (by show (!(k0_cond5 _ == 1#1)) = false; simp [hc5])]
  unfold PhiS
  iintro ⟨⟨%A, %B0, %B1, %hI, HS0, HS1, HS2, HS3, Hg⟩, Ho, ⟨%d0, H0⟩, ⟨%d1, H1⟩, ⟨%d2, H2⟩, ⟨%d3, H3⟩⟩
  iapply ((runG c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) A B0 B1).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%f3, %d8, H3⟩, HS0, HS1, HS2, HS3⟩
  isplitl [HS0 HS1 HS2 HS3 Hg]
  · iexists _; iexists _; iexists _; isplitr
    swap
    · isplitl [HS0]; · iexact HS0
      isplitl [HS1]; · iexact HS1
      isplitl [HS2]; · iexact HS2
      isplitl [HS3]; · iexact HS3
      iexact Hg
    ipureintro
    refine inv_next m c t.val (by omega) A _ B0 B1 _ _ (by omega) hI ?_ ?_
    · rw [runG_acc, if_pos (by omega), yblk_val]
      exact acc_read (k0_off2 (grid0.coords t)) (k0_off2_inb (grid0.coords t) hc3) (k := slabNo t.val) ((off2_eq _).trans (by rw [cval]; rfl)) _ _ _ _ _ _ _ _ _
    · intro _
      rw [runG_buf, if_neg (by omega), wblk_val]
      exact fill_read _ _ _ _ _
  isplitl [Ho]; · iexact Ho
  isplitl [H0]; · iexact H0
  isplitl [H1]; · iexact H1
  isplitl [H2]; · iexact H2
  obtain ⟨hA, hB⟩ := hI (by omega)
  have hB := hB (by omega)
  rw [if_pos (by omega)] at hB
  have hP : outAt m c t = outv (mul (iblk m c 1 t) (slabAt (slabNo t.val) A) B0) (iblk m c 2 t) := by
    unfold outAt; rw [hA, hB, yblk_val]
  rw [hP, ← runG_read c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) (iblk m c 0 t) (iblk m c 1 t) (iblk m c 2 t) A B0 B1 hc1 hc2 hc3 hc4 hc5 d8 (slabNo t.val) (by rw [cval]; rfl) (st0_3 t).view f3]
  iexact H3

set_option maxHeartbeats 4800000 in
/-- The last point. -/
theorem sound_H (h : t.val = 259) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  have hc1 : ¬cond1 (grid0.coords t) = 1#1 := by rw [cond1_iff, cval]; omega
  have hc2 : ¬k0_cond2 (grid0.coords t) = 1#1 := by rw [cond2_iff, cval]; omega
  have hc3 : ¬k0_cond3 (grid0.coords t) = 1#1 := by rw [cond3_iff, cval]; omega
  have hc4 : k0_cond4 (grid0.coords t) = 1#1 := by rw [cond4_iff, cval]; omega
  have hc5 : k0_cond5 (grid0.coords t) = 1#1 := by rw [cond5_iff, cval]; omega
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, Phi_castSucc m c t]
  rw [leaves0_0, leaves0_1, leaves0_2]
  rw [leaves0_3_live m c t (by show (!(k0_cond5 _ == 1#1)) = false; simp [hc5])]
  unfold PhiS
  iintro ⟨⟨%A, %B0, %B1, %hI, HS0, HS1, HS2, HS3, Hg⟩, Ho, ⟨%d0, H0⟩, ⟨%d1, H1⟩, ⟨%d2, H2⟩, ⟨%d3, H3⟩⟩
  iapply ((runH c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) hc1 hc2 hc3 hc4 hc5 (iblk m c 0 t) (iblk m c 1 t) (iblk m c 2 t) A B0 B1).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%f3, %d8, H3⟩, HS0, HS1, HS2, HS3⟩
  isplitl [HS0 HS1 HS2 HS3 Hg]
  · iexists _; iexists _; iexists _; isplitr
    swap
    · isplitl [HS0]; · iexact HS0
      isplitl [HS1]; · iexact HS1
      isplitl [HS2]; · iexact HS2
      isplitl [HS3]; · iexact HS3
      iexact Hg
    ipureintro
    refine inv_next m c t.val (by omega) A _ B0 B1 _ _ (by omega) hI ?_ ?_
    · rw [runH_acc, if_pos (by omega), yblk_val]
      exact acc_read (k0_off3 (grid0.coords t)) (k0_off3_inb (grid0.coords t) hc4) (k := slabNo t.val) ((off3_eq _).trans (by rw [cval]; rfl)) _ _ _ _ _ _ _ _ _
    · intro h3; omega
  isplitl [Ho]; · iexact Ho
  isplitl [H0]; · iexact H0
  isplitl [H1]; · iexact H1
  isplitl [H2]; · iexact H2
  obtain ⟨hA, hB⟩ := hI (by omega)
  have hB := hB (by omega)
  rw [if_pos (by omega)] at hB
  have hP : outAt m c t = outv (mul (iblk m c 1 t) (slabAt (slabNo t.val) A) B0) (iblk m c 2 t) := by
    unfold outAt; rw [hA, hB, yblk_val]
  rw [hP, ← runH_read c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM0 (Memref.isWhole_whole _) scM1 (Memref.isWhole_whole _) scM2 (Memref.isWhole_whole _) scM3 (Memref.isWhole_whole _) (iblk m c 0 t) (iblk m c 1 t) (iblk m c 2 t) A B0 B1 hc1 hc2 hc3 hc4 hc5 d8 (slabNo t.val) (by rw [cval]; rfl) (st0_3 t).view f3]
  iexact H3

end Cases

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 260 := lt_of_lt_of_eq t.isLt (show cfg0.N = 260 from N_0)
  by_cases h0 : t.val = 0
  · exact sound_A m c t h0
  · by_cases h : t.val < 253
    · by_cases he : t.val % 2 = 0
      · exact sound_B m c t (by omega) h he
      · exact sound_C m c t h (by omega)
    · by_cases hl : t.val = 259
      · exact sound_H m c t hl
      · by_cases he : t.val % 2 = 0
        · exact sound_E m c t (by omega) (by omega) he
        · exact sound_G m c t (by omega) (by omega) (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%A, HS0⟩, ⟨%B0, HS1⟩, ⟨%B1, HS2⟩, HS3⟩, Hg⟩
  iexists A; iexists B0; iexists B1; isplitr
  · ipureintro; exact inv_zero m c A B0 B1
  isplitl [HS0]; · iexact HS0
  isplitl [HS1]; · iexact HS1
  isplitl [HS2]; · iexact HS2
  isplitl [HS3]; · iexact HS3
  iexact Hg

theorem hout (c : Dev nD) : (dats m 0 c).Φ (Fin.last cfg0.N) ⊢ Pipeline.ΦA spec0 c := by
  rw [show (dats m 0 c).Φ (Fin.last cfg0.N) = PhiS m c cfg0.N (le_refl _) from rfl, PhiA0_eq]
  unfold PhiS
  iintro ⟨%A, %B0, %B1, -, HS0, HS1, HS2, HS3, Hg⟩
  isplitl [HS0 HS1 HS2 HS3]
  · isplitl [HS0]
    · iexists A; iexact HS0
    isplitl [HS1]
    · iexists B0; iexact HS1
    isplitl [HS2]
    · iexists B1; iexact HS2
    iexact HS3
  iexact Hg

set_option backward.isDefEq.respectTransparency.types false in
/-- The launch, and every semaphore counter at zero afterwards. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.DgradIdeal.Hand

end
-- ==== Proof.DgradIdeal.Value.lean ====
/- What the input-gradient products amount to over the extended reals: the whole product of the two arguments. -/
module
public import proofs.«01_k».proof.Defs
public import proofs.«01_k».proof.Proof.DgradIdeal.Body
public import proofs.«01_k».proof.Proof.Gen.DgradRefIdeal
public import Idealize.ShloMosaic.Lib.Claim
public import Idealize.ShloMosaic.Lib.Pipeline.ValueKit
@[expose] public section
set_option maxRecDepth 16384
noncomputable section
namespace Cert.DgradIdeal.Hand
open Cert.DgradIdeal Cert.DgradIdeal.Gen
open Idealize.ShloMosaic Idealize.ShloMosaic.TcCoe Idealize.SL.Sem
open Idealize.ShloMosaic.Pipeline (Dat)

theorem idx0 : ∀ t : Fin cfg0.N, t.val < 259 → win0_0.index t = ![t.val / 7, t.val % 7] :=
  (by decide +kernel : ∀ t : Fin grid0.N, _)
theorem idx1 : ∀ t : Fin cfg0.N, win0_1.index t = ![(t.val - 1) / 7, 0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, 253 ≤ t.val → win0_3.index t = ![0, (t.val + 6) % 7] :=
  (by decide +kernel : ∀ t : Fin grid0.N, _)
theorem flush3 : ∀ t : Fin cfg0.N, (cfg0.win 3).flush t = true → 253 ≤ t.val :=
  (by decide +kernel : ∀ t : Fin grid0.N, _)

theorem covers : (cfg0.win 3).Covers := by decide +kernel

/-! ### The body's operations at an index -/

theorem mul_apply (x2 : Vec Ideal S4x1920x128 .bf16) (s : Vec Ideal S1x1920x512 .f32) (b : Vec Ideal S512x512 .bf16) (r : Fin 1920) (k : Fin 512) :
    mul x2 s b (ix3 0 r k) = s (ix3 0 r k) + ∑ u : Fin 512, (x2 (ix3 ⟨u.val / 128, by omega⟩ r ⟨u.val % 128, Nat.mod_lt _ (by decide)⟩) * b (ix2 u k) : EReal) := by
  pointwise [mul, k0_pay5]
  refine congrArg (fun z : EReal => s (ix3 0 r k) + z) (Finset.sum_congr rfl fun u _ => congrArg (fun z : EReal => z * _) ?_)
  have hu := u.isLt
  have e : ∀ (p p' : Fin 4) (q q' : Fin 128), p.val = p'.val → q.val = q'.val → x2 (ix3 p r q) = x2 (ix3 p' r q') := by
    intro p p' q q' h1 h2
    rw [Fin.ext h1, Fin.ext h2]
  by_cases h1 : u.val < 128
  · rw [dif_pos h1]
    exact e _ _ _ _ (by show 0 = u.val / 128; omega) (by show u.val = u.val % 128; omega)
  · rw [dif_neg h1]
    by_cases h2 : u.val - 128 < 128
    · rw [dif_pos h2]
      exact e _ _ _ _ (by show 1 = u.val / 128; omega) (by show u.val - 128 = u.val % 128; omega)
    · rw [dif_neg h2]
      by_cases h3 : u.val - 128 - 128 < 128
      · rw [dif_pos h3]
        exact e _ _ _ _ (by show 2 = u.val / 128; omega) (by show u.val - 128 - 128 = u.val % 128; omega)
      · rw [dif_neg h3]
        exact e _ _ _ _ (by show 3 = u.val / 128; omega) (by show u.val - 128 - 128 - 128 = u.val % 128; omega)

theorem pay51_apply (s : Vec Ideal S1x1920x512 .f32) (b : Vec Ideal S512x512 .bf16) (r : Fin 1920) (k : Fin 512) :
    k0_pay51 s b (ix2 r k) = ∑ u : Fin 512, (s (ix3 0 r u) * b (ix2 u k) : EReal) := by
  pointwise [k0_pay51]

theorem pay9_apply (y : S7x1920x512.Idx) : (k0_pay9 : FVec Ideal S7x1920x512 .f32) y = (0 : EReal) := by
  pointwise [k0_pay9]

/-! ### The host's arrangement of the two arguments, and the table of the column order -/

/-- The weights, transposed, columns regrouped. -/
def wtv (X : FVec Ideal S3584x18944 .bf16) : FVec Ideal S18944x3584 .bf16 :=
  shapeCast S18944x3584 (transpose S18944x7x4x128 [3, 0, 2, 1] (shapeCast S7x128x4x18944 X shapeCasts_S3584x18944_S7x128x4x18944) transposes_S7x128x4x18944_S18944x7x4x128_3_0_2_1) shapeCasts_S18944x7x4x128_S18944x3584

theorem wtv_apply (X : FVec Ideal S3584x18944 .bf16) (n : Fin 18944) (k : Fin 3584) :
    wtv X (ix2 n k) = X (ix2 ⟨k.val / 512 * 512 + k.val % 128 * 4 + k.val / 128 % 4, by omega⟩ n) := by
  pointwise [wtv]

/-- The rows, their columns in groups of 128, of four rows the middle two exchanged. -/
def rowsv (Y : FVec Ideal S1920x18944 .bf16) : FVec Ideal S148x1920x128 .bf16 :=
  shapeCast S148x1920x128 (transpose S148x480x2x2x128 [3, 0, 2, 1, 4] (shapeCast S480x2x2x148x128 Y shapeCasts_S1920x18944_S480x2x2x148x128) transposes_S480x2x2x148x128_S148x480x2x2x128_3_0_2_1_4) shapeCasts_S148x480x2x2x128_S148x1920x128

theorem rowsv_apply (Y : FVec Ideal S1920x18944 .bf16) (l : Fin 148) (r : Fin 1920) (j : Fin 128) :
    rowsv Y (ix3 l r j) = Y (ix2 (swapRow r) ⟨128 * l.val + j.val, by omega⟩) := by
  pointwise [rowsv]
  congr 2
  all_goals (apply Fin.ext; simp only [swapRow]; omega)

/-- The column of the result that column `r` of a slab goes to, as the host computes it. -/
def dst : S512.Idx → BitVec 32 :=
  let i : S512.Idx → BitVec 32 := iotaInDim S512 32 0
  let d : S_.Idx → BitVec 32 := select (cmpi .eq (constantI S_ 32 128#32) (constantI S_ 32 0#32)) (constantI S_ 32 1#32) (constantI S_ 32 128#32)
  let v4 := Host.remsi i (broadcastInDim S512 ![] bcast_S_S512 d)
  let v12 := andi (cmpi .ne (cmpi .slt v4 (broadcastInDim S512 ![] bcast_S_S512 (constantI S_ 32 0#32))) (broadcastInDim S512 ![] bcast_S_S512 (cmpi .slt d (constantI S_ 32 0#32)))) (cmpi .ne v4 (broadcastInDim S512 ![] bcast_S_S512 (constantI S_ 32 0#32)))
  let v7 := select v12 (addi v4 (broadcastInDim S512 ![] bcast_S_S512 d)) v4
  let e : S_.Idx → BitVec 32 := (constantI S_ 32 128#32)
  let w2 := Host.divsi i (broadcastInDim S512 ![] bcast_S_S512 e)
  let w11 := andi (cmpi .ne (signi i) (broadcastInDim S512 ![] bcast_S_S512 (signi e))) (cmpi .ne (Host.remsi i (broadcastInDim S512 ![] bcast_S_S512 e)) (broadcastInDim S512 ![] bcast_S_S512 (constantI S_ 32 0#32)))
  let v10 := select w11 (subi w2 (broadcastInDim S512 ![] bcast_S_S512 (constantI S_ 32 1#32))) w2
  addi (muli (broadcastInDim S512 ![] bcast_S_S512 (constantI S_ 32 4#32)) v7) v10

theorem dst_apply : ∀ r : Fin 512, dst (ix1 r) = BitVec.ofNat 32 (4 * (r.val % 128) + r.val / 128) := by decide +kernel

/-- The table of the column order. -/
def permv : FVec Ideal S512x512 .bf16 :=
  uitofp (F := Ideal) .bf16 (cmpi .eq (broadcastInDim S512x512 ![0, 1] bcast_S512x1_S512x512_0_1 (broadcastInDim S512x1 ![0] bcast_S512_S512x1_0 dst))
    (broadcastInDim S512x512 ![0, 1] bcast_S1x512_S512x512_0_1 (broadcastInDim S1x512 ![1] bcast_S512_S1x512_1 (iotaInDim S512 32 0))))

theorem permv_apply (r d : Fin 512) : permv (ix2 r d) = if d.val = 4 * (r.val % 128) + r.val / 128 then (1 : EReal) else 0 := by
  pointwise [permv]
  rw [dst_apply]
  have hr := r.isLt
  have hd := d.isLt
  by_cases h : d.val = 4 * (r.val % 128) + r.val / 128
  · rw [if_pos h, h]
    have e : IntOp.cmpi CmpIPredicate.eq (BitVec.ofNat 32 (4 * (r.val % 128) + r.val / 128)) (BitVec.ofNat 32 (4 * (r.val % 128) + r.val / 128)) = 1#1 := by
      simp [IntOp.cmpi]
    rw [e]
    show (((1#1 : BitVec 1).toNat : ℝ) : EReal) = 1
    simp
  · rw [if_neg h]
    have hne : BitVec.ofNat 32 (4 * (r.val % 128) + r.val / 128) ≠ BitVec.ofNat 32 d.val := by
      intro hh
      have := congrArg BitVec.toNat hh
      rw [BitVec.toNat_ofNat, BitVec.toNat_ofNat, Nat.mod_eq_of_lt (show 4 * (r.val % 128) + r.val / 128 < 2 ^ 32 by omega),
        Nat.mod_eq_of_lt (show d.val < 2 ^ 32 by omega)] at this
      exact h this.symm
    have e : IntOp.cmpi CmpIPredicate.eq (BitVec.ofNat 32 (4 * (r.val % 128) + r.val / 128)) (BitVec.ofNat 32 d.val) = 0#1 := by
      show BitVec.ofBool (_ == _) = _
      rw [beq_eq_false_iff_ne.mpr hne]
      rfl
    rw [e]
    show (((0#1 : BitVec 1).toNat : ℝ) : EReal) = 0
    simp

variable (m : (ℓ : Loc nD τ sig) → Buf (Elt Ideal) ℓ)

theorem v2 (c : Dev nD) : V m c main_v2 = wtv (m ((c : Thread nD τ).loc main_arg0)) := by
  unfold V
  simp only [hostOps0, hostOps0_1, hostOps0_2, hostOps0_3, hostOps0_4, List.flatten_cons, List.flatten_nil, List.append_nil, List.cons_append,
      List.nil_append]
  entry_read
  rfl

theorem v5 (c : Dev nD) : V m c main_v5 = rowsv (m ((c : Thread nD τ).loc main_arg1)) := by
  unfold V
  simp only [hostOps0, hostOps0_1, hostOps0_2, hostOps0_3, hostOps0_4, List.flatten_cons, List.flatten_nil, List.append_nil, List.cons_append,
      List.nil_append]
  entry_read
  rfl

theorem v18 (c : Dev nD) : V m c main_v18 = permv := by
  unfold V
  simp only [hostOps0, hostOps0_1, hostOps0_2, hostOps0_3, hostOps0_4, List.flatten_cons, List.flatten_nil, List.append_nil, List.cons_append,
      List.nil_append]
  entry_read
  rfl

/-! ### The blocks -/

theorem wblk_apply (c : Dev nD) (p : ℕ) (hp : p < 259) (u k : Fin 512) :
    wblk m c p (ix2 u k) = m ((c : Thread nD τ).loc main_arg0)
      (ix2 ⟨512 * (p % 7) + 4 * (k.val % 128) + k.val / 128, by omega⟩ ⟨512 * (p / 7) + u.val, by omega⟩) := by
  have e : (pt p).val = p := Nat.mod_eq_of_lt (by omega)
  have h0 := idx0 (pt p) (by omega)
  rw [e] at h0
  have h : wblk m c p (ix2 u k) = (V m c main_v2 : Vec Ideal S18944x3584 .bf16) (ix2 ⟨512 * (p / 7) + u.val, by omega⟩ ⟨512 * (p % 7) + k.val, by omega⟩) := by
    unfold wblk
    blk_ext [iblk, h0]
  rw [h, v2, wtv_apply]
  congr 2
  apply Fin.ext
  show (512 * (p % 7) + k.val) / 512 * 512 + (512 * (p % 7) + k.val) % 128 * 4 + (512 * (p % 7) + k.val) / 128 % 4 = 512 * (p % 7) + 4 * (k.val % 128) + k.val / 128
  omega

theorem yblk_apply (c : Dev nD) (n : ℕ) (hn : n < 260) (l : Fin 4) (r : Fin 1920) (j : Fin 128) :
    yblk m c n (ix3 l r j) = m ((c : Thread nD τ).loc main_arg1) (ix2 (swapRow r) ⟨512 * ((n - 1) / 7) + 128 * l.val + j.val, by omega⟩) := by
  have e : (pt n).val = n := Nat.mod_eq_of_lt (by omega)
  have h1 := idx1 (pt n)
  rw [e] at h1
  have h : yblk m c n (ix3 l r j) = (V m c main_v5 : Vec Ideal S148x1920x128 .bf16) (ix3 ⟨4 * ((n - 1) / 7) + l.val, by omega⟩ r j) := by
    unfold yblk
    blk_ext [iblk, h1]
  rw [h, v5, rowsv_apply]
  congr 2
  apply Fin.ext
  show 128 * (4 * ((n - 1) / 7) + l.val) + j.val = 512 * ((n - 1) / 7) + 128 * l.val + j.val
  omega

theorem perm_blk (c : Dev nD) (t : Fin cfg0.N) : (iblk m c 2 t : Vec Ideal S512x512 .bf16) = permv := by
  rw [← v18 m c]
  funext y
  have h2 := idx2 t
  blk_ext [iblk, h2]

/-! ### The accumulator -/

/-- The contribution of columns `512 i …` to an element: row `r` of the second argument times row `w` of the first. -/
def part (X : FVec Ideal S3584x18944 .bf16) (Y : FVec Ideal S1920x18944 .bf16) (i : ℕ) (r : Fin 1920) (w : Fin 3584) : EReal :=
  ∑ u : Fin 512, (Y (ix2 r ⟨(512 * i + u.val) % 18944, Nat.mod_lt _ (by decide)⟩) * X (ix2 w ⟨(512 * i + u.val) % 18944, Nat.mod_lt _ (by decide)⟩) : EReal)

/-- The row of the weights behind column `k` of slab `s`. -/
def wrow (s : Fin 7) (k : Fin 512) : Fin 3584 := ⟨512 * s.val + 4 * (k.val % 128) + k.val / 128, by omega⟩

theorem step_apply (c : Dev nD) (n : ℕ) (hn : n < 259) (s : Vec Ideal S1x1920x512 .f32) (r : Fin 1920) (k : Fin 512) :
    mul (yblk m c (n + 1)) s (wblk m c n) (ix3 0 r k)
      = s (ix3 0 r k) + part (m ((c : Thread nD τ).loc main_arg0)) (m ((c : Thread nD τ).loc main_arg1)) (n / 7) (swapRow r) (wrow ⟨n % 7, Nat.mod_lt _ (by decide)⟩ k) := by
  rw [mul_apply]
  refine congrArg (fun z : EReal => s (ix3 0 r k) + z) ?_
  unfold part
  refine Finset.sum_congr rfl fun u _ => ?_
  have hu := u.isLt
  refine congrArg₂ (fun a b : EReal => a * b) ((yblk_apply m c (n + 1) (by omega) _ r _).trans ?_) ((wblk_apply m c n hn u k).trans ?_)
  · congr 2
    apply Fin.ext
    show 512 * ((n + 1 - 1) / 7) + 128 * (u.val / 128) + u.val % 128 = (512 * (n / 7) + u.val) % 18944
    omega
  · unfold wrow
    congr 2
    apply Fin.ext
    show 512 * (n / 7) + u.val = (512 * (n / 7) + u.val) % 18944
    omega

theorem acc_apply (c : Dev nD) (n : ℕ) (hn : n ≤ 259) (s : Fin 7) (r : Fin 1920) (k : Fin 512) :
    accAt m c n (ix3 s r k) = ∑ i ∈ Finset.range ((n + 6 - s.val) / 7), part (m ((c : Thread nD τ).loc main_arg0)) (m ((c : Thread nD τ).loc main_arg1)) i (swapRow r) (wrow s k) := by
  have hs := s.isLt
  induction n with
  | zero =>
    rw [show (0 + 6 - s.val) / 7 = 0 by omega, Finset.sum_range_zero]
    exact pay9_apply _
  | succ n ih =>
    have ih := ih (by omega)
    show (if s.val = (n + 1 + 6) % 7 then mul (yblk m c (n + 1)) (slabAt (slabNo (n + 1)) (accAt m c n)) (wblk m c n) (ix3 0 r k) else accAt m c n (ix3 s r k)) = _
    by_cases h : s.val = (n + 1 + 6) % 7
    · rw [if_pos h, step_apply m c n (by omega)]
      have e1 : (n + 1 + 6 - s.val) / 7 = (n + 6 - s.val) / 7 + 1 := by omega
      have e2 : (n + 6 - s.val) / 7 = n / 7 := by omega
      have e3 : (⟨n % 7, Nat.mod_lt _ (by decide)⟩ : Fin 7) = s := Fin.ext (by show n % 7 = s.val; omega)
      have e4 : slabNo (n + 1) = s := Fin.ext h.symm
      rw [e1, Finset.sum_range_succ, e3, e4, ← ih, e2]
      rfl
    · rw [if_neg h, ih]
      congr 2
      omega

/-- Thirty-seven groups of 512 are the whole sum. -/
theorem sum_parts (X : FVec Ideal S3584x18944 .bf16) (Y : FVec Ideal S1920x18944 .bf16) (r : Fin 1920) (w : Fin 3584) :
    ∑ i ∈ Finset.range 37, part X Y i r w = ∑ n : Fin 18944, (Y (ix2 r n) * X (ix2 w n) : EReal) := by
  have h : ∀ f : Fin 18944 → EReal, ∑ i : Fin 37, ∑ u : Fin 512, f (finProdFinEquiv (i, u)) = ∑ n : Fin 18944, f n := by
    intro f
    rw [← Fintype.sum_prod_type' (f := fun (i : Fin 37) (u : Fin 512) => f (finProdFinEquiv (i, u)))]
    exact Equiv.sum_comp (finProdFinEquiv : Fin 37 × Fin 512 ≃ Fin (37 * 512)) f
  rw [Finset.sum_range, ← h]
  refine Finset.sum_congr rfl fun i _ => ?_
  unfold part
  refine Finset.sum_congr rfl fun u _ => ?_
  have e : (⟨(512 * i.val + u.val) % 18944, Nat.mod_lt _ (by decide)⟩ : Fin 18944) = finProdFinEquiv (i, u) :=
    Fin.ext (by show (512 * i.val + u.val) % 18944 = u.val + 512 * i.val; omega)
  rw [e]

/-! ### The result -/

/-- The reference's product at an index. -/
def REF (X : FVec Ideal S3584x18944 .bf16) (Y : FVec Ideal S1920x18944 .bf16) : FVec Ideal S1920x3584 .bf16 :=
  truncf (F := Ideal) .bf16 (Host.dotGeneral (F := Ideal) DgradRefIdeal.dot_S1920x18944_S3584x18944_S1920x3584_1_1_0_0_n_n none Y X) bitsLt_bf16_f32

theorem REF_apply (X : FVec Ideal S3584x18944 .bf16) (Y : FVec Ideal S1920x18944 .bf16) (i : S1920x3584.Idx) :
    REF X Y i = ∑ n : Fin 18944, (Y (ix2 (i 0) n) * X (ix2 (i 1) n) : EReal) := by
  pointwise [REF]

/-- The column of a slab that lands in column `d` of the block. -/
def src (d : Fin 512) : Fin 512 := ⟨d.val % 4 * 128 + d.val / 4, by omega⟩

theorem outv_apply (s : Vec Ideal S1x1920x512 .f32) (r : Fin 1920) (d : Fin 512) : outv s permv (ix2 r d) = s (ix3 0 (swapRow r) (src d)) := by
  show k0_pay51 s permv (ix2 (swapRow r) d) = _
  rw [pay51_apply]
  refine (Finset.sum_eq_single (src d) ?_ (fun h => absurd (Finset.mem_univ _) h)).trans ?_
  · intro u _ hu
    rw [permv_apply, if_neg, mul_zero]
    intro h
    have := u.isLt
    exact hu (Fin.ext (by show u.val = d.val % 4 * 128 + d.val / 4; omega))
  · have hd := d.isLt
    rw [permv_apply, if_pos (by show d.val = 4 * ((d.val % 4 * 128 + d.val / 4) % 128) + (d.val % 4 * 128 + d.val / 4) / 128; omega), mul_one]

theorem swap_swap : ∀ r : Fin 1920, swapRow (swapRow r) = r := by decide +kernel

/-- An element of a written block is the whole sum. -/
theorem elem (c : Dev nD) (t : Fin cfg0.N) (h4 : 253 ≤ t.val) (r : Fin 1920) (d : Fin 512) (w : Fin 3584)
    (hw : w.val = 512 * ((t.val + 6) % 7) + d.val) :
    outAt m c t (ix2 r d) = REF (m ((c : Thread nD τ).loc main_arg0)) (m ((c : Thread nD τ).loc main_arg1)) (ix2 r w) := by
  have hN : t.val < 260 := lt_of_lt_of_eq t.isLt (show cfg0.N = 260 from N_0)
  unfold outAt
  rw [perm_blk, outv_apply]
  obtain ⟨n, hn⟩ : ∃ n, t.val = n + 1 := ⟨t.val - 1, by omega⟩
  have hacc : mul (yblk m c t.val) (slabAt (slabNo t.val) (accAt m c (t.val - 1))) (wblk m c (t.val - 1)) (ix3 0 (swapRow r) (src d))
      = accAt m c t.val (ix3 (slabNo t.val) (swapRow r) (src d)) := by
    rw [hn]
    exact (if_pos rfl).symm
  have e : (t.val + 6 - (slabNo t.val).val) / 7 = 37 := by
    show (t.val + 6 - (t.val + 6) % 7) / 7 = 37
    omega
  have e1 : wrow (slabNo t.val) (src d) = w := Fin.ext (by
    rw [hw]
    show 512 * ((t.val + 6) % 7) + 4 * ((d.val % 4 * 128 + d.val / 4) % 128) + (d.val % 4 * 128 + d.val / 4) / 128 = _
    omega)
  rw [hacc, acc_apply m c t.val (by omega), swap_swap, e, e1]
  exact (sum_parts _ _ r w).trans (REF_apply _ _ (ix2 r w)).symm

/-- Element by element: a written block holds the reference's product. -/
theorem point (c : Dev nD) (t : Fin cfg0.N) (h4 : 253 ≤ t.val) (y : S1920x512.Idx) (i : S1920x3584.Idx)
    (h0 : (i 0).val = (y 0).val) (h1 : (i 1).val = 512 * ((t.val + 6) % 7) + (y 1).val) :
    outAt m c t y = REF (m ((c : Thread nD τ).loc main_arg0)) (m ((c : Thread nD τ).loc main_arg1)) i := by
  have hy : y = ix2 (y 0) (y 1) := by
    funext a
    match a with
    | ⟨0, _⟩ => rfl
    | ⟨1, _⟩ => rfl
  have hi : i = ix2 (y 0) (i 1) := by
    funext a
    match a with
    | ⟨0, _⟩ => exact Fin.ext h0
    | ⟨1, _⟩ => rfl
  exact (congrArg _ hy).trans ((elem m c t h4 (y 0) (y 1) (i 1) h1).trans (congrArg _ hi).symm)

/-- The result array after the run. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ covers fun t hf y => ?_
  have h4 := flush3 t hf
  have h5 := idx3 t h4
  blk_simp
  rw [after0_3]
  refine point m c t h4 y _ ?_ ?_
  · blk_simp [h5]
  · blk_simp [h5]
    exact congrArg (· + _) (Nat.mul_comm _ _)

end Cert.DgradIdeal.Hand
end
-- ==== Proof.Scales.Bytes.lean ====
/- The byte of a 32-bit word: words read as four times as many rows of 8-bit elements. -/
module

public import Idealize.ShloMosaic.Lib.BitcastPair
public import Idealize.ShloMosaic.Lib.BitcastFour
public import Idealize.ShloMosaic.Lib.ValueIdxCore

@[expose] public section

namespace Cert.Bytes

open Idealize.ShloMosaic Idealize.ShloMosaic.ValueIdx

/-- Row `a` of words read as bytes is byte `a % 4` of word row `a / 4`. -/
theorem bitcast_32_8 {R r n : Nat} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (a.val % 4 * 8) 8 := by
  apply BitVec.eq_of_getLsbD_eq
  intro q hq
  rw [bitcast_getLsbD x h _ q hq (by decide), BitVec.getLsbD_extractLsb']
  have er : (⟨2, ![R, n]⟩ : Shape).row (ix2 a l) = a.val := by rfl
  have e2 : ((⟨2, ![R, n]⟩ : Shape).row (ix2 a l) * 8 + q) % 32 = a.val % 4 * 8 + q := by rw [er]; omega
  have e1 : ((⟨2, ![R, n]⟩ : Shape).row (ix2 a l) * 8 + q) / 32 = a.val / 4 := by rw [er]; omega
  rw [e2, decide_eq_true hq, Bool.true_and]
  congr 2
  funext c
  match c with
  | ⟨0, _⟩ => exact Fin.ext ((h.srcIdx_row _ _ _ ⟨0, Nat.zero_lt_two⟩ rfl).trans (e1.trans hp.symm))
  | ⟨1, _⟩ => exact Fin.ext (h.srcIdx_other _ _ _ ⟨1, Nat.one_lt_two⟩ (by show ¬ 1 + 2 = 2; omega))

end Cert.Bytes

end
-- ==== Proof.ScalesW.Value.lean ====
/- The table of block scales `ScalesW` writes: at row r and column n, byte r % 4 of the word at row n and column r / 4. -/
module

public import proofs.«01_k».proof.Proof.Scales.Bytes
public import proofs.«01_k».proof.Proof.Gen.ScalesW.Value
public import proofs.«01_k».proof.Proof.Gen.ScalesWRef.Run
public import Idealize.ShloMosaic.Lib.Claim
public import Idealize.ShloMosaic.Lib.BitcastConvert
public import Idealize.ShloMosaic.Lib.Pipeline.ValueKit

@[expose] public section

set_option maxRecDepth 16384

noncomputable section

namespace Cert.ScalesW.Hand

open Cert.ScalesW Cert.ScalesW.Gen
open Idealize.ShloMosaic Idealize.ShloMosaic.TcCoe Idealize.SL.Sem
open Idealize.ShloMosaic.Pipeline (Dat)

variable {F : FTy → Type} [FloatOps F]

/-- The table: every row takes one byte of each word of its column of words. -/
def table (X : Vec F S1184x896 .i32) : FVec F S3584x1184 .fp8e4m3 := fun i =>
  FloatOps.ofBits .fp8e4m3
    (((X (Idealize.ShloMosaic.ix2 (i 1) ⟨(i 0).val / 4, by have h : (i 0).val < 3584 := (i 0).isLt; omega⟩) : BitVec 32)).extractLsb'
      ((i 0).val % 4 * 8) 8)

theorem idx0 : ∀ t : Fin cfg0.N, win0_0.index t = ![0, t.val] := (by decide +kernel : ∀ t : Fin grid0.N, _)
theorem idx1 : ∀ t : Fin cfg0.N, win0_1.index t = ![t.val, 0] := (by decide +kernel : ∀ t : Fin grid0.N, _)
theorem covers : (cfg0.win 1).Covers := by decide +kernel

/-- A block's row `r` holds byte `r % 4` of the words in column `r / 4` of the block. -/
theorem pay_apply (x : Vec F S1184x128 .i32) (y : S512x1184.Idx) :
    k0_pay1 x y = FloatOps.ofBits .fp8e4m3
      (((x (Idealize.ShloMosaic.ix2 (y 1) ⟨(y 0).val / 4, by have h : (y 0).val < 512 := (y 0).isLt; omega⟩) : BitVec 32)).extractLsb'
        ((y 0).val % 4 * 8) 8) := by
  have hy : y = Idealize.ShloMosaic.ix2 (y 0) (y 1) := by funext a; match a with | ⟨0, _⟩ => rfl | ⟨1, _⟩ => rfl
  show FloatOps.ofBits .fp8e4m3 (bitcast S512x1184 8 (transpose S128x1184 [1, 0] x transposes_S1184x128_p1_0_S128x1184) bitcasts_S128x1184_w32_S512x1184_w8 y) = _
  have h := Cert.Bytes.bitcast_32_8 (transpose S128x1184 [1, 0] x transposes_S1184x128_p1_0_S128x1184 : S128x1184.Idx → BitVec 32)
    bitcasts_S128x1184_w32_S512x1184_w8 (y 0) (y 1) ⟨(y 0).val / 4, by have h : (y 0).val < 512 := (y 0).isLt; omega⟩ rfl
  refine congrArg (FloatOps.ofBits .fp8e4m3) ((congrArg _ hy).trans (h.trans ?_))
  refine congrArg (fun b : BitVec 32 => b.extractLsb' ((y 0).val % 4 * 8) 8) ?_
  pointwise

/-- The table at an index, from the word and the byte named otherwise. -/
theorem table_apply (X : Vec F S1184x896 .i32) (i : S3584x1184.Idx) (j : S1184x896.Idx) (b : ℕ) (hb : b = (i 0).val % 4)
    (h0 : (j 0).val = (i 1).val) (h1 : (j 1).val = (i 0).val / 4) :
    FloatOps.ofBits .fp8e4m3 ((X j : BitVec 32).extractLsb' (b * 8) 8) = table (F := F) X i := by
  subst hb
  have hj : j = Idealize.ShloMosaic.ix2 (i 1) ⟨(i 0).val / 4, by have h : (i 0).val < 3584 := (i 0).isLt; omega⟩ := by
    funext a
    match a with
    | ⟨0, _⟩ => exact Fin.ext h0
    | ⟨1, _⟩ => exact Fin.ext h1
  rw [hj]
  rfl

variable (m : (ℓ : Loc nD τ sig) → Buf (Elt F) ℓ)

/-- The result array after the run. -/
theorem final (c : Dev nD) : (dats m 0 c).arrAt 1 cfg0.N = table (F := F) (m ((c : Thread nD τ).loc main_arg0)) := by
  refine (dats m 0 c).arrAt_eq_of_covers 1 _ covers fun t hf y => ?_
  have h0 := idx0 t
  have h1 := idx1 t
  blk_simp
  rw [after0_1]
  frame_out
  refine (pay_apply _ _).trans ?_
  have e : ∀ (r : Fin 1184) (l : Fin 128), iblk m c 0 t (Idealize.ShloMosaic.ix2 r l)
      = (m ((c : Thread nD τ).loc main_arg0) : Vec F S1184x896 .i32) (Idealize.ShloMosaic.ix2 r ⟨128 * t.val + l.val, by
          have h : t.val < cfg0.N := t.isLt; rw [show cfg0.N = 7 from N_0] at h; omega⟩) := by
    intro r l
    rw [← V_main_arg0 m c]
    blk_ext [iblk, h0]
  refine (congrArg (fun b : BitVec 32 => FloatOps.ofBits .fp8e4m3 (b.extractLsb' _ 8)) (e _ _)).trans ?_
  have k0 : ((((View.whole main_v0).slice (win0_1.rect t)).emb y) 0).val = 512 * t.val + (y 0).val := by
    blk_simp [h1]
    exact congrArg (· + _) (Nat.mul_comm _ _)
  have k1 : ((((View.whole main_v0).slice (win0_1.rect t)).emb y) 1).val = (y 1).val := by
    blk_simp [h1]
  refine table_apply _ _ _ _ ?_ ?_ ?_
  · rw [k0]; show (y 0).val % 4 = _; omega
  · rw [k1]; rfl
  · rw [k0]; show 128 * t.val + (y 0).val / 4 = _; omega

/-- The reference's result is the same table. -/
theorem ref_eq (X : Vec F Cert.ScalesWRef.S1184x896 .i32) : bitcastToFloat (F := F) .fp8e4m3 (transpose Cert.ScalesWRef.S3584x1184 [1, 0] (shapeCast _ (Host.bitcastConvertNarrow Cert.ScalesWRef.S1184x896x4 8 X Cert.ScalesWRef.Facts₀.splits_S1184x896_w32_S1184x896x4_w8) Cert.ScalesWRef.Facts₀.shapeCasts_S1184x896x4_S1184x3584) Cert.ScalesWRef.Facts₀.transposes_S1184x3584_S3584x1184_1_0) = table (F := F) X := by
  funext i
  pointwise [table]
  congr 3
  funext a
  match a with
  | ⟨0, _⟩ => rfl
  | ⟨1, _⟩ => rfl

end Cert.ScalesW.Hand

end
-- ==== Proof.ScalesWIdeal.Value.lean ====
/- The table of block scales `ScalesWIdeal` writes: at row r and column n, byte r % 4 of the word at row n and column r / 4. -/
module

public import proofs.«01_k».proof.Proof.Scales.Bytes
public import proofs.«01_k».proof.Proof.Gen.ScalesWIdeal.Value
public import proofs.«01_k».proof.Proof.Gen.ScalesWRefIdeal.Run
public import Idealize.ShloMosaic.Lib.Claim
public import Idealize.ShloMosaic.Lib.BitcastConvert
public import Idealize.ShloMosaic.Lib.Pipeline.ValueKit

@[expose] public section

set_option maxRecDepth 16384

noncomputable section

namespace Cert.ScalesWIdeal.Hand

open Cert.ScalesWIdeal Cert.ScalesWIdeal.Gen
open Idealize.ShloMosaic Idealize.ShloMosaic.TcCoe Idealize.SL.Sem
open Idealize.ShloMosaic.Pipeline (Dat)

variable {F : FTy → Type} [FloatOps F]

/-- The table: every row takes one byte of each word of its column of words. -/
def table (X : Vec F S1184x896 .i32) : FVec F S3584x1184 .fp8e4m3 := fun i =>
  FloatOps.ofBits .fp8e4m3
    (((X (Idealize.ShloMosaic.ix2 (i 1) ⟨(i 0).val / 4, by have h : (i 0).val < 3584 := (i 0).isLt; omega⟩) : BitVec 32)).extractLsb'
      ((i 0).val % 4 * 8) 8)

theorem idx0 : ∀ t : Fin cfg0.N, win0_0.index t = ![0, t.val] := (by decide +kernel : ∀ t : Fin grid0.N, _)
theorem idx1 : ∀ t : Fin cfg0.N, win0_1.index t = ![t.val, 0] := (by decide +kernel : ∀ t : Fin grid0.N, _)
theorem covers : (cfg0.win 1).Covers := by decide +kernel

/-- A block's row `r` holds byte `r % 4` of the words in column `r / 4` of the block. -/
theorem pay_apply (x : Vec F S1184x128 .i32) (y : S512x1184.Idx) :
    k0_pay1 x y = FloatOps.ofBits .fp8e4m3
      (((x (Idealize.ShloMosaic.ix2 (y 1) ⟨(y 0).val / 4, by have h : (y 0).val < 512 := (y 0).isLt; omega⟩) : BitVec 32)).extractLsb'
        ((y 0).val % 4 * 8) 8) := by
  have hy : y = Idealize.ShloMosaic.ix2 (y 0) (y 1) := by funext a; match a with | ⟨0, _⟩ => rfl | ⟨1, _⟩ => rfl
  show FloatOps.ofBits .fp8e4m3 (bitcast S512x1184 8 (transpose S128x1184 [1, 0] x transposes_S1184x128_p1_0_S128x1184) bitcasts_S128x1184_w32_S512x1184_w8 y) = _
  have h := Cert.Bytes.bitcast_32_8 (transpose S128x1184 [1, 0] x transposes_S1184x128_p1_0_S128x1184 : S128x1184.Idx → BitVec 32)
    bitcasts_S128x1184_w32_S512x1184_w8 (y 0) (y 1) ⟨(y 0).val / 4, by have h : (y 0).val < 512 := (y 0).isLt; omega⟩ rfl
  refine congrArg (FloatOps.ofBits .fp8e4m3) ((congrArg _ hy).trans (h.trans ?_))
  refine congrArg (fun b : BitVec 32 => b.extractLsb' ((y 0).val % 4 * 8) 8) ?_
  pointwise

/-- The table at an index, from the word and the byte named otherwise. -/
theorem table_apply (X : Vec F S1184x896 .i32) (i : S3584x1184.Idx) (j : S1184x896.Idx) (b : ℕ) (hb : b = (i 0).val % 4)
    (h0 : (j 0).val = (i 1).val) (h1 : (j 1).val = (i 0).val / 4) :
    FloatOps.ofBits .fp8e4m3 ((X j : BitVec 32).extractLsb' (b * 8) 8) = table (F := F) X i := by
  subst hb
  have hj : j = Idealize.ShloMosaic.ix2 (i 1) ⟨(i 0).val / 4, by have h : (i 0).val < 3584 := (i 0).isLt; omega⟩ := by
    funext a
    match a with
    | ⟨0, _⟩ => exact Fin.ext h0
    | ⟨1, _⟩ => exact Fin.ext h1
  rw [hj]
  rfl

variable (m : (ℓ : Loc nD τ sig) → Buf (Elt F) ℓ)

/-- The result array after the run. -/
theorem final (c : Dev nD) : (dats m 0 c).arrAt 1 cfg0.N = table (F := F) (m ((c : Thread nD τ).loc main_arg0)) := by
  refine (dats m 0 c).arrAt_eq_of_covers 1 _ covers fun t hf y => ?_
  have h0 := idx0 t
  have h1 := idx1 t
  blk_simp
  rw [after0_1]
  frame_out
  refine (pay_apply _ _).trans ?_
  have e : ∀ (r : Fin 1184) (l : Fin 128), iblk m c 0 t (Idealize.ShloMosaic.ix2 r l)
      = (m ((c : Thread nD τ).loc main_arg0) : Vec F S1184x896 .i32) (Idealize.ShloMosaic.ix2 r ⟨128 * t.val + l.val, by
          have h : t.val < cfg0.N := t.isLt; rw [show cfg0.N = 7 from N_0] at h; omega⟩) := by
    intro r l
    rw [← V_main_arg0 m c]
    blk_ext [iblk, h0]
  refine (congrArg (fun b : BitVec 32 => FloatOps.ofBits .fp8e4m3 (b.extractLsb' _ 8)) (e _ _)).trans ?_
  have k0 : ((((View.whole main_v0).slice (win0_1.rect t)).emb y) 0).val = 512 * t.val + (y 0).val := by
    blk_simp [h1]
    exact congrArg (· + _) (Nat.mul_comm _ _)
  have k1 : ((((View.whole main_v0).slice (win0_1.rect t)).emb y) 1).val = (y 1).val := by
    blk_simp [h1]
  refine table_apply _ _ _ _ ?_ ?_ ?_
  · rw [k0]; show (y 0).val % 4 = _; omega
  · rw [k1]; rfl
  · rw [k0]; show 128 * t.val + (y 0).val / 4 = _; omega

/-- The reference's result is the same table. -/
theorem ref_eq (X : Vec F Cert.ScalesWRefIdeal.S1184x896 .i32) : bitcastToFloat (F := F) .fp8e4m3 (transpose Cert.ScalesWRefIdeal.S3584x1184 [1, 0] (shapeCast _ (Host.bitcastConvertNarrow Cert.ScalesWRefIdeal.S1184x896x4 8 X Cert.ScalesWRefIdeal.Facts₀.splits_S1184x896_w32_S1184x896x4_w8) Cert.ScalesWRefIdeal.Facts₀.shapeCasts_S1184x896x4_S1184x3584) Cert.ScalesWRefIdeal.Facts₀.transposes_S1184x3584_S3584x1184_1_0) = table (F := F) X := by
  funext i
  pointwise [table]
  congr 3
  funext a
  match a with
  | ⟨0, _⟩ => rfl
  | ⟨1, _⟩ => rfl

end Cert.ScalesWIdeal.Hand

end
-- ==== Proof.ScalesDy.Value.lean ====
/- The table of block scales `ScalesDy` writes: at row r and column n, byte r % 4 of the word at row n and column r / 4. -/
module

public import proofs.«01_k».proof.Proof.Scales.Bytes
public import proofs.«01_k».proof.Proof.Gen.ScalesDy.Value
public import proofs.«01_k».proof.Proof.Gen.ScalesDyRef.Run
public import Idealize.ShloMosaic.Lib.Claim
public import Idealize.ShloMosaic.Lib.BitcastConvert
public import Idealize.ShloMosaic.Lib.Pipeline.ValueKit

@[expose] public section

set_option maxRecDepth 16384

noncomputable section

namespace Cert.ScalesDy.Hand

open Cert.ScalesDy Cert.ScalesDy.Gen
open Idealize.ShloMosaic Idealize.ShloMosaic.TcCoe Idealize.SL.Sem
open Idealize.ShloMosaic.Pipeline (Dat)

variable {F : FTy → Type} [FloatOps F]

/-- The table: every row takes one byte of each word of its column of words. -/
def table (X : Vec F S1184x512 .i32) : FVec F S1920x1184 .fp8e4m3 := fun i =>
  FloatOps.ofBits .fp8e4m3
    (((X (Idealize.ShloMosaic.ix2 (i 1) ⟨(i 0).val / 4, by have h : (i 0).val < 1920 := (i 0).isLt; omega⟩) : BitVec 32)).extractLsb'
      ((i 0).val % 4 * 8) 8)

theorem idx0 : ∀ t : Fin cfg0.N, win0_0.index t = ![0, t.val] := (by decide +kernel : ∀ t : Fin grid0.N, _)
theorem idx1 : ∀ t : Fin cfg0.N, win0_1.index t = ![t.val, 0] := (by decide +kernel : ∀ t : Fin grid0.N, _)
theorem covers : (cfg0.win 1).Covers := by decide +kernel

/-- A block's row `r` holds byte `r % 4` of the words in column `r / 4` of the block. -/
theorem pay_apply (x : Vec F S1184x128 .i32) (y : S512x1184.Idx) :
    k0_pay1 x y = FloatOps.ofBits .fp8e4m3
      (((x (Idealize.ShloMosaic.ix2 (y 1) ⟨(y 0).val / 4, by have h : (y 0).val < 512 := (y 0).isLt; omega⟩) : BitVec 32)).extractLsb'
        ((y 0).val % 4 * 8) 8) := by
  have hy : y = Idealize.ShloMosaic.ix2 (y 0) (y 1) := by funext a; match a with | ⟨0, _⟩ => rfl | ⟨1, _⟩ => rfl
  show FloatOps.ofBits .fp8e4m3 (bitcast S512x1184 8 (transpose S128x1184 [1, 0] x transposes_S1184x128_p1_0_S128x1184) bitcasts_S128x1184_w32_S512x1184_w8 y) = _
  have h := Cert.Bytes.bitcast_32_8 (transpose S128x1184 [1, 0] x transposes_S1184x128_p1_0_S128x1184 : S128x1184.Idx → BitVec 32)
    bitcasts_S128x1184_w32_S512x1184_w8 (y 0) (y 1) ⟨(y 0).val / 4, by have h : (y 0).val < 512 := (y 0).isLt; omega⟩ rfl
  refine congrArg (FloatOps.ofBits .fp8e4m3) ((congrArg _ hy).trans (h.trans ?_))
  refine congrArg (fun b : BitVec 32 => b.extractLsb' ((y 0).val % 4 * 8) 8) ?_
  pointwise

/-- The table at an index, from the word and the byte named otherwise. -/
theorem table_apply (X : Vec F S1184x512 .i32) (i : S1920x1184.Idx) (j : S1184x512.Idx) (b : ℕ) (hb : b = (i 0).val % 4)
    (h0 : (j 0).val = (i 1).val) (h1 : (j 1).val = (i 0).val / 4) :
    FloatOps.ofBits .fp8e4m3 ((X j : BitVec 32).extractLsb' (b * 8) 8) = table (F := F) X i := by
  subst hb
  have hj : j = Idealize.ShloMosaic.ix2 (i 1) ⟨(i 0).val / 4, by have h : (i 0).val < 1920 := (i 0).isLt; omega⟩ := by
    funext a
    match a with
    | ⟨0, _⟩ => exact Fin.ext h0
    | ⟨1, _⟩ => exact Fin.ext h1
  rw [hj]
  rfl

variable (m : (ℓ : Loc nD τ sig) → Buf (Elt F) ℓ)

/-- The result array after the run. -/
theorem final (c : Dev nD) : (dats m 0 c).arrAt 1 cfg0.N = table (F := F) (m ((c : Thread nD τ).loc main_arg0)) := by
  refine (dats m 0 c).arrAt_eq_of_covers 1 _ covers fun t hf y => ?_
  have h0 := idx0 t
  have h1 := idx1 t
  blk_simp
  rw [after0_1]
  frame_out
  refine (pay_apply _ _).trans ?_
  have e : ∀ (r : Fin 1184) (l : Fin 128), iblk m c 0 t (Idealize.ShloMosaic.ix2 r l)
      = (m ((c : Thread nD τ).loc main_arg0) : Vec F S1184x512 .i32) (Idealize.ShloMosaic.ix2 r ⟨128 * t.val + l.val, by
          have h : t.val < cfg0.N := t.isLt; rw [show cfg0.N = 4 from N_0] at h; omega⟩) := by
    intro r l
    rw [← V_main_arg0 m c]
    blk_ext [iblk, h0]
  refine (congrArg (fun b : BitVec 32 => FloatOps.ofBits .fp8e4m3 (b.extractLsb' _ 8)) (e _ _)).trans ?_
  have k0 : ((((View.whole main_v0).slice (win0_1.rect t)).emb y) 0).val = 512 * t.val + (y 0).val := by
    blk_simp [h1]
    exact congrArg (· + _) (Nat.mul_comm _ _)
  have k1 : ((((View.whole main_v0).slice (win0_1.rect t)).emb y) 1).val = (y 1).val := by
    blk_simp [h1]
  refine table_apply _ _ _ _ ?_ ?_ ?_
  · rw [k0]; show (y 0).val % 4 = _; omega
  · rw [k1]; rfl
  · rw [k0]; show 128 * t.val + (y 0).val / 4 = _; omega

/-- The reference's result is the same table. -/
theorem ref_eq (X : Vec F Cert.ScalesDyRef.S1184x512 .i32) : bitcastToFloat (F := F) .fp8e4m3 (transpose Cert.ScalesDyRef.S1920x1184 [1, 0] (extractStridedSlice Cert.ScalesDyRef.S1184x1920 ![0, 0] (shapeCast _ (Host.bitcastConvertNarrow Cert.ScalesDyRef.S1184x512x4 8 X Cert.ScalesDyRef.Facts₀.splits_S1184x512_w32_S1184x512x4_w8) Cert.ScalesDyRef.Facts₀.shapeCasts_S1184x512x4_S1184x2048) Cert.ScalesDyRef.Facts₀.slices_S1184x2048_S1184x1920_0_0) Cert.ScalesDyRef.Facts₀.transposes_S1184x1920_S1920x1184_1_0) = table (F := F) X := by
  funext i
  pointwise [table]
  congr 3
  funext a
  match a with
  | ⟨0, _⟩ => rfl
  | ⟨1, _⟩ => rfl

end Cert.ScalesDy.Hand

end
-- ==== Proof.ScalesDyIdeal.Value.lean ====
/- The table of block scales `ScalesDyIdeal` writes: at row r and column n, byte r % 4 of the word at row n and column r / 4. -/
module

public import proofs.«01_k».proof.Proof.Scales.Bytes
public import proofs.«01_k».proof.Proof.Gen.ScalesDyIdeal.Value
public import proofs.«01_k».proof.Proof.Gen.ScalesDyRefIdeal.Run
public import Idealize.ShloMosaic.Lib.Claim
public import Idealize.ShloMosaic.Lib.BitcastConvert
public import Idealize.ShloMosaic.Lib.Pipeline.ValueKit

@[expose] public section

set_option maxRecDepth 16384

noncomputable section

namespace Cert.ScalesDyIdeal.Hand

open Cert.ScalesDyIdeal Cert.ScalesDyIdeal.Gen
open Idealize.ShloMosaic Idealize.ShloMosaic.TcCoe Idealize.SL.Sem
open Idealize.ShloMosaic.Pipeline (Dat)

variable {F : FTy → Type} [FloatOps F]

/-- The table: every row takes one byte of each word of its column of words. -/
def table (X : Vec F S1184x512 .i32) : FVec F S1920x1184 .fp8e4m3 := fun i =>
  FloatOps.ofBits .fp8e4m3
    (((X (Idealize.ShloMosaic.ix2 (i 1) ⟨(i 0).val / 4, by have h : (i 0).val < 1920 := (i 0).isLt; omega⟩) : BitVec 32)).extractLsb'
      ((i 0).val % 4 * 8) 8)

theorem idx0 : ∀ t : Fin cfg0.N, win0_0.index t = ![0, t.val] := (by decide +kernel : ∀ t : Fin grid0.N, _)
theorem idx1 : ∀ t : Fin cfg0.N, win0_1.index t = ![t.val, 0] := (by decide +kernel : ∀ t : Fin grid0.N, _)
theorem covers : (cfg0.win 1).Covers := by decide +kernel

/-- A block's row `r` holds byte `r % 4` of the words in column `r / 4` of the block. -/
theorem pay_apply (x : Vec F S1184x128 .i32) (y : S512x1184.Idx) :
    k0_pay1 x y = FloatOps.ofBits .fp8e4m3
      (((x (Idealize.ShloMosaic.ix2 (y 1) ⟨(y 0).val / 4, by have h : (y 0).val < 512 := (y 0).isLt; omega⟩) : BitVec 32)).extractLsb'
        ((y 0).val % 4 * 8) 8) := by
  have hy : y = Idealize.ShloMosaic.ix2 (y 0) (y 1) := by funext a; match a with | ⟨0, _⟩ => rfl | ⟨1, _⟩ => rfl
  show FloatOps.ofBits .fp8e4m3 (bitcast S512x1184 8 (transpose S128x1184 [1, 0] x transposes_S1184x128_p1_0_S128x1184) bitcasts_S128x1184_w32_S512x1184_w8 y) = _
  have h := Cert.Bytes.bitcast_32_8 (transpose S128x1184 [1, 0] x transposes_S1184x128_p1_0_S128x1184 : S128x1184.Idx → BitVec 32)
    bitcasts_S128x1184_w32_S512x1184_w8 (y 0) (y 1) ⟨(y 0).val / 4, by have h : (y 0).val < 512 := (y 0).isLt; omega⟩ rfl
  refine congrArg (FloatOps.ofBits .fp8e4m3) ((congrArg _ hy).trans (h.trans ?_))
  refine congrArg (fun b : BitVec 32 => b.extractLsb' ((y 0).val % 4 * 8) 8) ?_
  pointwise

/-- The table at an index, from the word and the byte named otherwise. -/
theorem table_apply (X : Vec F S1184x512 .i32) (i : S1920x1184.Idx) (j : S1184x512.Idx) (b : ℕ) (hb : b = (i 0).val % 4)
    (h0 : (j 0).val = (i 1).val) (h1 : (j 1).val = (i 0).val / 4) :
    FloatOps.ofBits .fp8e4m3 ((X j : BitVec 32).extractLsb' (b * 8) 8) = table (F := F) X i := by
  subst hb
  have hj : j = Idealize.ShloMosaic.ix2 (i 1) ⟨(i 0).val / 4, by have h : (i 0).val < 1920 := (i 0).isLt; omega⟩ := by
    funext a
    match a with
    | ⟨0, _⟩ => exact Fin.ext h0
    | ⟨1, _⟩ => exact Fin.ext h1
  rw [hj]
  rfl

variable (m : (ℓ : Loc nD τ sig) → Buf (Elt F) ℓ)

/-- The result array after the run. -/
theorem final (c : Dev nD) : (dats m 0 c).arrAt 1 cfg0.N = table (F := F) (m ((c : Thread nD τ).loc main_arg0)) := by
  refine (dats m 0 c).arrAt_eq_of_covers 1 _ covers fun t hf y => ?_
  have h0 := idx0 t
  have h1 := idx1 t
  blk_simp
  rw [after0_1]
  frame_out
  refine (pay_apply _ _).trans ?_
  have e : ∀ (r : Fin 1184) (l : Fin 128), iblk m c 0 t (Idealize.ShloMosaic.ix2 r l)
      = (m ((c : Thread nD τ).loc main_arg0) : Vec F S1184x512 .i32) (Idealize.ShloMosaic.ix2 r ⟨128 * t.val + l.val, by
          have h : t.val < cfg0.N := t.isLt; rw [show cfg0.N = 4 from N_0] at h; omega⟩) := by
    intro r l
    rw [← V_main_arg0 m c]
    blk_ext [iblk, h0]
  refine (congrArg (fun b : BitVec 32 => FloatOps.ofBits .fp8e4m3 (b.extractLsb' _ 8)) (e _ _)).trans ?_
  have k0 : ((((View.whole main_v0).slice (win0_1.rect t)).emb y) 0).val = 512 * t.val + (y 0).val := by
    blk_simp [h1]
    exact congrArg (· + _) (Nat.mul_comm _ _)
  have k1 : ((((View.whole main_v0).slice (win0_1.rect t)).emb y) 1).val = (y 1).val := by
    blk_simp [h1]
  refine table_apply _ _ _ _ ?_ ?_ ?_
  · rw [k0]; show (y 0).val % 4 = _; omega
  · rw [k1]; rfl
  · rw [k0]; show 128 * t.val + (y 0).val / 4 = _; omega

/-- The reference's result is the same table. -/
theorem ref_eq (X : Vec F Cert.ScalesDyRefIdeal.S1184x512 .i32) : bitcastToFloat (F := F) .fp8e4m3 (transpose Cert.ScalesDyRefIdeal.S1920x1184 [1, 0] (extractStridedSlice Cert.ScalesDyRefIdeal.S1184x1920 ![0, 0] (shapeCast _ (Host.bitcastConvertNarrow Cert.ScalesDyRefIdeal.S1184x512x4 8 X Cert.ScalesDyRefIdeal.Facts₀.splits_S1184x512_w32_S1184x512x4_w8) Cert.ScalesDyRefIdeal.Facts₀.shapeCasts_S1184x512x4_S1184x2048) Cert.ScalesDyRefIdeal.Facts₀.slices_S1184x2048_S1184x1920_0_0) Cert.ScalesDyRefIdeal.Facts₀.transposes_S1184x1920_S1920x1184_1_0) = table (F := F) X := by
  funext i
  pointwise [table]
  congr 3
  funext a
  match a with
  | ⟨0, _⟩ => rfl
  | ⟨1, _⟩ => rfl

end Cert.ScalesDyIdeal.Hand

end
-- ==== Proof.lean ====
module

public import proofs.«01_k».proof.Defs
public import proofs.«01_k».proof.Proof.Wgrad.Body
public import proofs.«01_k».proof.Proof.WgradIdeal.Value
public import proofs.«01_k».proof.Proof.Gen.WgradRefIdeal
public import proofs.«01_k».proof.Proof.Gen.Dgrad.Frame
public import proofs.«01_k».proof.Proof.Gen.DgradIdeal.Frame
public import proofs.«01_k».proof.Proof.Gen.DgradRefIdeal
public import proofs.«01_k».proof.Proof.Gen.Dgrad.Skeleton
public import proofs.«01_k».proof.Proof.Gen.DgradIdeal.Skeleton
public import proofs.«01_k».proof.Proof.Dgrad.Body
public import proofs.«01_k».proof.Proof.DgradIdeal.Value
public import proofs.«01_k».proof.Proof.Gen.ScalesW.Frame
public import proofs.«01_k».proof.Proof.Gen.ScalesWRef.Run
public import proofs.«01_k».proof.Proof.Gen.ScalesWIdeal.Frame
public import proofs.«01_k».proof.Proof.Gen.ScalesWRefIdeal.Run
public import proofs.«01_k».proof.Proof.Gen.ScalesDy.Frame
public import proofs.«01_k».proof.Proof.Gen.ScalesDyRef.Run
public import proofs.«01_k».proof.Proof.Gen.ScalesDyIdeal.Frame
public import proofs.«01_k».proof.Proof.Gen.ScalesDyRefIdeal.Run
public import proofs.«01_k».proof.Proof.ScalesW.Value
public import proofs.«01_k».proof.Proof.ScalesWIdeal.Value
public import proofs.«01_k».proof.Proof.ScalesDy.Value
public import proofs.«01_k».proof.Proof.ScalesDyIdeal.Value
public import Idealize.ShloMosaic.Lib.Bf16Pair
public import Idealize.ShloMosaic.Lib.Bf16PairInverse
public import Idealize.ShloMosaic.Lib.Claim
public import Idealize.ShloMosaic.Lib.Quiescent

@[expose] public section

set_option maxRecDepth 16384

noncomputable section

namespace Cert.Proof

open Idealize.ShloMosaic Idealize.SL.Sem

theorem algebraic_Wgrad : Cert.algebraic_WgradIdeal_WgradRefIdeal := by
  pair_intro
  · run_from Cert.WgradIdeal.Hand.run_main m g
    · exact Cert.WgradIdeal.Gen.V_main_arg0 m c
    · exact Cert.WgradIdeal.Gen.V_main_arg1 m c
  · hlo_run
    exact (Cert.WgradIdeal.Hand.final m c).symm

theorem quiescent_WgradRef : Cert.quiescent_WgradRefIdeal := by
  intro m g _
  refine (θ_run Cert.WgradRefIdeal.defs _ _).mono (fun r h => ⟨h, sem_eq_zero_of_no_sems (by decide) r.2⟩) ?_
  hlo_run

theorem algebraic_Dgrad : Cert.algebraic_DgradIdeal_DgradRefIdeal := by
  pair_intro
  · run_from Cert.DgradIdeal.Hand.run_main m g
    · exact Cert.DgradIdeal.Gen.V_main_arg0 m c
    · exact Cert.DgradIdeal.Gen.V_main_arg1 m c
  · hlo_run
    exact (Cert.DgradIdeal.Hand.final m c).symm

theorem quiescent_DgradRef : Cert.quiescent_DgradRefIdeal := by
  intro m g _
  refine (θ_run Cert.DgradRefIdeal.defs _ _).mono (fun r h => ⟨h, sem_eq_zero_of_no_sems (by decide) r.2⟩) ?_
  hlo_run

theorem preserves_Dgrad : Cert.preserves_Dgrad_DgradIdeal :=
  ⟨IdealRules.bf16_pair.bufferStatement _ _, IdealRules.bf16_pair.statement _ _, IdealRules.bf16_pair.statement _ _,
    IdealRules.bf16_pair.statement _ _⟩

theorem algebraic_ScalesW : Cert.algebraic_ScalesWIdeal_ScalesWRefIdeal := by
  pair_intro
  · run_from Cert.ScalesWIdeal.Value.run_blocks (F := Ideal) m g
  · run_from Cert.ScalesWRefIdeal.Value.run (F := Ideal) m' g'
    exact (Cert.ScalesWIdeal.Hand.ref_eq (F := Ideal) _).trans (Cert.ScalesWIdeal.Hand.final (F := Ideal) m c).symm

theorem quiescent_ScalesWRefIdeal : Cert.quiescent_ScalesWRefIdeal := fun m ρ _ =>
  (θ_run Cert.ScalesWRefIdeal.defs _ _).mono (fun r h => ⟨fun c => (h c).2, sem_eq_zero_of_no_sems (by decide) r.2⟩)
    (Cert.ScalesWRefIdeal.Value.run (F := Ideal) m ρ)

theorem bitexact_ScalesW : Cert.bitexact_ScalesW_ScalesWRef := by
  pair_intro
  · run_from Cert.ScalesW.Value.run_blocks (F := Bits) m g
  · run_from Cert.ScalesWRef.Value.run (F := Bits) m' g'
    exact (Cert.ScalesW.Hand.ref_eq (F := Bits) _).trans (Cert.ScalesW.Hand.final (F := Bits) m c).symm

theorem quiescent_ScalesWRef : Cert.quiescent_ScalesWRef := fun m ρ _ =>
  (θ_run Cert.ScalesWRef.defs _ _).mono (fun r h => ⟨fun c => (h c).2, sem_eq_zero_of_no_sems (by decide) r.2⟩)
    (Cert.ScalesWRef.Value.run (F := Bits) m ρ)

theorem algebraic_ScalesDy : Cert.algebraic_ScalesDyIdeal_ScalesDyRefIdeal := by
  pair_intro
  · run_from Cert.ScalesDyIdeal.Value.run_blocks (F := Ideal) m g
  · run_from Cert.ScalesDyRefIdeal.Value.run (F := Ideal) m' g'
    exact (Cert.ScalesDyIdeal.Hand.ref_eq (F := Ideal) _).trans (Cert.ScalesDyIdeal.Hand.final (F := Ideal) m c).symm

theorem quiescent_ScalesDyRefIdeal : Cert.quiescent_ScalesDyRefIdeal := fun m ρ _ =>
  (θ_run Cert.ScalesDyRefIdeal.defs _ _).mono (fun r h => ⟨fun c => (h c).2, sem_eq_zero_of_no_sems (by decide) r.2⟩)
    (Cert.ScalesDyRefIdeal.Value.run (F := Ideal) m ρ)

theorem bitexact_ScalesDy : Cert.bitexact_ScalesDy_ScalesDyRef := by
  pair_intro
  · run_from Cert.ScalesDy.Value.run_blocks (F := Bits) m g
  · run_from Cert.ScalesDyRef.Value.run (F := Bits) m' g'
    exact (Cert.ScalesDy.Hand.ref_eq (F := Bits) _).trans (Cert.ScalesDy.Hand.final (F := Bits) m c).symm

theorem quiescent_ScalesDyRef : Cert.quiescent_ScalesDyRef := fun m ρ _ =>
  (θ_run Cert.ScalesDyRef.defs _ _).mono (fun r h => ⟨fun c => (h c).2, sem_eq_zero_of_no_sems (by decide) r.2⟩)
    (Cert.ScalesDyRef.Value.run (F := Bits) m ρ)

theorem claim : Cert.Claim := ⟨Cert.Wgrad.Gen.facts, Cert.WgradIdeal.Gen.facts, Cert.WgradRefIdeal.Gen.facts,
  Cert.Dgrad.Gen.facts, Cert.DgradIdeal.Gen.facts, Cert.DgradRefIdeal.Gen.facts,
  Cert.ScalesW.Gen.facts, Cert.ScalesWIdeal.Gen.facts, Cert.ScalesWRefIdeal.Gen.facts, Cert.ScalesWRef.Gen.facts,
  Cert.ScalesDy.Gen.facts, Cert.ScalesDyIdeal.Gen.facts, Cert.ScalesDyRefIdeal.Gen.facts, Cert.ScalesDyRef.Gen.facts,
  fun m ρ _ => Cert.Wgrad.Hand.frame m ρ, fun m ρ _ => Cert.WgradIdeal.Hand.frame m ρ, quiescent_WgradRef,
  fun m ρ _ => Cert.Dgrad.Hand.frame m ρ, fun m ρ _ => Cert.DgradIdeal.Hand.frame m ρ, quiescent_DgradRef,
  fun m ρ _ => Cert.ScalesW.Gen.frame m ρ, fun m ρ _ => Cert.ScalesWIdeal.Gen.frame m ρ, quiescent_ScalesWRefIdeal,
  quiescent_ScalesWRef,
  fun m ρ _ => Cert.ScalesDy.Gen.frame m ρ, fun m ρ _ => Cert.ScalesDyIdeal.Gen.frame m ρ, quiescent_ScalesDyRefIdeal,
  quiescent_ScalesDyRef,
  (trivial : preserves_Wgrad_WgradIdeal), algebraic_Wgrad, preserves_Dgrad, algebraic_Dgrad,
  (trivial : preserves_ScalesW_ScalesWIdeal), algebraic_ScalesW, bitexact_ScalesW,
  (trivial : preserves_ScalesDy_ScalesDyIdeal), algebraic_ScalesDy, bitexact_ScalesDy⟩

end Cert.Proof

end
